-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "gain" .f32 0x429044FE#32 ((50 * (Real.log 2)⁻¹ : ℝ) : EReal)
  ∧ IdealRules.named_const.Statement Cert.KernelIdeal.κ "shift" .f32 0x3DE32166#32 (((4 / 25) * (Real.log 2) : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v161_0) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v161_1) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_v161_2) = v5 c
          ∧ r.2.mem ((c.tc : Thread Cert.ReferenceIdeal.nD Cert.ReferenceIdeal.τ).loc Cert.ReferenceIdeal.main_v96) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x2048 : Shape := ⟨3, ![8, 4096, 2048]⟩
abbrev S8x4096x512 : Shape := ⟨3, ![8, 4096, 512]⟩
abbrev S_ : Shape := ⟨0, ![]⟩

class Facts : Prop where
  bitsLt_bf16_f32 : FTy.bits .bf16 < FTy.bits .f32
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x4096x512 : S_.BroadcastsInDim S8x4096x512 (![] : Fin 0 → Fin S8x4096x512.rank)
  reducesTo_S8x4096x512_S_d0_1_2 : S8x4096x512.ReducesTo [0, 1, 2] S_

variable [Facts]

def fn {F : FTy → Type} [FloatOps F] (main_arg0 : FVec F S8x4096x2048 .bf16) (main_arg1 : FVec F S8x4096x512 .bf16) (main_arg2 : FVec F S8x4096x512 .bf16) : IVec S_ 1 :=
  let main_v0 : FVec F S8x4096x2048 .f32 := (extf .f32 · bitsLt_bf16_f32) main_arg0
  let main_v1 : FVec F S8x4096x2048 .f32 := Host.absf main_v0
  let main_cst : FVec F S_ .f32 := constant S_ .f32 0x7F7F0000#32
  let main_v2 : FVec F S8x4096x2048 .f32 := broadcastInDim S8x4096x2048 ![] bcast_S_S8x4096x2048 main_cst
  let main_v3 : IVec S8x4096x2048 1 := cmpf .ole main_v1 main_v2
  let main_c : IVec S_ 1 := constantI S_ 1 1#1
  let main_v4 : IVec S_ 1 := (fun x v => Host.reduce IntOp.andi x v reducesTo_S8x4096x2048_S_d0_1_2 h_S_) main_v3 main_c
  let main_v5 : FVec F S8x4096x512 .f32 := (extf .f32 · bitsLt_bf16_f32) main_arg1
  let main_v6 : FVec F S8x4096x512 .f32 := Host.absf main_v5
  let main_cst_0 : FVec F S_ .f32 := constant S_ .f32 0x7F7F0000#32
  let main_v7 : FVec F S8x4096x512 .f32 := broadcastInDim S8x4096x512 ![] bcast_S_S8x4096x512 main_cst_0
  let main_v8 : IVec S8x4096x512 1 := cmpf .ole main_v6 main_v7
  let main_c_1 : IVec S_ 1 := constantI S_ 1 1#1
  let main_v9 : IVec S_ 1 := (fun x v => Host.reduce IntOp.andi x v reducesTo_S8x4096x512_S_d0_1_2 h_S_) main_v8 main_c_1
  let main_v10 : IVec S_ 1 := andi main_v4 main_v9
  let main_v11 : FVec F S8x4096x512 .f32 := (extf .f32 · bitsLt_bf16_f32) main_arg2
  let main_v12 : FVec F S8x4096x512 .f32 := Host.absf main_v11
  let main_cst_2 : FVec F S_ .f32 := constant S_ .f32 0x7F7F0000#32
  let main_v13 : FVec F S8x4096x512 .f32 := broadcastInDim S8x4096x512 ![] bcast_S_S8x4096x512 main_cst_2
  let main_v14 : IVec S8x4096x512 1 := cmpf .ole main_v12 main_v13
  let main_c_3 : IVec S_ 1 := constantI S_ 1 1#1
  let main_v15 : IVec S_ 1 := (fun x v => Host.reduce IntOp.andi x v reducesTo_S8x4096x512_S_d0_1_2 h_S_) main_v14 main_c_3
  let main_v16 : IVec S_ 1 := andi main_v10 main_v15
  main_v16
-- ==== Kernel.lean ====
abbrev S8x4096x2048 : Shape := ⟨3, ![8, 4096, 2048]⟩
abbrev S8x4096x512 : Shape := ⟨3, ![8, 4096, 512]⟩
abbrev S8x32x32 : Shape := ⟨3, ![8, 32, 32]⟩
abbrev S8x32x8 : Shape := ⟨3, ![8, 32, 8]⟩
abbrev S1x128x2048 : Shape := ⟨3, ![1, 128, 2048]⟩
abbrev S1x128x512 : Shape := ⟨3, ![1, 128, 512]⟩
abbrev S1x32x32 : Shape := ⟨3, ![1, 32, 32]⟩
abbrev S1x32x8 : Shape := ⟨3, ![1, 32, 8]⟩
abbrev S8x64x512 : Shape := ⟨3, ![8, 64, 512]⟩
abbrev S32x8x128x64 : Shape := ⟨4, ![32, 8, 128, 64]⟩
abbrev S32x512x128 : Shape := ⟨3, ![32, 512, 128]⟩
abbrev S32x128 : Shape := ⟨2, ![32, 128]⟩
abbrev S32x8x128 : Shape := ⟨3, ![32, 8, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S256x128 : Shape := ⟨2, ![256, 128]⟩
abbrev S64x128 : Shape := ⟨2, ![64, 128]⟩
abbrev S1x64x128 : Shape := ⟨3, ![1, 64, 128]⟩
abbrev S1x32 : Shape := ⟨2, ![1, 32]⟩
abbrev S1x1x32 : Shape := ⟨3, ![1, 1, 32]⟩
abbrev S128x64 : Shape := ⟨2, ![128, 64]⟩
abbrev S1x1x128x64 : Shape := ⟨4, ![1, 1, 128, 64]⟩
abbrev S1x1x128 : Shape := ⟨3, ![1, 1, 128]⟩
abbrev S1x8 : Shape := ⟨2, ![1, 8]⟩
abbrev S1x1x8 : Shape := ⟨3, ![1, 1, 8]⟩
abbrev S1x64x512 : Shape := ⟨3, ![1, 64, 512]⟩
abbrev S64x512 : Shape := ⟨2, ![64, 512]⟩
abbrev S128x512 : Shape := ⟨2, ![128, 512]⟩
abbrev S1x8x128 : Shape := ⟨3, ![1, 8, 128]⟩
abbrev S8x128 : Shape := ⟨2, ![8, 128]⟩
abbrev S16x8x128 : Shape := ⟨3, ![16, 8, 128]⟩

abbrev nBuf : Space → Nat
  | .hbm => 10
  | .vmem => 29
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x512, .bf16⟩
  | .hbm, ⟨2, _⟩ => ⟨S8x4096x512, .bf16⟩
  | .hbm, ⟨3, _⟩ => ⟨S8x4096x2048, .bf16⟩
  | .hbm, ⟨4, _⟩ => ⟨S8x4096x2048, .fp8e4m3⟩
  | .hbm, ⟨5, _⟩ => ⟨S8x32x32, .f32⟩
  | .hbm, ⟨6, _⟩ => ⟨S8x4096x512, .fp8e4m3⟩
  | .hbm, ⟨7, _⟩ => ⟨S8x32x8, .f32⟩
  | .hbm, ⟨8, _⟩ => ⟨S8x4096x512, .fp8e4m3⟩
  | .hbm, ⟨9, _⟩ => ⟨S8x32x8, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .fp8e4m3⟩
  | .local _ .vmem, ⟨9, _⟩ => ⟨S1x128x2048, .fp8e4m3⟩
  | .local _ .vmem, ⟨10, _⟩ => ⟨S1x32x32, .f32⟩
  | .local _ .vmem, ⟨11, _⟩ => ⟨S1x32x32, .f32⟩
  | .local _ .vmem, ⟨12, _⟩ => ⟨S1x128x512, .fp8e4m3⟩
  | .local _ .vmem, ⟨13, _⟩ => ⟨S1x128x512, .fp8e4m3⟩
  | .local _ .vmem, ⟨14, _⟩ => ⟨S1x32x8, .f32⟩
  | .local _ .vmem, ⟨15, _⟩ => ⟨S1x32x8, .f32⟩
  | .local _ .vmem, ⟨16, _⟩ => ⟨S1x128x512, .fp8e4m3⟩
  | .local _ .vmem, ⟨17, _⟩ => ⟨S1x128x512, .fp8e4m3⟩
  | .local _ .vmem, ⟨18, _⟩ => ⟨S1x32x8, .f32⟩
  | .local _ .vmem, ⟨19, _⟩ => ⟨S1x32x8, .f32⟩
  | .local _ .vmem, ⟨20, _⟩ => ⟨S8x64x512, .fp8e4m3⟩
  | .local _ .vmem, ⟨21, _⟩ => ⟨S32x8x128x64, .fp8e4m3⟩
  | .local _ .vmem, ⟨22, _⟩ => ⟨S32x512x128, .fp8e4m3⟩
  | .local _ .vmem, ⟨23, _⟩ => ⟨S32x128, .f32⟩
  | .local _ .vmem, ⟨24, _⟩ => ⟨S32x8x128, .f32⟩
  | .local _ .vmem, ⟨25, _⟩ => ⟨S32x8x128, .f32⟩
  | .local _ .vmem, ⟨26, _⟩ => ⟨S32x128, .f32⟩
  | .local _ .vmem, ⟨27, _⟩ => ⟨S32x8x128, .f32⟩
  | .local _ .vmem, ⟨28, _⟩ => ⟨S8x64x512, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

def k0_off1 (i : grid0.Coords) : Fin 3 → Nat :=
  let c0_749 : Index := 0#32
  let arg1 : BitVec 32 := BitVec.ofNat 32 (i 1).val
  let v1987 : Index := Scalar.indexCast arg1
  let c0_750 : Index := 0#32
  ![0, v1987.toNat, 0]
def k0_off2 (i : grid0.Coords) : Fin 4 → Nat :=
  let arg1 : BitVec 32 := BitVec.ofNat 32 (i 1).val
  let v2091 : Index := Scalar.indexCast arg1
  let c0_789 : Index := 0#32
  let c0_790 : Index := 0#32
  let c0_791 : Index := 0#32
  ![v2091.toNat, 0, 0, 0]
def k0_off3 (i : grid0.Coords) : Fin 3 → Nat :=
  let arg1 : BitVec 32 := BitVec.ofNat 32 (i 1).val
  let v2095 : Index := Scalar.indexCast arg1
  let c0_792 : Index := 0#32
  let c0_793 : Index := 0#32
  ![v2095.toNat, 0, 0]
def k0_off4 (i : grid0.Coords) : Fin 4 → Nat :=
  let arg1 : BitVec 32 := BitVec.ofNat 32 (i 1).val
  let v2101 : Index := Scalar.indexCast arg1
  let c1_794 : Index := 1#32
  let c0_795 : Index := 0#32
  let c0_796 : Index := 0#32
  ![v2101.toNat, 1, 0, 0]
def k0_off5 (i : grid0.Coords) : Fin 3 → Nat :=
  let arg1 : BitVec 32 := BitVec.ofNat 32 (i 1).val
  let v2105 : Index := Scalar.indexCast arg1
  let c1_797 : Index := 1#32
  let c0_798 : Index := 0#32
  ![v2105.toNat, 1, 0]
def k0_off6 (i : grid0.Coords) : Fin 3 → Nat :=
  let arg1 : BitVec 32 := BitVec.ofNat 32 (i 1).val
  let v2209 : Index := Scalar.indexCast arg1
  let c0_837 : Index := 0#32
  let c0_838 : Index := 0#32
  ![v2209.toNat, 0, 0]
def k0_off7 (i : grid0.Coords) : Fin 4 → Nat :=
  let arg1 : BitVec 32 := BitVec.ofNat 32 (i 1).val
  let v2325 : Index := Scalar.indexCast arg1
  let c2_883 : Index := 2#32
  let c0_884 : Index := 0#32
  let c0_885 : Index := 0#32
  ![v2325.toNat, 2, 0, 0]
def k0_off8 (i : grid0.Coords) : Fin 3 → Nat :=
  let arg1 : BitVec 32 := BitVec.ofNat 32 (i 1).val
  let v2329 : Index := Scalar.indexCast arg1
  let c2_886 : Index := 2#32
  let c0_887 : Index := 0#32
  ![v2329.toNat, 2, 0]
def k0_off9 (i : grid0.Coords) : Fin 4 → Nat :=
  let arg1 : BitVec 32 := BitVec.ofNat 32 (i 1).val
  let v2335 : Index := Scalar.indexCast arg1
  let c3_888 : Index := 3#32
  let c0_889 : Index := 0#32
  let c0_890 : Index := 0#32
  ![v2335.toNat, 3, 0, 0]
def k0_off10 (i : grid0.Coords) : Fin 3 → Nat :=
  let arg1 : BitVec 32 := BitVec.ofNat 32 (i 1).val
  let v2339 : Index := Scalar.indexCast arg1
  let c3_891 : Index := 3#32
  let c0_892 : Index := 0#32
  ![v2339.toNat, 3, 0]
def k0_off11 (i : grid0.Coords) : Fin 3 → Nat :=
  let arg1 : BitVec 32 := BitVec.ofNat 32 (i 1).val
  let v2443 : Index := Scalar.indexCast arg1
  let c128_931 : Index := 128#32
  let c0_932 : Index := 0#32
  ![v2443.toNat, 128, 0]
def k0_off12 (i : grid0.Coords) : Fin 4 → Nat :=
  let arg1 : BitVec 32 := BitVec.ofNat 32 (i 1).val
  let v2559 : Index := Scalar.indexCast arg1
  let c4_977 : Index := 4#32
  let c0_978 : Index := 0#32
  let c0_979 : Index := 0#32
  ![v2559.toNat, 4, 0, 0]
def k0_off13 (i : grid0.Coords) : Fin 3 → Nat :=
  let arg1 : BitVec 32 := BitVec.ofNat 32 (i 1).val
  let v2563 : Index := Scalar.indexCast arg1
  let c4_980 : Index := 4#32
  let c0_981 : Index := 0#32
  ![v2563.toNat, 4, 0]
def k0_off14 (i : grid0.Coords) : Fin 4 → Nat :=
  let arg1 : BitVec 32 := BitVec.ofNat 32 (i 1).val
  let v2569 : Index := Scalar.indexCast arg1
  let c5_982 : Index := 5#32
  let c0_983 : Index := 0#32
  let c0_984 : Index := 0#32
  ![v2569.toNat, 5, 0, 0]
def k0_off15 (i : grid0.Coords) : Fin 3 → Nat :=
  let arg1 : BitVec 32 := BitVec.ofNat 32 (i 1).val
  let v2573 : Index := Scalar.indexCast arg1
  let c5_985 : Index := 5#32
  let c0_986 : Index := 0#32
  ![v2573.toNat, 5, 0]
def k0_off16 (i : grid0.Coords) : Fin 3 → Nat :=
  let arg1 : BitVec 32 := BitVec.ofNat 32 (i 1).val
  let v2677 : Index := Scalar.indexCast arg1
  let c256_1025 : Index := 256#32
  let c0_1026 : Index := 0#32
  ![v2677.toNat, 256, 0]
def k0_off17 (i : grid0.Coords) : Fin 4 → Nat :=
  let arg1 : BitVec 32 := BitVec.ofNat 32 (i 1).val
  let v2793 : Index := Scalar.indexCast arg1
  let c6_1071 : Index := 6#32
  let c0_1072 : Index := 0#32
  let c0_1073 : Index := 0#32
  ![v2793.toNat, 6, 0, 0]
def k0_off18 (i : grid0.Coords) : Fin 3 → Nat :=
  let arg1 : BitVec 32 := BitVec.ofNat 32 (i 1).val
  let v2797 : Index := Scalar.indexCast arg1
  let c6_1074 : Index := 6#32
  let c0_1075 : Index := 0#32
  ![v2797.toNat, 6, 0]
def k0_off19 (i : grid0.Coords) : Fin 4 → Nat :=
  let arg1 : BitVec 32 := BitVec.ofNat 32 (i 1).val
  let v2803 : Index := Scalar.indexCast arg1
  let c7_1076 : Index := 7#32
  let c0_1077 : Index := 0#32
  let c0_1078 : Index := 0#32
  ![v2803.toNat, 7, 0, 0]
def k0_off20 (i : grid0.Coords) : Fin 3 → Nat :=
  let arg1 : BitVec 32 := BitVec.ofNat 32 (i 1).val
  let v2807 : Index := Scalar.indexCast arg1
  let c7_1079 : Index := 7#32
  let c0_1080 : Index := 0#32
  ![v2807.toNat, 7, 0]
def k0_off21 (i : grid0.Coords) : Fin 3 → Nat :=
  let arg1 : BitVec 32 := BitVec.ofNat 32 (i 1).val
  let v2911 : Index := Scalar.indexCast arg1
  let c384_1119 : Index := 384#32
  let c0_1120 : Index := 0#32
  ![v2911.toNat, 384, 0]
def k0_off22 (i : grid0.Coords) : Fin 3 → Nat :=
  let c0_1136 : Index := 0#32
  let arg1 : BitVec 32 := BitVec.ofNat 32 (i 1).val
  let v2954 : Index := Scalar.indexCast arg1
  let c0_1137 : Index := 0#32
  ![0, v2954.toNat, 0]
@[reducible] def k0_t1_loop (i : grid0.Coords) : Scf.Loop 32 :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1163 : BitVec 32 := 1#32
  ⟨c0_i32_1161, v3008, c1_i32_1163⟩
def k0_off23 (i : grid0.Coords) (k0_t1 : Fin (k0_t1_loop i).trips) : Fin 4 → Nat :=
  let c0_i32_1161 : BitVec 32 := 0#32
  let c1_i32_1163 : BitVec 32 := 1#32
  let arg21 : BitVec 32 := Scf.iv c0_i32_1161 c1_i32_1163 k0_t1
  let v5289 : Index := Scalar.indexCast arg21
  let c0_2441 : Index := 0#32
  let c0_2442 : Index := 0#32
  let c0_2443 : Index := 0#32
  ![v5289.toNat, 0, 0, 0]
def k0_off24 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v5295 : Index := Scalar.indexCast arg21
  let c0_2448 : Index := 0#32
  let c0_2449 : Index := 0#32
  ![v5295.toNat, 0, 0]
def k0_off25 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v5462 : Index := Scalar.indexCast arg21
  let c0_2530 : Index := 0#32
  let c0_2531 : Index := 0#32
  ![v5462.toNat, 0, 0]
def k0_off26 (i : grid0.Coords) (k0_t1 : Fin (k0_t1_loop i).trips) : Fin 4 → Nat :=
  let c0_i32_1161 : BitVec 32 := 0#32
  let c1_i32_1163 : BitVec 32 := 1#32
  let arg21 : BitVec 32 := Scf.iv c0_i32_1161 c1_i32_1163 k0_t1
  let v5514 : Index := Scalar.indexCast arg21
  let c1_2559 : Index := 1#32
  let c0_2560 : Index := 0#32
  let c0_2561 : Index := 0#32
  ![v5514.toNat, 1, 0, 0]
def k0_off27 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v5520 : Index := Scalar.indexCast arg21
  let c1_2566 : Index := 1#32
  let c0_2567 : Index := 0#32
  ![v5520.toNat, 1, 0]
def k0_off28 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v5687 : Index := Scalar.indexCast arg21
  let c64_2648 : Index := 64#32
  let c0_2649 : Index := 0#32
  ![v5687.toNat, 64, 0]
def k0_off29 (i : grid0.Coords) (k0_t1 : Fin (k0_t1_loop i).trips) : Fin 4 → Nat :=
  let c0_i32_1161 : BitVec 32 := 0#32
  let c1_i32_1163 : BitVec 32 := 1#32
  let arg21 : BitVec 32 := Scf.iv c0_i32_1161 c1_i32_1163 k0_t1
  let v5739 : Index := Scalar.indexCast arg21
  let c2_2677 : Index := 2#32
  let c0_2678 : Index := 0#32
  let c0_2679 : Index := 0#32
  ![v5739.toNat, 2, 0, 0]
def k0_off30 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v5745 : Index := Scalar.indexCast arg21
  let c2_2684 : Index := 2#32
  let c0_2685 : Index := 0#32
  ![v5745.toNat, 2, 0]
def k0_off31 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v5912 : Index := Scalar.indexCast arg21
  let c128_2766 : Index := 128#32
  let c0_2767 : Index := 0#32
  ![v5912.toNat, 128, 0]
def k0_off32 (i : grid0.Coords) (k0_t1 : Fin (k0_t1_loop i).trips) : Fin 4 → Nat :=
  let c0_i32_1161 : BitVec 32 := 0#32
  let c1_i32_1163 : BitVec 32 := 1#32
  let arg21 : BitVec 32 := Scf.iv c0_i32_1161 c1_i32_1163 k0_t1
  let v5964 : Index := Scalar.indexCast arg21
  let c3_2795 : Index := 3#32
  let c0_2796 : Index := 0#32
  let c0_2797 : Index := 0#32
  ![v5964.toNat, 3, 0, 0]
def k0_off33 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v5970 : Index := Scalar.indexCast arg21
  let c3_2802 : Index := 3#32
  let c0_2803 : Index := 0#32
  ![v5970.toNat, 3, 0]
def k0_off34 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v6137 : Index := Scalar.indexCast arg21
  let c192_2884 : Index := 192#32
  let c0_2885 : Index := 0#32
  ![v6137.toNat, 192, 0]
def k0_off35 (i : grid0.Coords) (k0_t1 : Fin (k0_t1_loop i).trips) : Fin 4 → Nat :=
  let c0_i32_1161 : BitVec 32 := 0#32
  let c1_i32_1163 : BitVec 32 := 1#32
  let arg21 : BitVec 32 := Scf.iv c0_i32_1161 c1_i32_1163 k0_t1
  let v6189 : Index := Scalar.indexCast arg21
  let c4_2913 : Index := 4#32
  let c0_2914 : Index := 0#32
  let c0_2915 : Index := 0#32
  ![v6189.toNat, 4, 0, 0]
def k0_off36 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v6195 : Index := Scalar.indexCast arg21
  let c4_2920 : Index := 4#32
  let c0_2921 : Index := 0#32
  ![v6195.toNat, 4, 0]
def k0_off37 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v6362 : Index := Scalar.indexCast arg21
  let c256_3002 : Index := 256#32
  let c0_3003 : Index := 0#32
  ![v6362.toNat, 256, 0]
def k0_off38 (i : grid0.Coords) (k0_t1 : Fin (k0_t1_loop i).trips) : Fin 4 → Nat :=
  let c0_i32_1161 : BitVec 32 := 0#32
  let c1_i32_1163 : BitVec 32 := 1#32
  let arg21 : BitVec 32 := Scf.iv c0_i32_1161 c1_i32_1163 k0_t1
  let v6414 : Index := Scalar.indexCast arg21
  let c5_3031 : Index := 5#32
  let c0_3032 : Index := 0#32
  let c0_3033 : Index := 0#32
  ![v6414.toNat, 5, 0, 0]
def k0_off39 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v6420 : Index := Scalar.indexCast arg21
  let c5_3038 : Index := 5#32
  let c0_3039 : Index := 0#32
  ![v6420.toNat, 5, 0]
def k0_off40 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v6587 : Index := Scalar.indexCast arg21
  let c320_3120 : Index := 320#32
  let c0_3121 : Index := 0#32
  ![v6587.toNat, 320, 0]
def k0_off41 (i : grid0.Coords) (k0_t1 : Fin (k0_t1_loop i).trips) : Fin 4 → Nat :=
  let c0_i32_1161 : BitVec 32 := 0#32
  let c1_i32_1163 : BitVec 32 := 1#32
  let arg21 : BitVec 32 := Scf.iv c0_i32_1161 c1_i32_1163 k0_t1
  let v6639 : Index := Scalar.indexCast arg21
  let c6_3149 : Index := 6#32
  let c0_3150 : Index := 0#32
  let c0_3151 : Index := 0#32
  ![v6639.toNat, 6, 0, 0]
def k0_off42 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v6645 : Index := Scalar.indexCast arg21
  let c6_3156 : Index := 6#32
  let c0_3157 : Index := 0#32
  ![v6645.toNat, 6, 0]
def k0_off43 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v6812 : Index := Scalar.indexCast arg21
  let c384_3238 : Index := 384#32
  let c0_3239 : Index := 0#32
  ![v6812.toNat, 384, 0]
def k0_off44 (i : grid0.Coords) (k0_t1 : Fin (k0_t1_loop i).trips) : Fin 4 → Nat :=
  let c0_i32_1161 : BitVec 32 := 0#32
  let c1_i32_1163 : BitVec 32 := 1#32
  let arg21 : BitVec 32 := Scf.iv c0_i32_1161 c1_i32_1163 k0_t1
  let v6864 : Index := Scalar.indexCast arg21
  let c7_3267 : Index := 7#32
  let c0_3268 : Index := 0#32
  let c0_3269 : Index := 0#32
  ![v6864.toNat, 7, 0, 0]
def k0_off45 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v6870 : Index := Scalar.indexCast arg21
  let c7_3274 : Index := 7#32
  let c0_3275 : Index := 0#32
  ![v6870.toNat, 7, 0]
def k0_off46 (i : grid0.Coords) (k0_t1 : Fin (k0_t1_loop i).trips) : Fin 3 → Nat :=
  let c0_i32_1161 : BitVec 32 := 0#32
  let c1_i32_1163 : BitVec 32 := 1#32
  let arg21 : BitVec 32 := Scf.iv c0_i32_1161 c1_i32_1163 k0_t1
  let v7037 : Index := Scalar.indexCast arg21
  let c448_3356 : Index := 448#32
  let c0_3357 : Index := 0#32
  ![v7037.toNat, 448, 0]
@[reducible] def k0_t2_loop (i : grid0.Coords) : Scf.Loop 32 :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let v3005 : BitVec 32 := Scalar.addi c0_i32_1161 v3004
  let c1_i32_1164 : BitVec 32 := 1#32
  ⟨v3008, v3005, c1_i32_1164⟩
def k0_off47 (i : grid0.Coords) (k0_t2 : Fin (k0_t2_loop i).trips) : Fin 4 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5289 : Index := Scalar.indexCast arg21
  let c0_2441 : Index := 0#32
  let c0_2442 : Index := 0#32
  let c0_2443 : Index := 0#32
  ![v5289.toNat, 0, 0, 0]
def k0_off48 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5295 : Index := Scalar.indexCast arg21
  let c0_2448 : Index := 0#32
  let c0_2449 : Index := 0#32
  ![v5295.toNat, 0, 0]
def k0_off49 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5462 : Index := Scalar.indexCast arg21
  let c0_2530 : Index := 0#32
  let c0_2531 : Index := 0#32
  ![v5462.toNat, 0, 0]
def k0_off50 (i : grid0.Coords) (k0_t2 : Fin (k0_t2_loop i).trips) : Fin 4 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5514 : Index := Scalar.indexCast arg21
  let c1_2559 : Index := 1#32
  let c0_2560 : Index := 0#32
  let c0_2561 : Index := 0#32
  ![v5514.toNat, 1, 0, 0]
def k0_off51 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5520 : Index := Scalar.indexCast arg21
  let c1_2566 : Index := 1#32
  let c0_2567 : Index := 0#32
  ![v5520.toNat, 1, 0]
def k0_off52 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5687 : Index := Scalar.indexCast arg21
  let c64_2648 : Index := 64#32
  let c0_2649 : Index := 0#32
  ![v5687.toNat, 64, 0]
def k0_off53 (i : grid0.Coords) (k0_t2 : Fin (k0_t2_loop i).trips) : Fin 4 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5739 : Index := Scalar.indexCast arg21
  let c2_2677 : Index := 2#32
  let c0_2678 : Index := 0#32
  let c0_2679 : Index := 0#32
  ![v5739.toNat, 2, 0, 0]
def k0_off54 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5745 : Index := Scalar.indexCast arg21
  let c2_2684 : Index := 2#32
  let c0_2685 : Index := 0#32
  ![v5745.toNat, 2, 0]
def k0_off55 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5912 : Index := Scalar.indexCast arg21
  let c128_2766 : Index := 128#32
  let c0_2767 : Index := 0#32
  ![v5912.toNat, 128, 0]
def k0_off56 (i : grid0.Coords) (k0_t2 : Fin (k0_t2_loop i).trips) : Fin 4 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5964 : Index := Scalar.indexCast arg21
  let c3_2795 : Index := 3#32
  let c0_2796 : Index := 0#32
  let c0_2797 : Index := 0#32
  ![v5964.toNat, 3, 0, 0]
def k0_off57 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v5970 : Index := Scalar.indexCast arg21
  let c3_2802 : Index := 3#32
  let c0_2803 : Index := 0#32
  ![v5970.toNat, 3, 0]
def k0_off58 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6137 : Index := Scalar.indexCast arg21
  let c192_2884 : Index := 192#32
  let c0_2885 : Index := 0#32
  ![v6137.toNat, 192, 0]
def k0_off59 (i : grid0.Coords) (k0_t2 : Fin (k0_t2_loop i).trips) : Fin 4 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6189 : Index := Scalar.indexCast arg21
  let c4_2913 : Index := 4#32
  let c0_2914 : Index := 0#32
  let c0_2915 : Index := 0#32
  ![v6189.toNat, 4, 0, 0]
def k0_off60 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6195 : Index := Scalar.indexCast arg21
  let c4_2920 : Index := 4#32
  let c0_2921 : Index := 0#32
  ![v6195.toNat, 4, 0]
def k0_off61 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6362 : Index := Scalar.indexCast arg21
  let c256_3002 : Index := 256#32
  let c0_3003 : Index := 0#32
  ![v6362.toNat, 256, 0]
def k0_off62 (i : grid0.Coords) (k0_t2 : Fin (k0_t2_loop i).trips) : Fin 4 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6414 : Index := Scalar.indexCast arg21
  let c5_3031 : Index := 5#32
  let c0_3032 : Index := 0#32
  let c0_3033 : Index := 0#32
  ![v6414.toNat, 5, 0, 0]
def k0_off63 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6420 : Index := Scalar.indexCast arg21
  let c5_3038 : Index := 5#32
  let c0_3039 : Index := 0#32
  ![v6420.toNat, 5, 0]
def k0_off64 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6587 : Index := Scalar.indexCast arg21
  let c320_3120 : Index := 320#32
  let c0_3121 : Index := 0#32
  ![v6587.toNat, 320, 0]
def k0_off65 (i : grid0.Coords) (k0_t2 : Fin (k0_t2_loop i).trips) : Fin 4 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6639 : Index := Scalar.indexCast arg21
  let c6_3149 : Index := 6#32
  let c0_3150 : Index := 0#32
  let c0_3151 : Index := 0#32
  ![v6639.toNat, 6, 0, 0]
def k0_off66 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6645 : Index := Scalar.indexCast arg21
  let c6_3156 : Index := 6#32
  let c0_3157 : Index := 0#32
  ![v6645.toNat, 6, 0]
def k0_off67 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6812 : Index := Scalar.indexCast arg21
  let c384_3238 : Index := 384#32
  let c0_3239 : Index := 0#32
  ![v6812.toNat, 384, 0]
def k0_off68 (i : grid0.Coords) (k0_t2 : Fin (k0_t2_loop i).trips) : Fin 4 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6864 : Index := Scalar.indexCast arg21
  let c7_3267 : Index := 7#32
  let c0_3268 : Index := 0#32
  let c0_3269 : Index := 0#32
  ![v6864.toNat, 7, 0, 0]
def k0_off69 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v6870 : Index := Scalar.indexCast arg21
  let c7_3274 : Index := 7#32
  let c0_3275 : Index := 0#32
  ![v6870.toNat, 7, 0]
def k0_off70 (i : grid0.Coords) (k0_t2 : Fin (k0_t2_loop i).trips) : Fin 3 → Nat :=
  let c0_i32_1161 : BitVec 32 := 0#32
  let arg1 : BitVec 32 := BitVec.ofNat 32 (i 1).val
  let v3004 : BitVec 32 := Scalar.subi arg1 c0_i32_1161
  let c1_i32_1162 : BitVec 32 := 1#32
  let v3006 : BitVec 32 := Scalar.divsi v3004 c1_i32_1162
  let v3007 : BitVec 32 := Scalar.muli v3006 c1_i32_1162
  let v3008 : BitVec 32 := Scalar.addi c0_i32_1161 v3007
  let c1_i32_1164 : BitVec 32 := 1#32
  let arg21 : BitVec 32 := Scf.iv v3008 c1_i32_1164 k0_t2
  let v7037 : Index := Scalar.indexCast arg21
  let c448_3356 : Index := 448#32
  let c0_3357 : Index := 0#32
  ![v7037.toNat, 448, 0]
def k0_off71 (i : grid0.Coords) : Fin 3 → Nat :=
  let arg1 : BitVec 32 := BitVec.ofNat 32 (i 1).val
  let v3190 : Index := Scalar.indexCast arg1
  let c0_1258 : Index := 0#32
  let c0_1259 : Index := 0#32
  ![v3190.toNat, 0, 0]
def k0_off72 (i : grid0.Coords) : Fin 3 → Nat :=
  let arg1 : BitVec 32 := BitVec.ofNat 32 (i 1).val
  let v3423 : Index := Scalar.indexCast arg1
  let c64 : Index := 64#32
  let c0_1380 : Index := 0#32
  ![v3423.toNat, 64, 0]
def k0_off73 (i : grid0.Coords) : Fin 3 → Nat :=
  let arg1 : BitVec 32 := BitVec.ofNat 32 (i 1).val
  let v3656 : Index := Scalar.indexCast arg1
  let c128_1501 : Index := 128#32
  let c0_1502 : Index := 0#32
  ![v3656.toNat, 128, 0]
def k0_off74 (i : grid0.Coords) : Fin 3 → Nat :=
  let arg1 : BitVec 32 := BitVec.ofNat 32 (i 1).val
  let v3889 : Index := Scalar.indexCast arg1
  let c192 : Index := 192#32
  let c0_1623 : Index := 0#32
  ![v3889.toNat, 192, 0]
def k0_off75 (i : grid0.Coords) : Fin 3 → Nat :=
  let arg1 : BitVec 32 := BitVec.ofNat 32 (i 1).val
  let v4122 : Index := Scalar.indexCast arg1
  let c256_1744 : Index := 256#32
  let c0_1745 : Index := 0#32
  ![v4122.toNat, 256, 0]
def k0_off76 (i : grid0.Coords) : Fin 3 → Nat :=
  let arg1 : BitVec 32 := BitVec.ofNat 32 (i 1).val
  let v4355 : Index := Scalar.indexCast arg1
  let c320 : Index := 320#32
  let c0_1866 : Index := 0#32
  ![v4355.toNat, 320, 0]
def k0_off77 (i : grid0.Coords) : Fin 3 → Nat :=
  let arg1 : BitVec 32 := BitVec.ofNat 32 (i 1).val
  let v4588 : Index := Scalar.indexCast arg1
  let c384_1987 : Index := 384#32
  let c0_1988 : Index := 0#32
  ![v4588.toNat, 384, 0]
def k0_off78 (i : grid0.Coords) : Fin 3 → Nat :=
  let arg1 : BitVec 32 := BitVec.ofNat 32 (i 1).val
  let v4821 : Index := Scalar.indexCast arg1
  let c448 : Index := 448#32
  let c0_2109 : Index := 0#32
  ![v4821.toNat, 448, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "gain" => some ((50 * (Real.log 2)⁻¹ : ℝ) : EReal)
  | "mask" => some ⊥
  | "shift" => some (((4 / 25) * (Real.log 2) : ℝ) : EReal)
  | _ => none
-- ==== ReferenceIdeal.lean ====
abbrev S8x4096x2048 : Shape := ⟨3, ![8, 4096, 2048]⟩
abbrev S8x4096x512 : Shape := ⟨3, ![8, 4096, 512]⟩
abbrev S8x32x128x32x64 : Shape := ⟨5, ![8, 32, 128, 32, 64]⟩
abbrev S_ : Shape := ⟨0, ![]⟩
abbrev S8x32x32 : Shape := ⟨3, ![8, 32, 32]⟩
abbrev S254 : Shape := ⟨1, ![254]⟩
abbrev S8x32x32x1 : Shape := ⟨4, ![8, 32, 32, 1]⟩
abbrev S1x1x1x254 : Shape := ⟨4, ![1, 1, 1, 254]⟩
abbrev S8x32x32x254 : Shape := ⟨4, ![8, 32, 32, 254]⟩
abbrev S8x32x1x32x1 : Shape := ⟨5, ![8, 32, 1, 32, 1]⟩
abbrev S8x4096x32x64 : Shape := ⟨4, ![8, 4096, 32, 64]⟩
abbrev S8x32x128x8x64 : Shape := ⟨5, ![8, 32, 128, 8, 64]⟩
abbrev S8x32x8 : Shape := ⟨3, ![8, 32, 8]⟩
abbrev S8x32x8x1 : Shape := ⟨4, ![8, 32, 8, 1]⟩
abbrev S8x32x8x254 : Shape := ⟨4, ![8, 32, 8, 254]⟩
abbrev S8x32x1x8x1 : Shape := ⟨5, ![8, 32, 1, 8, 1]⟩
abbrev S8x4096x8x64 : Shape := ⟨4, ![8, 4096, 8, 64]⟩
abbrev S8x4096x8x4x64 : Shape := ⟨5, ![8, 4096, 8, 4, 64]⟩
abbrev S8x32x128x32 : Shape := ⟨4, ![8, 32, 128, 32]⟩
abbrev S8x4096x32 : Shape := ⟨3, ![8, 4096, 32]⟩
abbrev S8x4096x8x4 : Shape := ⟨4, ![8, 4096, 8, 4]⟩
abbrev S8x8x4x4096 : Shape := ⟨4, ![8, 8, 4, 4096]⟩
abbrev S8x32x128x8 : Shape := ⟨4, ![8, 32, 128, 8]⟩
abbrev S8x4096x8 : Shape := ⟨3, ![8, 4096, 8]⟩
abbrev S8x8x4096 : Shape := ⟨3, ![8, 8, 4096]⟩
abbrev S8x8x4096x4096x4 : Shape := ⟨5, ![8, 8, 4096, 4096, 4]⟩
abbrev S8x8x4x4096x4096 : Shape := ⟨5, ![8, 8, 4, 4096, 4096]⟩
abbrev S8x8x4x4096x1 : Shape := ⟨5, ![8, 8, 4, 4096, 1]⟩
abbrev S8x8x1x1x4096 : Shape := ⟨5, ![8, 8, 1, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x8x1 : Shape := ⟨4, ![8, 4096, 8, 1]⟩
abbrev S8x8x4x4096x64 : Shape := ⟨5, ![8, 8, 4, 4096, 64]⟩

abbrev nBuf : Space → Nat
  | .hbm => 242
  | .vmem => 6
  | .smem => 0
  | _ => 0

abbrev hbmTy0_0 (i : Nat) : BufTy := match i % 128 with
  | 0 => ⟨S8x4096x2048, .bf16⟩
  | 1 => ⟨S8x4096x512, .bf16⟩
  | 2 => ⟨S8x4096x512, .bf16⟩
  | 3 => ⟨S8x4096x2048, .f32⟩
  | 4 => ⟨S8x32x128x32x64, .f32⟩
  | 5 => ⟨S8x32x128x32x64, .f32⟩
  | 6 => ⟨S_, .f32⟩
  | 7 => ⟨S8x32x32, .f32⟩
  | 8 => ⟨S254, .i32⟩
  | 9 => ⟨S_, .i32⟩
  | 10 => ⟨S254, .i32⟩
  | 11 => ⟨S254, .i32⟩
  | 12 => ⟨S254, .f32⟩
  | 13 => ⟨S_, .f32⟩
  | 14 => ⟨S254, .f32⟩
  | 15 => ⟨S254, .f32⟩
  | 16 => ⟨S_, .f32⟩
  | 17 => ⟨S8x32x32, .f32⟩
  | 18 => ⟨S8x32x32, .f32⟩
  | 19 => ⟨S8x32x32x1, .f32⟩
  | 20 => ⟨S1x1x1x254, .f32⟩
  | 21 => ⟨S8x32x32x254, .f32⟩
  | 22 => ⟨S8x32x32x254, .f32⟩
  | 23 => ⟨S8x32x32x254, .i1⟩
  | 24 => ⟨S8x32x32x254, .i32⟩
  | 25 => ⟨S_, .i32⟩
  | 26 => ⟨S8x32x32, .i32⟩
  | 27 => ⟨S_, .i32⟩
  | 28 => ⟨S8x32x32, .i32⟩
  | 29 => ⟨S8x32x32, .i1⟩
  | 30 => ⟨S_, .i32⟩
  | 31 => ⟨S8x32x32, .i32⟩
  | 32 => ⟨S8x32x32, .i32⟩
  | 33 => ⟨S_, .i32⟩
  | 34 => ⟨S_, .i32⟩
  | 35 => ⟨S8x32x32, .i32⟩
  | 36 => ⟨S8x32x32, .i32⟩
  | 37 => ⟨S8x32x32, .f32⟩
  | 38 => ⟨S_, .f32⟩
  | 39 => ⟨S8x32x32, .f32⟩
  | 40 => ⟨S8x32x32, .f32⟩
  | 41 => ⟨S8x32x32, .f32⟩
  | 42 => ⟨S_, .f32⟩
  | 43 => ⟨S8x32x32, .f32⟩
  | 44 => ⟨S8x32x32, .f32⟩
  | 45 => ⟨S8x32x1x32x1, .f32⟩
  | 46 => ⟨S8x32x128x32x64, .f32⟩
  | 47 => ⟨S8x32x128x32x64, .f32⟩
  | 48 => ⟨S_, .f32⟩
  | 49 => ⟨S_, .f32⟩
  | 50 => ⟨S_, .f32⟩
  | 51 => ⟨S8x32x128x32x64, .f32⟩
  | 52 => ⟨S8x32x128x32x64, .f32⟩
  | 53 => ⟨S_, .f32⟩
  | 54 => ⟨S8x32x128x32x64, .f32⟩
  | 55 => ⟨S8x32x128x32x64, .f32⟩
  | 56 => ⟨S8x4096x32x64, .f32⟩
  | 57 => ⟨S8x4096x512, .f32⟩
  | 58 => ⟨S8x32x128x8x64, .f32⟩
  | 59 => ⟨S8x32x128x8x64, .f32⟩
  | 60 => ⟨S_, .f32⟩
  | 61 => ⟨S8x32x8, .f32⟩
  | 62 => ⟨S254, .i32⟩
  | 63 => ⟨S_, .i32⟩
  | 64 => ⟨S254, .i32⟩
  | 65 => ⟨S254, .i32⟩
  | 66 => ⟨S254, .f32⟩
  | 67 => ⟨S_, .f32⟩
  | 68 => ⟨S254, .f32⟩
  | 69 => ⟨S254, .f32⟩
  | 70 => ⟨S_, .f32⟩
  | 71 => ⟨S8x32x8, .f32⟩
  | 72 => ⟨S8x32x8, .f32⟩
  | 73 => ⟨S8x32x8x1, .f32⟩
  | 74 => ⟨S1x1x1x254, .f32⟩
  | 75 => ⟨S8x32x8x254, .f32⟩
  | 76 => ⟨S8x32x8x254, .f32⟩
  | 77 => ⟨S8x32x8x254, .i1⟩
  | 78 => ⟨S8x32x8x254, .i32⟩
  | 79 => ⟨S_, .i32⟩
  | 80 => ⟨S8x32x8, .i32⟩
  | 81 => ⟨S_, .i32⟩
  | 82 => ⟨S8x32x8, .i32⟩
  | 83 => ⟨S8x32x8, .i1⟩
  | 84 => ⟨S_, .i32⟩
  | 85 => ⟨S8x32x8, .i32⟩
  | 86 => ⟨S8x32x8, .i32⟩
  | 87 => ⟨S_, .i32⟩
  | 88 => ⟨S_, .i32⟩
  | 89 => ⟨S8x32x8, .i32⟩
  | 90 => ⟨S8x32x8, .i32⟩
  | 91 => ⟨S8x32x8, .f32⟩
  | 92 => ⟨S_, .f32⟩
  | 93 => ⟨S8x32x8, .f32⟩
  | 94 => ⟨S8x32x8, .f32⟩
  | 95 => ⟨S8x32x8, .f32⟩
  | 96 => ⟨S_, .f32⟩
  | 97 => ⟨S8x32x8, .f32⟩
  | 98 => ⟨S8x32x8, .f32⟩
  | 99 => ⟨S8x32x1x8x1, .f32⟩
  | 100 => ⟨S8x32x128x8x64, .f32⟩
  | 101 => ⟨S8x32x128x8x64, .f32⟩
  | 102 => ⟨S_, .f32⟩
  | 103 => ⟨S_, .f32⟩
  | 104 => ⟨S_, .f32⟩
  | 105 => ⟨S8x32x128x8x64, .f32⟩
  | 106 => ⟨S8x32x128x8x64, .f32⟩
  | 107 => ⟨S_, .f32⟩
  | 108 => ⟨S8x32x128x8x64, .f32⟩
  | 109 => ⟨S8x32x128x8x64, .f32⟩
  | 110 => ⟨S8x4096x8x64, .f32⟩
  | 111 => ⟨S8x4096x512, .f32⟩
  | 112 => ⟨S8x32x128x8x64, .f32⟩
  | 113 => ⟨S8x32x128x8x64, .f32⟩
  | 114 => ⟨S_, .f32⟩
  | 115 => ⟨S8x32x8, .f32⟩
  | 116 => ⟨S254, .i32⟩
  | 117 => ⟨S_, .i32⟩
  | 118 => ⟨S254, .i32⟩
  | 119 => ⟨S254, .i32⟩
  | 120 => ⟨S254, .f32⟩
  | 121 => ⟨S_, .f32⟩
  | 122 => ⟨S254, .f32⟩
  | 123 => ⟨S254, .f32⟩
  | 124 => ⟨S_, .f32⟩
  | 125 => ⟨S8x32x8, .f32⟩
  | 126 => ⟨S8x32x8, .f32⟩
  | 127 => ⟨S8x32x8x1, .f32⟩
  | _ => ⟨S8x4096x2048, .bf16⟩

abbrev hbmTy0_1 (i : Nat) : BufTy := match i % 128 with
  | 0 => ⟨S1x1x1x254, .f32⟩
  | 1 => ⟨S8x32x8x254, .f32⟩
  | 2 => ⟨S8x32x8x254, .f32⟩
  | 3 => ⟨S8x32x8x254, .i1⟩
  | 4 => ⟨S8x32x8x254, .i32⟩
  | 5 => ⟨S_, .i32⟩
  | 6 => ⟨S8x32x8, .i32⟩
  | 7 => ⟨S_, .i32⟩
  | 8 => ⟨S8x32x8, .i32⟩
  | 9 => ⟨S8x32x8, .i1⟩
  | 10 => ⟨S_, .i32⟩
  | 11 => ⟨S8x32x8, .i32⟩
  | 12 => ⟨S8x32x8, .i32⟩
  | 13 => ⟨S_, .i32⟩
  | 14 => ⟨S_, .i32⟩
  | 15 => ⟨S8x32x8, .i32⟩
  | 16 => ⟨S8x32x8, .i32⟩
  | 17 => ⟨S8x32x8, .f32⟩
  | 18 => ⟨S_, .f32⟩
  | 19 => ⟨S8x32x8, .f32⟩
  | 20 => ⟨S8x32x8, .f32⟩
  | 21 => ⟨S8x32x8, .f32⟩
  | 22 => ⟨S_, .f32⟩
  | 23 => ⟨S8x32x8, .f32⟩
  | 24 => ⟨S8x32x8, .f32⟩
  | 25 => ⟨S8x32x1x8x1, .f32⟩
  | 26 => ⟨S8x32x128x8x64, .f32⟩
  | 27 => ⟨S8x32x128x8x64, .f32⟩
  | 28 => ⟨S_, .f32⟩
  | 29 => ⟨S_, .f32⟩
  | 30 => ⟨S_, .f32⟩
  | 31 => ⟨S8x32x128x8x64, .f32⟩
  | 32 => ⟨S8x32x128x8x64, .f32⟩
  | 33 => ⟨S_, .f32⟩
  | 34 => ⟨S8x32x128x8x64, .f32⟩
  | 35 => ⟨S8x32x128x8x64, .f32⟩
  | 36 => ⟨S8x4096x8x64, .f32⟩
  | 37 => ⟨S8x4096x8x4x64, .f32⟩
  | 38 => ⟨S8x32x128x32, .f32⟩
  | 39 => ⟨S8x4096x32, .f32⟩
  | 40 => ⟨S8x4096x8x4, .f32⟩
  | 41 => ⟨S8x8x4x4096, .f32⟩
  | 42 => ⟨S8x32x128x8, .f32⟩
  | 43 => ⟨S8x4096x8, .f32⟩
  | 44 => ⟨S8x8x4096, .f32⟩
  | 45 => ⟨S8x8x4096x4096x4, .f32⟩
  | 46 => ⟨S8x8x4x4096x4096, .f32⟩
  | 47 => ⟨S8x8x4x4096x1, .f32⟩
  | 48 => ⟨S8x8x1x1x4096, .f32⟩
  | 49 => ⟨S8x8x4x4096x4096, .f32⟩
  | 50 => ⟨S8x8x4x4096x4096, .f32⟩
  | 51 => ⟨S8x8x4x4096x4096, .f32⟩
  | 52 => ⟨S_, .f32⟩
  | 53 => ⟨S8x8x4x4096x4096, .f32⟩
  | 54 => ⟨S8x8x4x4096x4096, .f32⟩
  | 55 => ⟨S8x8x4x4096x4096, .f32⟩
  | 56 => ⟨S_, .f32⟩
  | 57 => ⟨S8x8x4x4096x4096, .f32⟩
  | 58 => ⟨S8x8x4x4096x4096, .f32⟩
  | 59 => ⟨S8x8x4x4096x4096, .f32⟩
  | 60 => ⟨S_, .f32⟩
  | 61 => ⟨S8x8x4x4096x4096, .f32⟩
  | 62 => ⟨S8x8x4x4096x4096, .f32⟩
  | 63 => ⟨S4096, .i32⟩
  | 64 => ⟨S4096x1, .i32⟩
  | 65 => ⟨S1x4096, .i32⟩
  | 66 => ⟨S4096x4096, .i32⟩
  | 67 => ⟨S4096x4096, .i32⟩
  | 68 => ⟨S4096x4096, .i1⟩
  | 69 => ⟨S_, .f32⟩
  | 70 => ⟨S_, .f32⟩
  | 71 => ⟨S8x8x4x4096x4096, .i1⟩
  | 72 => ⟨S8x8x4x4096x4096, .f32⟩
  | 73 => ⟨S8x8x4x4096x4096, .f32⟩
  | 74 => ⟨S_, .f32⟩
  | 75 => ⟨S8x8x4x4096, .f32⟩
  | 76 => ⟨S8x8x4x4096x1, .f32⟩
  | 77 => ⟨S8x8x4x4096x4096, .f32⟩
  | 78 => ⟨S8x8x4x4096x4096, .f32⟩
  | 79 => ⟨S8x8x4x4096x4096, .f32⟩
  | 80 => ⟨S_, .f32⟩
  | 81 => ⟨S8x8x4x4096, .f32⟩
  | 82 => ⟨S_, .f32⟩
  | 83 => ⟨S8x8x4x4096x4096, .f32⟩
  | 84 => ⟨S8x8x4x4096x4096, .f32⟩
  | 85 => ⟨S_, .f32⟩
  | 86 => ⟨S_, .f32⟩
  | 87 => ⟨S_, .f32⟩
  | 88 => ⟨S8x8x4x4096x4096, .f32⟩
  | 89 => ⟨S8x8x4x4096x4096, .f32⟩
  | 90 => ⟨S_, .f32⟩
  | 91 => ⟨S8x8x4x4096x4096, .f32⟩
  | 92 => ⟨S8x8x4x4096x4096, .f32⟩
  | 93 => ⟨S_, .f32⟩
  | 94 => ⟨S8x8x4x4096x4096, .f32⟩
  | 95 => ⟨S8x8x4x4096x4096, .f32⟩
  | 96 => ⟨S8x32x128x8, .f32⟩
  | 97 => ⟨S8x4096x8, .f32⟩
  | 98 => ⟨S8x4096x8x1, .f32⟩
  | 99 => ⟨S8x4096x8x64, .f32⟩
  | 100 => ⟨S8x4096x8x64, .f32⟩
  | 101 => ⟨S8x8x4x4096x64, .f32⟩
  | 102 => ⟨S8x8x4x4096x1, .f32⟩
  | 103 => ⟨S8x8x4x4096x64, .f32⟩
  | 104 => ⟨S8x8x4x4096x64, .f32⟩
  | 105 => ⟨S8x4096x8x4x64, .f32⟩
  | 106 => ⟨S8x4096x2048, .f32⟩
  | 107 => ⟨S8x4096x2048, .bf16⟩
  | 108 => ⟨S8x4096x2048, .f32⟩
  | 109 => ⟨S8x4096x512, .f32⟩
  | 110 => ⟨S8x4096x512, .f32⟩
  | 111 => ⟨S8x4096x2048, .fp8e4m3⟩
  | 112 => ⟨S8x4096x512, .fp8e4m3⟩
  | 113 => ⟨S8x4096x512, .fp8e4m3⟩
  | _ => ⟨S8x4096x2048, .bf16⟩

abbrev hbmTy (i : Nat) : BufTy := match i / 128 with
  | 0 => hbmTy0_0 i
  | 1 => hbmTy0_1 i
  | _ => ⟨S8x4096x2048, .bf16⟩

abbrev bufTy : (tb : Table) → Fin (tcTables nBuf tb) → BufTy
  | .hbm, ⟨i, _⟩ => hbmTy i
  | .local _ .vmem, ⟨0, _⟩ => ⟨S8x4096x2048, .f32⟩
  | .local _ .vmem, ⟨1, _⟩ => ⟨S8x4096x512, .f32⟩
  | .local _ .vmem, ⟨2, _⟩ => ⟨S8x4096x512, .f32⟩
  | .local _ .vmem, ⟨3, _⟩ => ⟨S8x4096x2048, .fp8e4m3⟩
  | .local _ .vmem, ⟨4, _⟩ => ⟨S8x4096x512, .fp8e4m3⟩
  | .local _ .vmem, ⟨5, _⟩ => ⟨S8x4096x512, .fp8e4m3⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_cst_13 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_14 : Ref sig .tc := ⟨.hbm, 79, rfl⟩
abbrev main_v53 : Ref sig .tc := ⟨.hbm, 80, rfl⟩
abbrev main_c_15 : Ref sig .tc := ⟨.hbm, 81, rfl⟩
abbrev main_v54 : Ref sig .tc := ⟨.hbm, 82, rfl⟩
abbrev main_v55 : Ref sig .tc := ⟨.hbm, 83, rfl⟩
abbrev main_c_16 : Ref sig .tc := ⟨.hbm, 84, rfl⟩
abbrev main_v56 : Ref sig .tc := ⟨.hbm, 85, rfl⟩
abbrev main_v57 : Ref sig .tc := ⟨.hbm, 86, rfl⟩
abbrev main_c_17 : Ref sig .tc := ⟨.hbm, 87, rfl⟩
abbrev main_call2_v0 : Ref sig .tc := ⟨.hbm, 88, rfl⟩
abbrev main_call2_v1 : Ref sig .tc := ⟨.hbm, 89, rfl⟩
abbrev main_v58 : Ref sig .tc := ⟨.hbm, 90, rfl⟩
abbrev main_v59 : Ref sig .tc := ⟨.hbm, 91, rfl⟩
abbrev main_cst_18 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_19 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_20 : Ref sig .tc := ⟨.hbm, 102, rfl⟩
abbrev main_cst_21 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_22 : Ref sig .tc := ⟨.hbm, 114, rfl⟩
abbrev main_v73 : Ref sig .tc := ⟨.hbm, 115, rfl⟩
abbrev main_v74 : Ref sig .tc := ⟨.hbm, 116, rfl⟩
abbrev main_c_23 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_24 : Ref sig .tc := ⟨.hbm, 121, rfl⟩
abbrev main_v78 : Ref sig .tc := ⟨.hbm, 122, rfl⟩
abbrev main_v79 : Ref sig .tc := ⟨.hbm, 123, rfl⟩
abbrev main_cst_25 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_26 : Ref sig .tc := ⟨.hbm, 133, rfl⟩
abbrev main_v88 : Ref sig .tc := ⟨.hbm, 134, rfl⟩
abbrev main_c_27 : Ref sig .tc := ⟨.hbm, 135, rfl⟩
abbrev main_v89 : Ref sig .tc := ⟨.hbm, 136, rfl⟩
abbrev main_v90 : Ref sig .tc := ⟨.hbm, 137, rfl⟩
abbrev main_c_28 : Ref sig .tc := ⟨.hbm, 138, rfl⟩
abbrev main_v91 : Ref sig .tc := ⟨.hbm, 139, rfl⟩
abbrev main_v92 : Ref sig .tc := ⟨.hbm, 140, rfl⟩
abbrev main_c_29 : Ref sig .tc := ⟨.hbm, 141, rfl⟩
abbrev main_call4_v0 : Ref sig .tc := ⟨.hbm, 142, rfl⟩
abbrev main_call4_v1 : Ref sig .tc := ⟨.hbm, 143, rfl⟩
abbrev main_v93 : Ref sig .tc := ⟨.hbm, 144, rfl⟩
abbrev main_v94 : Ref sig .tc := ⟨.hbm, 145, rfl⟩
abbrev main_cst_30 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_31 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_32 : Ref sig .tc := ⟨.hbm, 156, rfl⟩
abbrev main_cst_33 : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_cst_34 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_cst_35 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_36 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_37 : Ref sig .tc := ⟨.hbm, 197, rfl⟩
abbrev main_call6_v0 : Ref sig .tc := ⟨.hbm, 198, rfl⟩
abbrev main_call6_v1 : Ref sig .tc := ⟨.hbm, 199, rfl⟩
abbrev main_call6_v2 : Ref sig .tc := ⟨.hbm, 200, rfl⟩
abbrev main_v134 : Ref sig .tc := ⟨.hbm, 201, rfl⟩
abbrev main_cst_38 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_cst_39 : Ref sig .tc := ⟨.hbm, 208, rfl⟩
abbrev main_v140 : Ref sig .tc := ⟨.hbm, 209, rfl⟩
abbrev main_cst_40 : Ref sig .tc := ⟨.hbm, 210, rfl⟩
abbrev main_v141 : Ref sig .tc := ⟨.hbm, 211, rfl⟩
abbrev main_v142 : Ref sig .tc := ⟨.hbm, 212, rfl⟩
abbrev main_cst_41 : Ref sig .tc := ⟨.hbm, 213, rfl⟩
abbrev main_cst_42 : Ref sig .tc := ⟨.hbm, 214, rfl⟩
abbrev main_call7_v0 : Ref sig .tc := ⟨.hbm, 215, rfl⟩
abbrev main_call7_v1 : Ref sig .tc := ⟨.hbm, 216, rfl⟩
abbrev main_call7_v2 : Ref sig .tc := ⟨.hbm, 217, rfl⟩
abbrev main_call7_v3 : Ref sig .tc := ⟨.hbm, 218, rfl⟩
abbrev main_call7_v4 : Ref sig .tc := ⟨.hbm, 219, rfl⟩
abbrev main_v143 : Ref sig .tc := ⟨.hbm, 220, rfl⟩
abbrev main_cst_43 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161_0 : Ref sig .tc := ⟨.hbm, 239, rfl⟩
abbrev main_v161_1 : Ref sig .tc := ⟨.hbm, 240, rfl⟩
abbrev main_v161_2 : Ref sig .tc := ⟨.hbm, 241, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Den.lean ====
/-
  A small language for a kernel body that only loads from and stores to nineteen buffers: a
  `Den` is a program, the function on the buffers' contents it computes, and the proof that
  the one does the other. Bodies are written once with its combinators; the program is read
  off, and so is what it computes.
-/
module

public import Idealize.ShloMosaic.Lib.Pipeline
public import Idealize.ShloMosaic.Lib.Pipeline.FrameBody
public import Idealize.ShloMosaic.Lib.Scf
public import Idealize.ShloMosaic.Lib.Tactic
public import Idealize.ShloMosaic.PureOps
public import Idealize.ShloMosaic.PureOps.Ideal

@[expose] public section

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The nineteen buffers -/

abbrev S8x4096x2048 : Shape := ⟨3, ![8, 4096, 2048]⟩
abbrev S8x4096x512 : Shape := ⟨3, ![8, 4096, 512]⟩
abbrev S8x32x32 : Shape := ⟨3, ![8, 32, 32]⟩
abbrev S8x32x8 : Shape := ⟨3, ![8, 32, 8]⟩
abbrev S1x128x2048 : Shape := ⟨3, ![1, 128, 2048]⟩
abbrev S1x128x512 : Shape := ⟨3, ![1, 128, 512]⟩
abbrev S1x32x32 : Shape := ⟨3, ![1, 32, 32]⟩
abbrev S1x32x8 : Shape := ⟨3, ![1, 32, 8]⟩
abbrev S8x64x512 : Shape := ⟨3, ![8, 64, 512]⟩
abbrev S32x8x128x64 : Shape := ⟨4, ![32, 8, 128, 64]⟩
abbrev S32x512x128 : Shape := ⟨3, ![32, 512, 128]⟩
abbrev S32x128 : Shape := ⟨2, ![32, 128]⟩
abbrev S32x8x128 : Shape := ⟨3, ![32, 8, 128]⟩

/-- The shapes of the buffers: three input windows, seven output windows, nine scratch arrays. -/
abbrev sh : Fin 19 → Shape := fun
  | 0 => S1x128x2048 | 1 => S1x128x512 | 2 => S1x128x512
  | 3 => S1x128x2048 | 4 => S1x128x2048 | 5 => S1x32x32 | 6 => S1x128x512 | 7 => S1x32x8 | 8 => S1x128x512 | 9 => S1x32x8
  | 10 => S8x64x512 | 11 => S32x8x128x64 | 12 => S32x512x128 | 13 => S32x128 | 14 => S32x8x128 | 15 => S32x8x128
  | 16 => S32x128 | 17 => S32x8x128 | 18 => S8x64x512
  | ⟨_ + 19, h⟩ => absurd h (Nat.not_lt.2 (Nat.le_add_left _ _))

/-- Their element types. -/
abbrev el : Fin 19 → EltTy := fun
  | 0 => .bf16 | 1 => .bf16 | 2 => .bf16
  | 3 => .bf16 | 4 => .fp8e4m3 | 5 => .f32 | 6 => .fp8e4m3 | 7 => .f32 | 8 => .fp8e4m3 | 9 => .f32
  | 10 => .fp8e4m3 | 11 => .fp8e4m3 | 12 => .fp8e4m3 | 13 => .f32 | 14 => .f32 | 15 => .f32
  | 16 => .f32 | 17 => .f32 | 18 => .f32
  | ⟨_ + 19, h⟩ => absurd h (Nat.not_lt.2 (Nat.le_add_left _ _))

/-- The contents of all of them. -/
abbrev St (F : FTy → Type) := (k : Fin 19) → Vec F (sh k) (el k)

/-- The buffers of one signature. -/
abbrev Bufs (sig : RefSig) := (k : Fin 19) → Memref sig .tc .vmem (sh k) (el k)

variable {F : FTy → Type} {nD : Nat} {τ : Topo} {sig : RefSig} {Λ : Labels}

local notation "𝕄" => MT nD τ sig Unit (Elt F) ℕ (UR sig nD τ) ℕ

/-- Core `c` owns every buffer whole at the contents `S`. -/
def Own (A : Bufs sig) (c : Dev nD) (S : St F) : sProp 𝕄 :=
  bigSep Finset.univ fun k => owns (c : Thread nD τ) (A k) fullShare (S k)

/-- The part of an array under a rectangle. -/
def ld {s : Shape} {α : Type} (X : s.Idx → α) (r : Rect s) : r.shape.Idx → α := fun i => X (r.emb i)

/-! ## Programs with what they compute -/

variable (F nD τ Λ) in
/-- A program over the buffers `A`, the function of their contents it computes, and that it does. -/
structure Den (A : Bufs sig) (α : Type) where
  prog : Prog (TpuEff nD τ sig (Elt F) Λ .tc) α
  run : St F → α × St F
  sound : ∀ (D : Defs nD τ sig (Elt F) Λ) (c : Dev nD) (S : St F) (K : α → sProp 𝕄),
    iprop(Own A c S ∗ (Own A c (run S).2 -∗ K (run S).1)) ⊢ wp frame (wpE D Variants.none c none) Set.univ prog K

namespace Den

variable {A : Bufs sig} {α β : Type}

/-- The program that does nothing. -/
protected def pure (a : α) : Den F nD τ Λ A α where
  prog := .ret a
  run S := (a, S)
  sound D c S K := by
    refine BIBase.Entails.trans ?_ (le_wp_ret _ _ _ a K)
    exact wand_elim_right

/-- One program and then another. -/
protected def bind (p : Den F nD τ Λ A α) (f : α → Den F nD τ Λ A β) : Den F nD τ Λ A β where
  prog := p.prog >>= fun a => (f a).prog
  run S := (f (p.run S).1).run (p.run S).2
  sound D c S K := by
    rw [wp_bind]
    refine BIBase.Entails.trans (sep_mono_right ?_) (p.sound D c S _)
    iintro HK HS
    iapply ((f (p.run S).1).sound D c (p.run S).2 K)
    isplitl [HS] <;> iassumption

instance : Monad (Den F nD τ Λ A) where
  pure := Den.pure
  bind := Den.bind

theorem run_pure (a : α) (S : St F) : (Pure.pure a : Den F nD τ Λ A α).run S = (a, S) := rfl
theorem run_bind (p : Den F nD τ Λ A α) (f : α → Den F nD τ Λ A β) (S : St F) :
    (p >>= f).run S = (f (p.run S).1).run (p.run S).2 := rfl

theorem own_focus (A : Bufs sig) (c : Dev nD) (S : St F) (k : Fin 19) :
    (Own (τ := τ) A c S : sProp 𝕄) ⊢ iprop(owns (c : Thread nD τ) (A k) fullShare (S k)
      ∗ (∀ d, owns (c : Thread nD τ) (A k) fullShare d -∗ Own A c (Function.update S k d))) := by
  have e₀ : (Own (τ := τ) A c S : sProp 𝕄) = iprop(owns (c : Thread nD τ) (A k) fullShare (S k)
      ∗ bigSep (Finset.univ.erase k) fun j => owns (c : Thread nD τ) (A j) fullShare (S j)) := BI.bigSep_erase (Finset.mem_univ k)
  iintro H
  ihave H := (Entails.of_eq e₀) $$ H
  icases H with ⟨H, HR⟩
  isplitl [H]; · iexact H
  iintro %d Hd
  have e : (bigSep (Finset.univ.erase k) fun j => owns (c : Thread nD τ) (A j) fullShare (S j) : sProp 𝕄)
      = bigSep (Finset.univ.erase k) fun j => owns (c : Thread nD τ) (A j) fullShare (Function.update S k d j) :=
    bigSep_congr fun j hj => by rw [Function.update_of_ne (Finset.ne_of_mem_erase hj)]
  have e₁ : (Own (τ := τ) A c (Function.update S k d) : sProp 𝕄) = iprop(owns (c : Thread nD τ) (A k) fullShare d
      ∗ bigSep (Finset.univ.erase k) fun j => owns (c : Thread nD τ) (A j) fullShare (S j)) := by
    rw [e, show owns (c : Thread nD τ) (A k) fullShare d = (owns (c : Thread nD τ) (A k) fullShare (Function.update S k d k) : sProp 𝕄) by
      rw [Function.update_self]]
    exact BI.bigSep_erase (Finset.mem_univ k)
  iapply (Entails.of_eq e₁.symm)
  isplitl [Hd] <;> iassumption

/-- What a memref reads after a store of a whole rectangle through it. -/
theorem read_write_access {s : Shape} {e : EltTy} (m : Memref sig .tc .vmem s e) (r : Rect s)
    (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    change (m.access r).read (Elt F) _ i = r.overlay _ w (r.emb i)
    rw [Rect.overlay_emb, View.read_write_univ]
  · rw [Rect.overlay_of_not_mem _ _ _ hj, View.read_apply, View.read_apply, View.write_of_not_mem]
    show m.view.emb j ∉ (m.view.slice r).setOn _
    rw [View.setOn_univ, View.set_slice, Finset.mem_map' m.view.emb]; exact hj

/-- A load from buffer `k`. -/
def load (k : Fin 19) (r : Rect (sh k)) (h : 0 < r.shape.numel) : Den F nD τ Λ A (r.shape.Idx → Elt F (el k)) where
  prog := Prog.lift (.load (A k) r.toLoadRect (View.loadsAt_vmem h))
  run S := (ld (S k) r, S)
  sound D c S K := by
    iintro ⟨HS, HK⟩
    ihave H := (own_focus (τ := τ) A c S k) $$ HS
    icases H with ⟨H, HR⟩
    ihave H := (show owns (c : Thread nD τ) (A k) fullShare (S k)
      ⊢ iprop(∃ f, ⌜(A k).view.read (Elt F) f = S k⌝ ∗ ((A k).view.loc (c : Thread nD τ) ↦[(A k).view.set]{fullShare} f)) from .rfl) $$ H
    icases H with ⟨%f, %hf, H⟩
    iapply (wp_load_rect Variants.none (c : Thread nD τ) none Set.univ (m := A k) (r := r) ((A k).view.set_slice_subset r)) $$ H
    iintro H
    iapply (le_wp_ret _ _ _ _ K)
    have e : ((A k).access r).read (Elt F) f = ld (S k) r := by rw [← hf]; rfl
    rw [e]
    iapply HK
    have e' : Function.update S k (S k) = S := Function.update_eq_self k S
    ihave HR := HR $$ %(S k)
    rw [e']
    iapply HR
    iapply (show iprop(∃ f, ⌜(A k).view.read (Elt F) f = S k⌝ ∗ ((A k).view.loc (c : Thread nD τ) ↦[(A k).view.set]{fullShare} f))
      ⊢ owns (c : Thread nD τ) (A k) fullShare (S k) from .rfl)
    iexists f
    isplitr; · ipureintro; exact hf
    iexact H

/-- A store of all of a rectangle of buffer `k`. -/
def store (k : Fin 19) (r : Rect (sh k)) (w : r.shape.Idx → Elt F (el k)) (h : ((A k).access r).Stores Finset.univ) :
    Den F nD τ Λ A PUnit where
  prog := Prog.lift (.store (A k) r w Finset.univ h (.inl rfl))
  run S := (⟨⟩, Function.update S k (r.overlay (S k) w))
  sound D c S K := by
    iintro ⟨HS, HK⟩
    ihave H := (own_focus (τ := τ) A c S k) $$ HS
    icases H with ⟨H, HR⟩
    ihave H := (show owns (c : Thread nD τ) (A k) fullShare (S k)
      ⊢ iprop(∃ f, ⌜(A k).view.read (Elt F) f = S k⌝ ∗ ((A k).view.loc (c : Thread nD τ) ↦[(A k).view.set]{fullShare} f)) from .rfl) $$ H
    icases H with ⟨%f, %hf, H⟩
    iapply (wp_store Variants.none (c : Thread nD τ) none Set.univ (m := A k) (r := r)
      (by rw [View.setOn_univ]; exact (A k).view.set_slice_subset r)) $$ H
    iintro H
    iapply (le_wp_ret _ _ _ _ K)
    iapply HK
    iapply HR
    iapply (show iprop(∃ f, ⌜(A k).view.read (Elt F) f = r.overlay (S k) w⌝
        ∗ ((A k).view.loc (c : Thread nD τ) ↦[(A k).view.set]{fullShare} f))
      ⊢ owns (c : Thread nD τ) (A k) fullShare (r.overlay (S k) w) from .rfl)
    iexists (((A k).access r).write (Elt F) f w Finset.univ)
    isplitr
    · ipureintro; rw [← hf]; exact read_write_access _ _ _ _
    iexact H

/-- The contents after the trips `ks`, in order. -/
def trips {n : Nat} (body : Fin n → Den F nD τ Λ A PUnit) : List (Fin n) → St F → St F
  | [], S => S
  | k :: ks, S => trips body ks ((body k).run S).2

/-- A counted loop that carries nothing. -/
def loop (l : Scf.Loop 32) (hok : l.OK) (body : Fin l.trips → Den F nD τ Λ A PUnit) : Den F nD τ Λ A PUnit where
  prog := Scf.Loop.for l hok ⟨⟩ fun k _ => (body k).prog
  run S := (⟨⟩, trips body (List.finRange l.trips) S)
  sound D c S K := by
    unfold Scf.Loop.for
    rw [Scf.for_eq]
    generalize List.finRange l.trips = ks
    induction ks generalizing S with
    | nil =>
      rw [Scf.forFrom_nil]
      exact (Den.pure PUnit.unit : Den F nD τ Λ A PUnit).sound D c S K
    | cons k ks ih =>
      rw [Scf.forFrom_cons, wp_bind]
      refine BIBase.Entails.trans (sep_mono_right ?_) ((body k).sound D c S _)
      iintro HK HS
      iapply (ih ((body k).run S).2)
      isplitl [HS]; · iexact HS
      iexact HK

/-- Programs one after another, their results listed. -/
def each {ι : Type} (f : ι → Den F nD τ Λ A β) : List ι → Den F nD τ Λ A (List β)
  | [] => Den.pure []
  | i :: is => do
    let x ← f i
    let xs ← each f is
    Den.pure (x :: xs)

/-- Programs one after another. -/
def each_ {ι : Type} (f : ι → Den F nD τ Λ A PUnit) : List ι → Den F nD τ Λ A PUnit
  | [] => Den.pure ⟨⟩
  | i :: is => do
    f i
    each_ f is

end Den

end Attn

end
-- ==== Proof.Model.lean ====
/-
  The kernel's body written once, with the combinators of `Den`: quantise the tiles of q, k and v
  of a grid point, run the key blocks below the diagonal and then the one on it, and divide.
  The named constants are parameters, so that both printings are instances.
-/
module

public import proofs.«01_k».proof.Proof.Den

@[expose] public section

noncomputable section

namespace Attn

open Idealize.ShloMosaic Idealize.ShloMosaic.TcCoe Idealize.SL Idealize.SL.Sem

/-- A case split on a dependent pair reads its parts. -/
theorem psig {E : Type → Type} {γ : Type} {α : Type} {β : α → Type} (x : PSigma β) (f : (a : α) → β a → Prog E γ) :
    PSigma.casesOn (motive := fun _ => Prog E γ) x f = f x.1 x.2 := rfl

/-! ## Shapes -/

abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S256x128 : Shape := ⟨2, ![256, 128]⟩
abbrev S64x128 : Shape := ⟨2, ![64, 128]⟩
abbrev S1x64x128 : Shape := ⟨3, ![1, 64, 128]⟩
abbrev S1x64x512 : Shape := ⟨3, ![1, 64, 512]⟩
abbrev S64x512 : Shape := ⟨2, ![64, 512]⟩
abbrev S128x512 : Shape := ⟨2, ![128, 512]⟩
abbrev S128x64 : Shape := ⟨2, ![128, 64]⟩
abbrev S1x1x128x64 : Shape := ⟨4, ![1, 1, 128, 64]⟩
abbrev S1x1x128 : Shape := ⟨3, ![1, 1, 128]⟩
abbrev S1x1x32 : Shape := ⟨3, ![1, 1, 32]⟩
abbrev S1x1x8 : Shape := ⟨3, ![1, 1, 8]⟩
abbrev S1x32 : Shape := ⟨2, ![1, 32]⟩
abbrev S1x8 : Shape := ⟨2, ![1, 8]⟩
abbrev S1x8x128 : Shape := ⟨3, ![1, 8, 128]⟩
abbrev S8x128 : Shape := ⟨2, ![8, 128]⟩
abbrev S16x8x128 : Shape := ⟨3, ![16, 8, 128]⟩

/-! ## Rectangles of the buffers -/

/-- A word that names one of the 32 key blocks. -/
abbrev Row := { t : BitVec 32 // (Scalar.indexCast t).toNat < 32 }

/-- The block a row word names. -/
abbrev Row.at (t : Row) : Nat := (Scalar.indexCast t.1).toNat

/-- Columns 128j … 128j+127 of a window of 2048. -/
def rX (j : Fin 16) : Rect S1x128x2048 := Rect.unit ![0, 0, 128 * j.val] S1x128x128.size (by
  intro a; have := j.isLt; fin_cases a <;> simp <;> omega)
/-- Columns 128j … 128j+127 of a window of 512. -/
def rK (j : Fin 4) : Rect S1x128x512 := Rect.unit ![0, 0, 128 * j.val] S1x128x128.size (by
  intro a; have := j.isLt; fin_cases a <;> simp <;> omega)
/-- One row of q's scales. -/
def rQs (t : Row) : Rect S1x32x32 := Rect.unit ![0, t.at, 0] S1x1x32.size (by
  intro a; have := t.2; fin_cases a <;> simp; omega)
/-- One row of k's or v's scales. -/
def rKs (t : Row) : Rect S1x32x8 := Rect.unit ![0, t.at, 0] S1x1x8.size (by
  intro a; have := t.2; fin_cases a <;> simp; omega)
/-- Head `h`'s part of the transposed q codes, or of the accumulator. -/
def rQt (h : Fin 32) : Rect S8x64x512 := Rect.unit ![h.val / 4, 0, 128 * (h.val % 4)] S1x64x128.size (by
  intro a; have := h.isLt; fin_cases a <;> simp <;> omega)
/-- The four heads of group `g` of the transposed q codes. -/
def rQw (g : Fin 8) : Rect S8x64x512 := Rect.unit ![g.val, 0, 0] S1x64x512.size (by
  intro a; have := g.isLt; fin_cases a <;> simp <;> try omega)
/-- Head `h`'s row of q's scales, or of the running maxima. -/
def rH (h : Fin 32) : Rect S32x128 := Rect.unit ![h.val, 0] S1x128.size (by
  intro a; have := h.isLt; fin_cases a <;> simp <;> try omega)
/-- Head `h`'s part of the running sums. -/
def rL (h : Fin 32) : Rect S32x8x128 := Rect.unit ![h.val, 0, 0] S1x8x128.size (by
  intro a; have := h.isLt; fin_cases a <;> simp <;> try omega)
/-- The k codes of a block and head. -/
def rKt (t : Row) (g : Fin 8) : Rect S32x8x128x64 := Rect.unit ![t.at, g.val, 0, 0] S1x1x128x64.size (by
  intro a; have := t.2; have := g.isLt; fin_cases a <;> simp <;> omega)
/-- The transposed v codes of a block and a pair of heads. -/
def rVt (t : Row) (j : Fin 4) : Rect S32x512x128 := Rect.unit ![t.at, 128 * j.val, 0] S1x128x128.size (by
  intro a; have := t.2; have := j.isLt; fin_cases a <;> simp <;> omega)
/-- The transposed v codes of a block and one head. -/
def rVh (t : Row) (g : Fin 8) : Rect S32x512x128 := Rect.unit ![t.at, 64 * g.val, 0] S1x64x128.size (by
  intro a; have := t.2; have := g.isLt; fin_cases a <;> simp <;> omega)
/-- The scales of a block and head of k or v. -/
def rS (t : Row) (g : Fin 8) : Rect S32x8x128 := Rect.unit ![t.at, g.val, 0] S1x1x128.size (by
  intro a; have := t.2; have := g.isLt; fin_cases a <;> simp <;> omega)
/-- All the running maxima, sums, and accumulators. -/
def rM : Rect S32x128 := Rect.unit ![0, 0] S32x128.size (by decide)
def rLw : Rect S32x8x128 := Rect.unit ![0, 0, 0] S32x8x128.size (by decide)
def rO : Rect S8x64x512 := Rect.unit ![0, 0, 0] S8x64x512.size (by decide)

/-! ## Each holds an element, and stores whole words -/

/-- Single-word elements pack trivially. -/
theorem rows_one {s : Shape} (r : Rect s) (h : 2 ≤ s.rank) (hs : r.stride (s.rowAx h) = 1) : r.PackedRows 1 :=
  .inr ⟨h, hs, .inl ⟨one_dvd _, one_dvd _⟩⟩

theorem rX_pos (j : Fin 16) : 0 < (rX j).shape.numel := (by decide : 0 < S1x128x128.numel)
theorem rX_rows (j : Fin 16) {p : Nat} (hp : p ∣ 128) : (rX j).PackedRows p := by
  refine .inr ⟨by decide, rfl, .inl ⟨?_, ?_⟩⟩
  · first | exact dvd_zero p | exact Dvd.dvd.mul_right hp _
  · exact hp
theorem rK_pos (j : Fin 4) : 0 < (rK j).shape.numel := (by decide : 0 < S1x128x128.numel)
theorem rK_rows (j : Fin 4) {p : Nat} (hp : p ∣ 128) : (rK j).PackedRows p := by
  refine .inr ⟨by decide, rfl, .inl ⟨?_, ?_⟩⟩
  · first | exact dvd_zero p | exact Dvd.dvd.mul_right hp _
  · exact hp
theorem rQs_pos (t : Row) : 0 < (rQs t).shape.numel := (by decide : 0 < S1x1x32.numel)
theorem rQs_rows (t : Row) : (rQs t).PackedRows 1 := rows_one _ (by decide) rfl
theorem rKs_pos (t : Row) : 0 < (rKs t).shape.numel := (by decide : 0 < S1x1x8.numel)
theorem rKs_rows (t : Row) : (rKs t).PackedRows 1 := rows_one _ (by decide) rfl
theorem rQt_pos (h : Fin 32) : 0 < (rQt h).shape.numel := (by decide : 0 < S1x64x128.numel)
theorem rQt_rows (h : Fin 32) {p : Nat} (hp : p ∣ 64) : (rQt h).PackedRows p := by
  refine .inr ⟨by decide, rfl, .inl ⟨?_, ?_⟩⟩
  · first | exact dvd_zero p | exact Dvd.dvd.mul_right hp _
  · exact hp
theorem rQw_pos (g : Fin 8) : 0 < (rQw g).shape.numel := (by decide : 0 < S1x64x512.numel)
theorem rH_pos (h : Fin 32) : 0 < (rH h).shape.numel := (by decide : 0 < S1x128.numel)
theorem rH_rows (h : Fin 32) : (rH h).PackedRows 1 := rows_one _ (by decide) rfl
theorem rL_pos (h : Fin 32) : 0 < (rL h).shape.numel := (by decide : 0 < S1x8x128.numel)
theorem rL_rows (h : Fin 32) : (rL h).PackedRows 1 := rows_one _ (by decide) rfl
theorem rKt_pos (t : Row) (g : Fin 8) : 0 < (rKt t g).shape.numel := (by decide : 0 < S1x1x128x64.numel)
theorem rKt_rows (t : Row) (g : Fin 8) {p : Nat} (hp : p ∣ 128) : (rKt t g).PackedRows p := by
  refine .inr ⟨by decide, rfl, .inl ⟨?_, ?_⟩⟩
  · first | exact dvd_zero p | exact Dvd.dvd.mul_right hp _
  · exact hp
theorem rVt_pos (t : Row) (j : Fin 4) : 0 < (rVt t j).shape.numel := (by decide : 0 < S1x128x128.numel)
theorem rVt_rows (t : Row) (j : Fin 4) {p : Nat} (hp : p ∣ 128) : (rVt t j).PackedRows p := by
  refine .inr ⟨by decide, rfl, .inl ⟨?_, ?_⟩⟩
  · first | exact dvd_zero p | exact Dvd.dvd.mul_right hp _
  · exact hp
theorem rVh_pos (t : Row) (g : Fin 8) : 0 < (rVh t g).shape.numel := (by decide : 0 < S1x64x128.numel)
theorem rS_pos (t : Row) (g : Fin 8) : 0 < (rS t g).shape.numel := (by decide : 0 < S1x1x128.numel)
theorem rS_rows (t : Row) (g : Fin 8) : (rS t g).PackedRows 1 := rows_one _ (by decide) rfl
theorem rM_pos : 0 < (rM).shape.numel := (by decide : 0 < S32x128.numel)
theorem rM_rows : (rM).PackedRows 1 := rows_one _ (by decide) rfl
theorem rLw_pos : 0 < (rLw).shape.numel := (by decide : 0 < S32x8x128.numel)
theorem rLw_rows : (rLw).PackedRows 1 := rows_one _ (by decide) rfl
theorem rO_pos : 0 < (rO).shape.numel := (by decide : 0 < S8x64x512.numel)
theorem rO_rows : (rO).PackedRows 1 := rows_one _ (by decide) rfl

/-! ## The pure parts -/

section Pure

variable {F : FTy → Type} [FloatOps F]

/-- A float constant, by its bits. -/
abbrev cst (b : BitVec 32) : F .f32 := Scalar.ofBits .f32 b

/-- The columns below 64. -/
def leftHalf : IVec S1x128 1 := cmpi .slt (iota .tc S1x128 32 [1] (by decide)) (broadcast S1x128 64#32)

/-- The largest absolute value of each column. -/
def colMax (x : FVec F S128x128 .f32) : FVec F S1x128 .f32 :=
  shapeCast S1x128 (multiReduction .maximumf [0] S128 (absf x) 0xFF800000#32 (by decide) (.inl rfl) rfl) (by decide)

/-- The largest of a row's values, in every column. -/
def rowMax (a : FVec F S1x128 .f32) : FVec F S1x128 .f32 :=
  broadcastTo S1x128 (shapeCast S1x1 (shapeCast S1x1
    (multiReduction .maximumf [1] S1 a 0xFF800000#32 (by decide) (.inl rfl) rfl : FVec F S1 .f32) (by decide) : FVec F S1x1 .f32) (by decide)) (by decide)

/-- The column maxima of the left half, the others zero, and the largest of them. -/
def maxLeft (x : FVec F S128x128 .f32) : FVec F S1x128 .f32 :=
  rowMax (select leftHalf (colMax x) (broadcast S1x128 (cst 0x00000000#32)))
/-- The same of the right half. -/
def maxRight (x : FVec F S128x128 .f32) : FVec F S1x128 .f32 :=
  rowMax (select leftHalf (broadcast S1x128 (cst 0x00000000#32)) (colMax x))

/-- How many powers of two, from the smallest normal one up, a 448th of the maximum reaches. -/
def field (a : FVec F S1x128 .f32) : IVec S1x128 32 :=
  shapeCast S1x128 (multiReductionI .add [0] S128
    (extui 32 (andi (cmpi .sgt (iota .tc S256x128 32 [0] (by decide)) (broadcast S256x128 0#32))
      (cmpf .oge (broadcastTo S256x128 (mulf a (broadcast S1x128 (cst 0x3B124925#32))) (by decide))
        (bitcastToFloat .f32 (shli (iota .tc S256x128 32 [0] (by decide)) (broadcast S256x128 23#32)) : FVec F S256x128 .f32))) (by decide))
    0#32 (by decide) rfl) (by decide)

/-- The exponent of the scale. -/
def expo (a : FVec F S1x128 .f32) : IVec S1x128 32 :=
  select (ori (cmpi .eq (field a) (broadcast S1x128 0#32)) (cmpi .eq (field a) (broadcast S1x128 255#32)))
    (broadcast S1x128 0#32) (subi (field a) (broadcast S1x128 126#32))

/-- The scale. -/
def scale (a : FVec F S1x128 .f32) : FVec F S1x128 .f32 :=
  bitcastToFloat .f32 (shli (addi (expo a) (broadcast S1x128 127#32)) (broadcast S1x128 23#32))
/-- Its inverse. -/
def scaleInv (a : FVec F S1x128 .f32) : FVec F S1x128 .f32 :=
  bitcastToFloat .f32 (shli (subi (broadcast S1x128 127#32) (expo a)) (broadcast S1x128 23#32))

/-- Clipping at ±448. -/
def clip (x : FVec F S128x128 .f32) : FVec F S128x128 .f32 :=
  minimumf (broadcast S128x128 (cst 0x43E00000#32)) (maximumf (broadcast S128x128 (cst 0xC3E00000#32)) x)

/-- A tile widened. -/
def widen (x : Vec F S1x128x128 .bf16) : FVec F S128x128 .f32 :=
  extf .f32 (shapeCast S128x128 x (by decide) : FVec F S128x128 .bf16) (by decide)

/-- The scales of a tile's two heads. -/
def sL (x : Vec F S1x128x128 .bf16) : FVec F S1x128 .f32 := scale (maxLeft (widen x))
def sR (x : Vec F S1x128x128 .bf16) : FVec F S1x128 .f32 := scale (maxRight (widen x))

/-- The tile over its scales, clipped. -/
def codes (x : Vec F S1x128x128 .bf16) : FVec F S128x128 .f32 :=
  clip (mulf (widen x) (broadcastTo S128x128
    (select leftHalf (scaleInv (maxLeft (widen x))) (scaleInv (maxRight (widen x)))) (by decide)))

/-- The codes as stored. -/
def code8 (x : Vec F S1x128x128 .bf16) : FVec F S1x128x128 .fp8e4m3 :=
  shapeCast S1x128x128 (truncf .fp8e4m3 (codes x) (by decide)) (by decide)
/-- The codes transposed. -/
def codeT (x : Vec F S1x128x128 .bf16) : FVec F S128x128 .fp8e4m3 :=
  truncf .fp8e4m3 (transpose S128x128 [1, 0] (codes x) (by decide)) (by decide)

/-- A row that holds, in column `n`, the `n`-th of a list of rows. -/
def gather (n : Nat) (acc : FVec F S1x128 .f32) : List (FVec F S1x128 .f32) → FVec F S1x128 .f32
  | [] => acc
  | v :: vs => gather (n + 1) (select (cmpi .eq (iota .tc S1x128 32 [1] (by decide)) (broadcast S1x128 (BitVec.ofNat 32 n))) v acc) vs

/-- A row stored by the unit axis. -/
abbrev asRow (v : FVec F S1x128 .f32) : FVec F S1x128 .f32 := shapeCast S1x128 v (by decide)

/-- The positions at or below the diagonal: rows are keys, columns queries. -/
def causal : IVec S128x128 1 := cmpi .sge (iota .tc S128x128 32 [1] (by decide)) (iota .tc S128x128 32 [0] (by decide))

/-- The products contracting a 64 axis, and a 128 axis. -/
def dotQK : DotDims S128x64 S64x512 S128x512 where
  lhsContracting := [1]
  rhsContracting := [0]
  lhsNonContracting := [0]
  rhsNonContracting := [1]
  lhsBatch := []
  rhsBatch := []
  wf := by decide
def dotPV : DotDims S64x128 S128x512 S64x512 where
  lhsContracting := [1]
  rhsContracting := [0]
  lhsNonContracting := [0]
  rhsNonContracting := [1]
  lhsBatch := []
  rhsBatch := []
  wf := by decide

/-- The named constants. -/
structure Consts (F : FTy → Type) where
  gain : F .f32
  shift : F .f32
  mask : F .f32

/-- The scores of a block: keys by (group, query). -/
def scores (k : Vec F S1x1x128x64 .fp8e4m3) (q : Vec F S1x64x512 .fp8e4m3) : FVec F S128x512 .f32 :=
  matmul dotQK none (shapeCast S128x64 k (by decide) : FVec F S128x64 .fp8e4m3) (shapeCast S64x512 q (by decide) : FVec F S64x512 .fp8e4m3)
    (constant S128x512 .f32 0x00000000#32)

/-- One head's scores capped, before the factor 50. -/
def capped (sc : FVec F S128x512 .f32) (ks : Vec F S1x1x128 .f32) (g : Fin 4) (qs : Vec F S1x128 .f32) : FVec F S128x128 .f32 :=
  tanh (mulf (extractStridedSlice S128x128 ![0, 128 * g.val] sc (by revert g; decide))
    (broadcastTo S128x128 (mulf (mulf qs (shapeCast S1x128 ks (by decide) : FVec F S1x128 .f32)) (broadcast S1x128 (cst 0x3CA3D70A#32))) (by decide)))

/-- The causal mask on the diagonal's block, nothing elsewhere. -/
def masked (C : Consts F) (d : Bool) (t : FVec F S128x128 .f32) : FVec F S128x128 .f32 :=
  match d with
  | false => t
  | true => select causal t (broadcast S128x128 C.mask)

/-- The running maximum after a block. -/
def newMax (m : Vec F S1x128 .f32) (t : FVec F S128x128 .f32) : FVec F S1x128 .f32 :=
  maximumf m (shapeCast S1x128 (multiReduction .maximumf [0] S128 t 0xFF800000#32 (by decide) (.inl rfl) rfl) (by decide))

/-- The factor the old sums take. -/
def decay (C : Consts F) (m m' : FVec F S1x128 .f32) : FVec F S1x128 .f32 :=
  exp2 (mulf (subf m m') (broadcast S1x128 C.gain))

/-- The block's weights. -/
def weights (C : Consts F) (t : FVec F S128x128 .f32) (m' : FVec F S1x128 .f32) : FVec F S128x128 .f32 :=
  exp2 (mulf (subf t (broadcastTo S128x128 (subf m' (broadcast S1x128 C.shift)) (by decide))) (broadcast S128x128 C.gain))

/-- The running sums after a block. -/
def newSum (a : FVec F S1x128 .f32) (l : Vec F S1x8x128 .f32) (p : FVec F S128x128 .f32) : FVec F S8x128 .f32 :=
  addf (mulf (broadcastTo S8x128 a (by decide)) (shapeCast S8x128 l (by decide) : FVec F S8x128 .f32))
    (multiReduction .add [0] S8x128 (shapeCast S16x8x128 p (by decide)) 0x00000000#32 (by decide) (.inl rfl) rfl)

/-- The weights' codes. -/
def pcode (p : FVec F S128x128 .f32) : FVec F S128x128 .fp8e4m3 := truncf .fp8e4m3 (clip p) (by decide)

theorem cat₄ : Shape.Concatenates [S128x128, S128x128, S128x128, S128x128] S128x512 1 := by decide
theorem cat₂ : Shape.Concatenates [S64x128, S64x128] S128x128 0 := by decide

/-- The block's product with v. -/
def mix (v : Vec F S1x64x128 .fp8e4m3) (p₀ p₁ p₂ p₃ : FVec F S128x128 .fp8e4m3) : FVec F S64x512 .f32 :=
  matmul dotPV none (shapeCast S64x128 v (by decide) : FVec F S64x128 .fp8e4m3)
    (concatenate S128x512 1 [⟨S128x128, p₀⟩, ⟨S128x128, p₁⟩, ⟨S128x128, p₂⟩, ⟨S128x128, p₃⟩] cat₄ : FVec F S128x512 .fp8e4m3)
    (constant S64x512 .f32 0x00000000#32)

/-- The accumulator after a block. -/
def newAcc (a : FVec F S1x128 .f32) (o : Vec F S1x64x128 .f32) (x : FVec F S64x512 .f32) (vs : Vec F S1x1x128 .f32) (g : Fin 4) : FVec F S64x128 .f32 :=
  addf (mulf (broadcastTo S64x128 a (by decide)) (shapeCast S64x128 o (by decide) : FVec F S64x128 .f32))
    (mulf (extractStridedSlice S64x128 ![0, 128 * g.val] x (by revert g; decide))
      (broadcastTo S64x128 (shapeCast S1x128 vs (by decide) : FVec F S1x128 .f32) (by decide)))

/-- One head's output, transposed. -/
def quotient (l : Vec F S1x8x128 .f32) (o : Vec F S1x64x128 .f32) : FVec F S64x128 .f32 :=
  divf (shapeCast S64x128 o (by decide) : FVec F S64x128 .f32) (broadcastTo S64x128
    (mulf (shapeCast S1x128 (multiReduction .add [0] S128 (shapeCast S8x128 l (by decide) : FVec F S8x128 .f32) 0x00000000#32 (by decide) (.inl rfl) rfl) (by decide) : FVec F S1x128 .f32)
      (broadcast S1x128 (cst 0x3B800000#32))) (by decide))

/-- Two heads' outputs as stored. -/
def outTile (a b : FVec F S64x128 .f32) : FVec F S1x128x128 .bf16 :=
  shapeCast S1x128x128 (truncf .bf16 (transpose S128x128 [1, 0]
    (concatenate S128x128 0 [⟨S64x128, a⟩, ⟨S64x128, b⟩] cat₂ : FVec F S128x128 .f32) (by decide)) (by decide)) (by decide)

end Pure

/-! ## The body -/

/-- The buffers of a grid point, in the kernel's order. -/
def pack {sig : RefSig} (arg2 : Memref sig .tc .vmem S1x128x2048 .bf16) (arg3 : Memref sig .tc .vmem S1x128x512 .bf16) (arg4 : Memref sig .tc .vmem S1x128x512 .bf16) (arg5 : Memref sig .tc .vmem S1x128x2048 .bf16) (arg6 : Memref sig .tc .vmem S1x128x2048 .fp8e4m3) (arg7 : Memref sig .tc .vmem S1x32x32 .f32) (arg8 : Memref sig .tc .vmem S1x128x512 .fp8e4m3) (arg9 : Memref sig .tc .vmem S1x32x8 .f32) (arg10 : Memref sig .tc .vmem S1x128x512 .fp8e4m3) (arg11 : Memref sig .tc .vmem S1x32x8 .f32) (arg12 : Memref sig .tc .vmem S8x64x512 .fp8e4m3) (arg13 : Memref sig .tc .vmem S32x8x128x64 .fp8e4m3) (arg14 : Memref sig .tc .vmem S32x512x128 .fp8e4m3) (arg15 : Memref sig .tc .vmem S32x128 .f32) (arg16 : Memref sig .tc .vmem S32x8x128 .f32) (arg17 : Memref sig .tc .vmem S32x8x128 .f32) (arg18 : Memref sig .tc .vmem S32x128 .f32) (arg19 : Memref sig .tc .vmem S32x8x128 .f32) (arg20 : Memref sig .tc .vmem S8x64x512 .f32) : Bufs sig
  | 0 => arg2
  | 1 => arg3
  | 2 => arg4
  | 3 => arg5
  | 4 => arg6
  | 5 => arg7
  | 6 => arg8
  | 7 => arg9
  | 8 => arg10
  | 9 => arg11
  | 10 => arg12
  | 11 => arg13
  | 12 => arg14
  | 13 => arg15
  | 14 => arg16
  | 15 => arg17
  | 16 => arg18
  | 17 => arg19
  | 18 => arg20
  | ⟨n + 19, h⟩ => absurd h (by omega)

theorem pack_whole {sig : RefSig} {arg2 : Memref sig .tc .vmem S1x128x2048 .bf16} (harg2 : arg2.IsWhole) {arg3 : Memref sig .tc .vmem S1x128x512 .bf16} (harg3 : arg3.IsWhole) {arg4 : Memref sig .tc .vmem S1x128x512 .bf16} (harg4 : arg4.IsWhole) {arg5 : Memref sig .tc .vmem S1x128x2048 .bf16} (harg5 : arg5.IsWhole) {arg6 : Memref sig .tc .vmem S1x128x2048 .fp8e4m3} (harg6 : arg6.IsWhole) {arg7 : Memref sig .tc .vmem S1x32x32 .f32} (harg7 : arg7.IsWhole) {arg8 : Memref sig .tc .vmem S1x128x512 .fp8e4m3} (harg8 : arg8.IsWhole) {arg9 : Memref sig .tc .vmem S1x32x8 .f32} (harg9 : arg9.IsWhole) {arg10 : Memref sig .tc .vmem S1x128x512 .fp8e4m3} (harg10 : arg10.IsWhole) {arg11 : Memref sig .tc .vmem S1x32x8 .f32} (harg11 : arg11.IsWhole) {arg12 : Memref sig .tc .vmem S8x64x512 .fp8e4m3} (harg12 : arg12.IsWhole) {arg13 : Memref sig .tc .vmem S32x8x128x64 .fp8e4m3} (harg13 : arg13.IsWhole) {arg14 : Memref sig .tc .vmem S32x512x128 .fp8e4m3} (harg14 : arg14.IsWhole) {arg15 : Memref sig .tc .vmem S32x128 .f32} (harg15 : arg15.IsWhole) {arg16 : Memref sig .tc .vmem S32x8x128 .f32} (harg16 : arg16.IsWhole) {arg17 : Memref sig .tc .vmem S32x8x128 .f32} (harg17 : arg17.IsWhole) {arg18 : Memref sig .tc .vmem S32x128 .f32} (harg18 : arg18.IsWhole) {arg19 : Memref sig .tc .vmem S32x8x128 .f32} (harg19 : arg19.IsWhole) {arg20 : Memref sig .tc .vmem S8x64x512 .f32} (harg20 : arg20.IsWhole) :
    ∀ k, (pack arg2 arg3 arg4 arg5 arg6 arg7 arg8 arg9 arg10 arg11 arg12 arg13 arg14 arg15 arg16 arg17 arg18 arg19 arg20 k).IsWhole
  | 0 => harg2
  | 1 => harg3
  | 2 => harg4
  | 3 => harg5
  | 4 => harg6
  | 5 => harg7
  | 6 => harg8
  | 7 => harg9
  | 8 => harg10
  | 9 => harg11
  | 10 => harg12
  | 11 => harg13
  | 12 => harg14
  | 13 => harg15
  | 14 => harg16
  | 15 => harg17
  | 16 => harg18
  | 17 => harg19
  | 18 => harg20
  | ⟨n + 19, h⟩ => absurd h (by omega)

section Body

variable {F : FTy → Type} [FloatOps F] {nD : Nat} {τ : Topo} {sig : RefSig} {Λ : Labels} {A : Bufs sig} (hA : ∀ k, (A k).IsWhole)

local notation "𝔻" => Den F nD τ Λ A

/-- A rectangle stored after the program read it. -/
def put (k : Fin 19) (r : Rect (sh k)) (w : r.shape.Idx → Elt F (el k)) (h : 0 < r.shape.numel) (hp : r.PackedRows (el k).packing) : 𝔻 PUnit := do
  let _ ← Den.load k r h
  Den.store k r w (View.stores_vmem h ((hA k).storeExact_slice rfl r hp) (fun _ => rfl))

/-- Head `2j + u` of 32. -/
def hd (j : Fin 16) (u : Fin 2) : Fin 32 := ⟨2 * j.val + u.val, by omega⟩
/-- Head `2j + u` of 8. -/
def kd (j : Fin 4) (u : Fin 2) : Fin 8 := ⟨2 * j.val + u.val, by omega⟩
/-- Head `4k + g` of 32. -/
def gd (k : Fin 8) (g : Fin 4) : Fin 32 := ⟨4 * k.val + g.val, by omega⟩

theorem row_lt (r : Fin 32) : (Scalar.indexCast (BitVec.ofNat 32 r.val)).toNat < 32 := by revert r; decide

/-- Block `r`'s word. -/
def row (r : Fin 32) : Row := ⟨BitVec.ofNat 32 r.val, row_lt r⟩

/-- A q tile: its codes, transposed codes and scales stored; the scales returned. -/
def qTile (j : Fin 16) : 𝔻 (List (FVec F S1x128 .f32)) := do
  let x : Vec F S1x128x128 .bf16 ← Den.load 0 (rX j) (rX_pos j)
  put hA 4 (rX j) (code8 x) (rX_pos j) (rX_rows j (by decide))
  put hA 10 (rQt (hd j 0)) (shapeCast S1x64x128 (extractStridedSlice S64x128 ![0, 0] (codeT x) (by decide)) (by decide)) (rQt_pos (hd j 0)) (rQt_rows (hd j 0) (by decide))
  put hA 13 (rH (hd j 0)) (asRow (mulf (sL x) (broadcast S1x128 (cst 0x3E000000#32)))) (rH_pos (hd j 0)) (rH_rows (hd j 0))
  put hA 10 (rQt (hd j 1)) (shapeCast S1x64x128 (extractStridedSlice S64x128 ![64, 0] (codeT x) (by decide)) (by decide)) (rQt_pos (hd j 1)) (rQt_rows (hd j 1) (by decide))
  put hA 13 (rH (hd j 1)) (asRow (mulf (sR x) (broadcast S1x128 (cst 0x3E000000#32)))) (rH_pos (hd j 1)) (rH_rows (hd j 1))
  return [sL x, sR x]

/-- A k tile. -/
def kTile (t : Row) (j : Fin 4) : 𝔻 (List (FVec F S1x128 .f32)) := do
  let x : Vec F S1x128x128 .bf16 ← Den.load 1 (rK j) (rK_pos j)
  put hA 6 (rK j) (code8 x) (rK_pos j) (rK_rows j (by decide))
  put hA 11 (rKt t (kd j 0)) (shapeCast S1x1x128x64 (truncf .fp8e4m3 (extractStridedSlice S128x64 ![0, 0] (codes x) (by decide)) (by decide) : FVec F S128x64 .fp8e4m3) (by decide)) (rKt_pos t (kd j 0)) (rKt_rows t (kd j 0) (by decide))
  put hA 14 (rS t (kd j 0)) (shapeCast S1x1x128 (sL x) (by decide)) (rS_pos t (kd j 0)) (rS_rows t (kd j 0))
  put hA 11 (rKt t (kd j 1)) (shapeCast S1x1x128x64 (truncf .fp8e4m3 (extractStridedSlice S128x64 ![0, 64] (codes x) (by decide)) (by decide) : FVec F S128x64 .fp8e4m3) (by decide)) (rKt_pos t (kd j 1)) (rKt_rows t (kd j 1) (by decide))
  put hA 14 (rS t (kd j 1)) (shapeCast S1x1x128 (sR x) (by decide)) (rS_pos t (kd j 1)) (rS_rows t (kd j 1))
  return [sL x, sR x]

/-- A v tile. -/
def vTile (t : Row) (j : Fin 4) : 𝔻 (List (FVec F S1x128 .f32)) := do
  let x : Vec F S1x128x128 .bf16 ← Den.load 2 (rK j) (rK_pos j)
  put hA 8 (rK j) (code8 x) (rK_pos j) (rK_rows j (by decide))
  put hA 12 (rVt t j) (shapeCast S1x128x128 (codeT x) (by decide)) (rVt_pos t j) (rVt_rows t j (by decide))
  put hA 15 (rS t (kd j 0)) (shapeCast S1x1x128 (mulf (sL x) (broadcast S1x128 (cst 0x3B800000#32))) (by decide)) (rS_pos t (kd j 0)) (rS_rows t (kd j 0))
  put hA 15 (rS t (kd j 1)) (shapeCast S1x1x128 (mulf (sR x) (broadcast S1x128 (cst 0x3B800000#32))) (by decide)) (rS_pos t (kd j 1)) (rS_rows t (kd j 1))
  return [sL x, sR x]

/-- The k and v tiles in turn. -/
def kvTile (t : Row) (j : Fin 4) : 𝔻 (List (FVec F S1x128 .f32) × List (FVec F S1x128 .f32)) := do
  let a ← kTile hA t j
  let b ← vTile hA t j
  return (a, b)

/-- One head of one key block: the running maximum and sum updated; the decay and the weights' codes returned. -/
def head (C : Consts F) (d : Bool) (sc : FVec F S128x512 .f32) (ks : Vec F S1x1x128 .f32) (k : Fin 8) (g : Fin 4) :
    𝔻 (FVec F S1x128 .f32 × FVec F S128x128 .fp8e4m3) := do
  let qs : Vec F S1x128 .f32 ← Den.load 13 (rH (gd k g)) (rH_pos (gd k g))
  let m : Vec F S1x128 .f32 ← Den.load 16 (rH (gd k g)) (rH_pos (gd k g))
  put hA 16 (rH (gd k g)) (asRow (newMax m (masked C d (capped sc ks g qs)))) (rH_pos (gd k g)) (rH_rows (gd k g))
  let l : Vec F S1x8x128 .f32 ← Den.load 17 (rL (gd k g)) (rL_pos (gd k g))
  put hA 17 (rL (gd k g)) (shapeCast S1x8x128 (newSum (decay C m (newMax m (masked C d (capped sc ks g qs)))) l
    (weights C (masked C d (capped sc ks g qs)) (newMax m (masked C d (capped sc ks g qs))))) (by decide)) (rL_pos (gd k g)) (rL_rows (gd k g))
  return (decay C m (newMax m (masked C d (capped sc ks g qs))), pcode (weights C (masked C d (capped sc ks g qs)) (newMax m (masked C d (capped sc ks g qs)))))

/-- One head's accumulator. -/
def accum (a : FVec F S1x128 .f32) (x : FVec F S64x512 .f32) (vs : Vec F S1x1x128 .f32) (k : Fin 8) (g : Fin 4) : 𝔻 PUnit := do
  let o : Vec F S1x64x128 .f32 ← Den.load 18 (rQt (gd k g)) (rQt_pos (gd k g))
  put hA 18 (rQt (gd k g)) (shapeCast S1x64x128 (newAcc a o x vs g) (by decide)) (rQt_pos (gd k g)) (rQt_rows (gd k g) (by decide))

/-- One key block for the four heads of one group. -/
def block (C : Consts F) (d : Bool) (t : Row) (k : Fin 8) : 𝔻 PUnit := do
  let kc : Vec F S1x1x128x64 .fp8e4m3 ← Den.load 11 (rKt t k) (rKt_pos t k)
  let qc : Vec F S1x64x512 .fp8e4m3 ← Den.load 10 (rQw k) (rQw_pos k)
  let ks : Vec F S1x1x128 .f32 ← Den.load 14 (rS t k) (rS_pos t k)
  let a₀ ← head hA C d (scores kc qc) ks k 0
  let a₁ ← head hA C d (scores kc qc) ks k 1
  let a₂ ← head hA C d (scores kc qc) ks k 2
  let a₃ ← head hA C d (scores kc qc) ks k 3
  let v : Vec F S1x64x128 .fp8e4m3 ← Den.load 12 (rVh t k) (rVh_pos t k)
  let vs : Vec F S1x1x128 .f32 ← Den.load 15 (rS t k) (rS_pos t k)
  accum hA a₀.1 (mix v a₀.2 a₁.2 a₂.2 a₃.2) vs k 0
  accum hA a₁.1 (mix v a₀.2 a₁.2 a₂.2 a₃.2) vs k 1
  accum hA a₂.1 (mix v a₀.2 a₁.2 a₂.2 a₃.2) vs k 2
  accum hA a₃.1 (mix v a₀.2 a₁.2 a₂.2 a₃.2) vs k 3

/-- One key block for every head. -/
def blocks (C : Consts F) (d : Bool) (t : Row) : 𝔻 PUnit := Den.each_ (block hA C d t) [0, 1, 2, 3, 4, 5, 6, 7]

/-- Two heads divided and stored. -/
def finish (j : Fin 16) : 𝔻 PUnit := do
  let l₀ : Vec F S1x8x128 .f32 ← Den.load 17 (rL (hd j 0)) (rL_pos (hd j 0))
  let o₀ : Vec F S1x64x128 .f32 ← Den.load 18 (rQt (hd j 0)) (rQt_pos (hd j 0))
  let l₁ : Vec F S1x8x128 .f32 ← Den.load 17 (rL (hd j 1)) (rL_pos (hd j 1))
  let o₁ : Vec F S1x64x128 .f32 ← Den.load 18 (rQt (hd j 1)) (rQt_pos (hd j 1))
  put hA 3 (rX j) (outTile (quotient l₀ o₀) (quotient l₁ o₁)) (rX_pos j) (rX_rows j (by decide))

/-- The two loops below the diagonal: all its blocks in one, none in the other. -/
@[reducible] def loop₁ (r : Fin 32) : Scf.Loop 32 :=
  ⟨0#32, Scalar.addi 0#32 (Scalar.muli (Scalar.divsi (Scalar.subi (BitVec.ofNat 32 r.val) 0#32) 1#32) 1#32), 1#32⟩
@[reducible] def loop₂ (r : Fin 32) : Scf.Loop 32 :=
  ⟨Scalar.addi 0#32 (Scalar.muli (Scalar.divsi (Scalar.subi (BitVec.ofNat 32 r.val) 0#32) 1#32) 1#32),
    Scalar.addi 0#32 (Scalar.subi (BitVec.ofNat 32 r.val) 0#32), 1#32⟩

theorem loop₁_trips (r : Fin 32) : (loop₁ r).trips = r.val := by revert r; decide
theorem loop₂_trips (r : Fin 32) : (loop₂ r).trips = 0 := by revert r; decide
theorem loop₁_ok (r : Fin 32) : (loop₁ r).OK := by revert r; decide
theorem loop₂_ok (r : Fin 32) : (loop₂ r).OK := by revert r; decide

theorem iv_lt (n : Nat) (h : n < 32) : (Scalar.indexCast (Scf.iv 0#32 1#32 n)).toNat < 32 := by
  have : ∀ n : Fin 32, (Scalar.indexCast (Scf.iv 0#32 1#32 n.val)).toNat < 32 := by decide
  exact this ⟨n, h⟩

/-- A trip's block. -/
def trip₁ (r : Fin 32) (n : Fin (loop₁ r).trips) : Row :=
  ⟨Scf.iv 0#32 1#32 n.val, iv_lt n.val (by have := n.isLt; have := r.isLt; have := loop₁_trips r; omega)⟩
def trip₂ (r : Fin 32) (n : Fin (loop₂ r).trips) : Row :=
  ⟨Scf.iv (Scalar.addi 0#32 (Scalar.muli (Scalar.divsi (Scalar.subi (BitVec.ofNat 32 r.val) 0#32) 1#32) 1#32)) 1#32 n.val,
    by have := n.isLt; have := loop₂_trips r; omega⟩

/-- What comes before the loops: quantisation, scales, and the running values' starts. -/
def start (r : Fin 32) : 𝔻 PUnit := do
  let qs ← Den.each (qTile hA) [0, 1, 2, 3, 4, 5, 6, 7, 8, 9, 10, 11, 12, 13, 14, 15]
  put hA 5 (rQs (row r)) (shapeCast S1x1x32 (extractStridedSlice S1x32 ![0, 0]
    (gather 0 (broadcast S1x128 (cst 0x00000000#32)) qs.flatten) (by decide)) (by decide)) (rQs_pos (row r)) (rQs_rows (row r))
  let ss ← Den.each (kvTile hA (row r)) [0, 1, 2, 3]
  put hA 7 (rKs (row r)) (shapeCast S1x1x8 (extractStridedSlice S1x8 ![0, 0]
    (gather 0 (broadcast S1x128 (cst 0x00000000#32)) (ss.map (·.1)).flatten) (by decide)) (by decide)) (rKs_pos (row r)) (rKs_rows (row r))
  put hA 9 (rKs (row r)) (shapeCast S1x1x8 (extractStridedSlice S1x8 ![0, 0]
    (gather 0 (broadcast S1x128 (cst 0x00000000#32)) (ss.map (·.2)).flatten) (by decide)) (by decide)) (rKs_pos (row r)) (rKs_rows (row r))
  put hA 16 rM (shapeCast S32x128 (broadcast S32x128 (cst 0xC0000000#32)) (by decide)) rM_pos rM_rows
  put hA 17 rLw (shapeCast S32x8x128 (broadcast S32x8x128 (cst 0x00000000#32)) (by decide)) rLw_pos rLw_rows
  put hA 18 rO (shapeCast S8x64x512 (broadcast S8x64x512 (cst 0x00000000#32)) (by decide)) rO_pos rO_rows

/-- The body at query block `r`. -/
def body (C : Consts F) (r : Fin 32) : 𝔻 PUnit := do
  start hA r
  Den.loop (loop₁ r) (loop₁_ok r) fun n => blocks hA C false (trip₁ r n)
  Den.loop (loop₂ r) (loop₂_ok r) fun n => blocks hA C false (trip₂ r n)
  blocks hA C true (row r)
  Den.each_ (finish hA) [0, 1, 2, 3, 4, 5, 6, 7, 8, 9, 10, 11, 12, 13, 14, 15]

end Body

end Attn

end
-- ==== Proof.BodyKernel.lean ====
/-
  The printed body is the model of `Model`.
-/
module

public import proofs.«01_k».proof.Proof.Model
public import proofs.«01_k».proof.Proof.Gen.Kernel
public import Idealize.ShloMosaic.Lib.Pipeline.Regions

@[expose] public section

set_option synthInstance.maxSize 4096
set_option maxRecDepth 100000

noncomputable section

namespace Cert.Kernel.Gen

open Idealize.ShloMosaic Idealize.ShloMosaic.TcCoe Idealize.SL.Sem Cert.Kernel

variable {F : FTy → Type} [FloatOps F]

/-- The program's constants. -/
def consts : Attn.Consts F := ⟨Scalar.ofBits .f32 0x429044FE#32, Scalar.ofBits .f32 0x3DE32166#32, Scalar.ofBits .f32 0xF149F2CA#32⟩

set_option maxHeartbeats 4000000 in
/-- The kernel's body at a grid point is the model's at its second coordinate. -/
theorem body_eq [Facts] (i : grid0.Coords) {arg2 : Memref sig .tc .vmem S1x128x2048 .bf16} (harg2 : arg2.IsWhole) {arg3 : Memref sig .tc .vmem S1x128x512 .bf16} (harg3 : arg3.IsWhole) {arg4 : Memref sig .tc .vmem S1x128x512 .bf16} (harg4 : arg4.IsWhole) {arg5 : Memref sig .tc .vmem S1x128x2048 .bf16} (harg5 : arg5.IsWhole) {arg6 : Memref sig .tc .vmem S1x128x2048 .fp8e4m3} (harg6 : arg6.IsWhole) {arg7 : Memref sig .tc .vmem S1x32x32 .f32} (harg7 : arg7.IsWhole) {arg8 : Memref sig .tc .vmem S1x128x512 .fp8e4m3} (harg8 : arg8.IsWhole) {arg9 : Memref sig .tc .vmem S1x32x8 .f32} (harg9 : arg9.IsWhole) {arg10 : Memref sig .tc .vmem S1x128x512 .fp8e4m3} (harg10 : arg10.IsWhole) {arg11 : Memref sig .tc .vmem S1x32x8 .f32} (harg11 : arg11.IsWhole) {arg12 : Memref sig .tc .vmem S8x64x512 .fp8e4m3} (harg12 : arg12.IsWhole) {arg13 : Memref sig .tc .vmem S32x8x128x64 .fp8e4m3} (harg13 : arg13.IsWhole) {arg14 : Memref sig .tc .vmem S32x512x128 .fp8e4m3} (harg14 : arg14.IsWhole) {arg15 : Memref sig .tc .vmem S32x128 .f32} (harg15 : arg15.IsWhole) {arg16 : Memref sig .tc .vmem S32x8x128 .f32} (harg16 : arg16.IsWhole) {arg17 : Memref sig .tc .vmem S32x8x128 .f32} (harg17 : arg17.IsWhole) {arg18 : Memref sig .tc .vmem S32x128 .f32} (harg18 : arg18.IsWhole) {arg19 : Memref sig .tc .vmem S32x8x128 .f32} (harg19 : arg19.IsWhole) {arg20 : Memref sig .tc .vmem S8x64x512 .f32} (harg20 : arg20.IsWhole) :
    (cc0_fp8_softcap_causal_gqa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
      = (Attn.body (nD := nD) (τ := τ) (Λ := Λ₀) (Attn.pack_whole harg2 harg3 harg4 harg5 harg6 harg7 harg8 harg9 harg10 harg11 harg12 harg13 harg14 harg15 harg16 harg17 harg18 harg19 harg20) (consts (F := F)) (i 1)).prog := by
  unfold cc0_fp8_softcap_causal_gqa k0_part232 k0_part170
  delta cc0_fp8_softcap_causal_gqa.match_1 cc0_fp8_softcap_causal_gqa.match_3 k0_part231.match_1
    k0_part231.match_75 k0_part231.match_15 k0_part231.match_13 k0_part231.match_33 k0_part231.match_37
    k0_part231.match_53 k0_part232.match_1 k0_part232.match_3 k0_part232.match_5 k0_part232.match_7
    k0_part232.match_9 k0_part232.match_11 k0_part232.match_13 k0_part232.match_15 k0_part232.match_17
    k0_part232.match_19 k0_part232.match_21 k0_part232.match_23 k0_part232.match_25 k0_part232.match_27
    k0_part232.match_29 k0_part232.match_31 k0_part232.match_33 k0_part232.match_35 k0_part232.match_37
    k0_part232.match_39 k0_part232.match_41 k0_part232.match_43 k0_part232.match_45 k0_part232.match_47
    k0_part232.match_49 k0_part232.match_51 k0_part232.match_53 k0_part232.match_55 k0_part232.match_57
    k0_part232.match_59 k0_part232.match_61 k0_part232.match_63 k0_part232.match_65 k0_part232.match_67
    k0_part232.match_69 k0_part232.match_71 k0_part232.match_73 k0_part232.match_75 k0_part232.match_77
    k0_part232.match_79 k0_part232.match_81
  simp only [bind_assoc, Attn.psig]
  chain_rfl

end Cert.Kernel.Gen

end
-- ==== Proof.RunKernel.lean ====
/-
  The run of the kernel from its body: given a property of the four arrays of codes and scales that
  the body keeps along the grid, and a relation of each output window's contents before and after
  the body that it establishes, every execution ends with the windows' arrays as that relation says.
-/
module

public import proofs.«01_k».proof.Proof.BodyKernel
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of a grid point. -/
def bufs (t : Fin cfg0.N) : Attn.Bufs sig := Attn.pack (st0_0 t) (st0_1 t) (st0_2 t) (st0_3 t) (st0_4 t) (st0_5 t) (st0_6 t) (st0_7 t) (st0_8 t) (st0_9 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8)

theorem bufs_whole (t : Fin cfg0.N) : ∀ k, (bufs t k).IsWhole := Attn.pack_whole (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)

/-- What a point's body computes. -/
def run (t : Fin cfg0.N) (S : Attn.St F) : Attn.St F :=
  ((Attn.body (nD := nD) (τ := τ) (Λ := Λ₀) (bufs_whole t) (consts (F := F)) (grid0.coords t 1)).run S).2

theorem bodyAt_eq (t : Fin cfg0.N) :
    bodyAt0 (F := F) t = (Attn.body (nD := nD) (τ := τ) (Λ := Λ₀) (bufs_whole t) (consts (F := F)) (grid0.coords t 1)).prog :=
  body_eq _ (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)

/-- What is said of the run: `inv n` of the arrays of k codes, v codes, k scales and v scales before point `n`;
    `out k t Y X` of output buffer `k` at `Y` before the body at point `t` and at `X` after it. -/
structure Rel (F : FTy → Type) where
  inv : ℕ → Vec F Attn.S32x8x128x64 .fp8e4m3 → Vec F Attn.S32x512x128 .fp8e4m3 → Vec F Attn.S32x8x128 .f32 → Vec F Attn.S32x8x128 .f32 → Prop
  out : (k : Fin 19) → Fin cfg0.N → (Y X : Vec F (Attn.sh k) (Attn.el k)) → Prop

/-- The arrays between two points. -/
def scratch (R : Rel F) (c : Dev nD) (n : ℕ) : sProp 𝕄 :=
  iprop(∃ f0 f1 f2 f3 f4 f5 f6 f7 f8, ⌜R.inv n f1 f2 f4 f5⌝ ∗ owns (c : Thread nD τ) (Memref.whole cc0_scratch0) fullShare f0 ∗ owns (c : Thread nD τ) (Memref.whole cc0_scratch1) fullShare f1 ∗ owns (c : Thread nD τ) (Memref.whole cc0_scratch2) fullShare f2 ∗ owns (c : Thread nD τ) (Memref.whole cc0_scratch3) fullShare f3 ∗ owns (c : Thread nD τ) (Memref.whole cc0_scratch4) fullShare f4 ∗ owns (c : Thread nD τ) (Memref.whole cc0_scratch5) fullShare f5 ∗ owns (c : Thread nD τ) (Memref.whole cc0_scratch6) fullShare f6 ∗ owns (c : Thread nD τ) (Memref.whole cc0_scratch7) fullShare f7 ∗ owns (c : Thread nD τ) (Memref.whole cc0_scratch8) fullShare f8)

/-- The proof data: the inputs unchanged, the outputs as `R` says. -/
def rdat (R : Rel F) (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => R.out 3 t Y X
    | ⟨4, _⟩ => fun Y X => R.out 4 t Y X
    | ⟨5, _⟩ => fun Y X => R.out 5 t Y X
    | ⟨6, _⟩ => fun Y X => R.out 6 t Y X
    | ⟨7, _⟩ => fun Y X => R.out 7 t Y X
    | ⟨8, _⟩ => fun Y X => R.out 8 t Y X
    | ⟨9, _⟩ => fun Y X => R.out 9 t Y X
  Φ n := iprop(scratch R c n.val ∗ ∃ r, prngReg c r)
  q _ := fullShare
  owed _ := 0

/-- The body keeps the property and establishes the relation, at every point whose input windows hold their blocks. -/
def Holds (R : Rel F) : Prop := ∀ (c : Dev nD) (t : Fin cfg0.N) (S : Attn.St F),
  S 0 = iblk m c 0 t → S 1 = iblk m c 1 t → S 2 = iblk m c 2 t →
  R.inv t.val (S 11) (S 12) (S 14) (S 15) →
    (run t S 0 = S 0 ∧ run t S 1 = S 1 ∧ run t S 2 = S 2)
    ∧ R.inv (t.val + 1) (run t S 11) (run t S 12) (run t S 14) (run t S 15)
    ∧ ∀ k : Fin 19, 3 ≤ k.val → k.val < 10 → R.out k t (S k) (run t S k)

/-- The windows' contents and the scratch arrays' as one state. -/
def join (Y : (w : Fin cfg0.W) → (cfg0.win w).block.Idx → Elt F (cfg0.win w).elt)
    (f0 : Vec F (Attn.sh 10) (Attn.el 10)) (f1 : Vec F (Attn.sh 11) (Attn.el 11)) (f2 : Vec F (Attn.sh 12) (Attn.el 12)) (f3 : Vec F (Attn.sh 13) (Attn.el 13)) (f4 : Vec F (Attn.sh 14) (Attn.el 14)) (f5 : Vec F (Attn.sh 15) (Attn.el 15)) (f6 : Vec F (Attn.sh 16) (Attn.el 16)) (f7 : Vec F (Attn.sh 17) (Attn.el 17)) (f8 : Vec F (Attn.sh 18) (Attn.el 18)) : Attn.St F
  | 0 => Y 0
  | 1 => Y 1
  | 2 => Y 2
  | 3 => Y 3
  | 4 => Y 4
  | 5 => Y 5
  | 6 => Y 6
  | 7 => Y 7
  | 8 => Y 8
  | 9 => Y 9
  | 10 => f0
  | 11 => f1
  | 12 => f2
  | 13 => f3
  | 14 => f4
  | 15 => f5
  | 16 => f6
  | 17 => f7
  | 18 => f8
  | ⟨n + 19, h⟩ => absurd h (Nat.not_lt.2 (Nat.le_add_left _ _))

/-- The state's buffers one by one. -/
theorem own_eq (t : Fin cfg0.N) (c : Dev nD) (S : Attn.St F) : (Attn.Own (τ := τ) (bufs t) c S : sProp 𝕄) =
    iprop(owns (c : Thread nD τ) (st0_0 t) fullShare (S 0) ∗ owns (c : Thread nD τ) (st0_1 t) fullShare (S 1) ∗ owns (c : Thread nD τ) (st0_2 t) fullShare (S 2) ∗ owns (c : Thread nD τ) (st0_3 t) fullShare (S 3) ∗ owns (c : Thread nD τ) (st0_4 t) fullShare (S 4) ∗ owns (c : Thread nD τ) (st0_5 t) fullShare (S 5) ∗ owns (c : Thread nD τ) (st0_6 t) fullShare (S 6) ∗ owns (c : Thread nD τ) (st0_7 t) fullShare (S 7) ∗ owns (c : Thread nD τ) (st0_8 t) fullShare (S 8) ∗ owns (c : Thread nD τ) (st0_9 t) fullShare (S 9) ∗ owns (c : Thread nD τ) (Memref.whole cc0_scratch0) fullShare (S 10) ∗ owns (c : Thread nD τ) (Memref.whole cc0_scratch1) fullShare (S 11) ∗ owns (c : Thread nD τ) (Memref.whole cc0_scratch2) fullShare (S 12) ∗ owns (c : Thread nD τ) (Memref.whole cc0_scratch3) fullShare (S 13) ∗ owns (c : Thread nD τ) (Memref.whole cc0_scratch4) fullShare (S 14) ∗ owns (c : Thread nD τ) (Memref.whole cc0_scratch5) fullShare (S 15) ∗ owns (c : Thread nD τ) (Memref.whole cc0_scratch6) fullShare (S 16) ∗ owns (c : Thread nD τ) (Memref.whole cc0_scratch7) fullShare (S 17) ∗ owns (c : Thread nD τ) (Memref.whole cc0_scratch8) fullShare (S 18)) :=
  bigSep_univ_eq_bigSepL [(0 : Fin 19), (1 : Fin 19), (2 : Fin 19), (3 : Fin 19), (4 : Fin 19), (5 : Fin 19), (6 : Fin 19), (7 : Fin 19), (8 : Fin 19), (9 : Fin 19), (10 : Fin 19), (11 : Fin 19), (12 : Fin 19), (13 : Fin 19), (14 : Fin 19), (15 : Fin 19), (16 : Fin 19), (17 : Fin 19), (18 : Fin 19)] (by decide) (by decide) _

theorem finds_in (R : Rel F) (c : Dev nD) (w : Fin cfg0.W) (hw : (cfg0.win w).isOut = false)
    (hc : ∀ t t' : Fin cfg0.N, (cfg0.win w).index t = (cfg0.win w).index t' →
      (cfg0.win w).clip (cfg0.grid.coords t) = (cfg0.win w).clip (cfg0.grid.coords t'))
    (hk : ∀ t Y X, (rdat m R c).after w t Y X → X = Y) (t : Fin cfg0.N) (Y) (h : (rdat m R c).Finds w t Y) :
    ∃ d, Y = (rdat m R c).fetched w t d :=
  (rdat m R c).finds_in_eq_fetched w hw hc hk t Y h

set_option maxHeartbeats 1000000 in
/-- The body obligation. -/
theorem rbody (R : Rel F) (hR : Holds m R) (c : Dev nD) :
    (rdat m R c).BodyObligation (defs₀ (F := F)) Variants.none () Set.univ := by
  intro t Y hY
  have row : defs₀ (F := F) .tc cfg0.body (cfg0.bodyArgs t (cfg0.slots t)) = bodyAt0 t := by
    unfold defs₀; rw [Defs.onTc_tc]
  obtain ⟨d0, h0⟩ := finds_in m R c 0 rfl (fun _ _ _ => rfl) (fun _ _ _ h => h) t _ (hY 0)
  obtain ⟨d1, h1⟩ := finds_in m R c 1 rfl (fun _ _ _ => rfl) (fun _ _ _ h => h) t _ (hY 1)
  obtain ⟨d2, h2⟩ := finds_in m R c 2 rfl (fun _ _ _ => rfl) (fun _ _ _ h => h) t _ (hY 2)
  rw [bigSep_W0, bigSep_W0, row, bodyAt_eq]
  iintro ⟨HΦ, Ho, HW⟩
  ihave HS := (show (rdat m R c).Φ t.castSucc ⊢ iprop((∃ f0 f1 f2 f3 f4 f5 f6 f7 f8, ⌜R.inv t.val f1 f2 f4 f5⌝ ∗ owns (c : Thread nD τ) (Memref.whole cc0_scratch0) fullShare f0 ∗ owns (c : Thread nD τ) (Memref.whole cc0_scratch1) fullShare f1 ∗ owns (c : Thread nD τ) (Memref.whole cc0_scratch2) fullShare f2 ∗ owns (c : Thread nD τ) (Memref.whole cc0_scratch3) fullShare f3 ∗ owns (c : Thread nD τ) (Memref.whole cc0_scratch4) fullShare f4 ∗ owns (c : Thread nD τ) (Memref.whole cc0_scratch5) fullShare f5 ∗ owns (c : Thread nD τ) (Memref.whole cc0_scratch6) fullShare f6 ∗ owns (c : Thread nD τ) (Memref.whole cc0_scratch7) fullShare f7 ∗ owns (c : Thread nD τ) (Memref.whole cc0_scratch8) fullShare f8) ∗ ∃ r, prngReg c r) from .rfl) $$ HΦ
  icases HS with ⟨⟨%f0, %f1, %f2, %f3, %f4, %f5, %f6, %f7, %f8, %hI, HS⟩, HG⟩
  have H := hR c t (join Y f0 f1 f2 f3 f4 f5 f6 f7 f8) h0 h1 h2 hI
  obtain ⟨⟨e0, e1, e2⟩, hI', ho⟩ := H
  iapply ((Attn.body (nD := nD) (τ := τ) (Λ := Λ₀) (bufs_whole t) (consts (F := F)) (grid0.coords t 1)).sound defs₀ c (join Y f0 f1 f2 f3 f4 f5 f6 f7 f8))
  rw [own_eq, own_eq]
  isplitl [HW HS]
  · icases HW with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iintro ⟨H0, H1, H2, H3, H4, H5, H6, H7, H8, H9, HS⟩
  isplitl [HS HG]
  · iapply (show iprop((∃ f0 f1 f2 f3 f4 f5 f6 f7 f8, ⌜R.inv (t.val + 1) f1 f2 f4 f5⌝ ∗ owns (c : Thread nD τ) (Memref.whole cc0_scratch0) fullShare f0 ∗ owns (c : Thread nD τ) (Memref.whole cc0_scratch1) fullShare f1 ∗ owns (c : Thread nD τ) (Memref.whole cc0_scratch2) fullShare f2 ∗ owns (c : Thread nD τ) (Memref.whole cc0_scratch3) fullShare f3 ∗ owns (c : Thread nD τ) (Memref.whole cc0_scratch4) fullShare f4 ∗ owns (c : Thread nD τ) (Memref.whole cc0_scratch5) fullShare f5 ∗ owns (c : Thread nD τ) (Memref.whole cc0_scratch6) fullShare f6 ∗ owns (c : Thread nD τ) (Memref.whole cc0_scratch7) fullShare f7 ∗ owns (c : Thread nD τ) (Memref.whole cc0_scratch8) fullShare f8) ∗ ∃ r, prngReg c r) ⊢ (rdat m R c).Φ t.succ from .rfl)
    isplitl [HS]
    · iexists _; iexists _; iexists _; iexists _; iexists _; iexists _; iexists _; iexists _; iexists _
      isplitr; swap; · iexact HS
      ipureintro; exact hI'
    iexact HG
  isplitl [Ho]; · iexact Ho
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact (ho 3 (by decide) (by decide))
  isplitl [H4]
  · iexists _; isplitr; swap; · iexact H4
    ipureintro; exact (ho 4 (by decide) (by decide))
  isplitl [H5]
  · iexists _; isplitr; swap; · iexact H5
    ipureintro; exact (ho 5 (by decide) (by decide))
  isplitl [H6]
  · iexists _; isplitr; swap; · iexact H6
    ipureintro; exact (ho 6 (by decide) (by decide))
  isplitl [H7]
  · iexists _; isplitr; swap; · iexact H7
    ipureintro; exact (ho 7 (by decide) (by decide))
  isplitl [H8]
  · iexists _; isplitr; swap; · iexact H8
    ipureintro; exact (ho 8 (by decide) (by decide))
  iexists _; isplitr; swap; · iexact H9
  ipureintro; exact (ho 9 (by decide) (by decide))

set_option backward.isDefEq.respectTransparency.types false in
set_option maxHeartbeats 800000 in
/-- Every execution ends, with the windows' arrays as `R` says and every semaphore at zero. -/
theorem run_rel (R : Rel F) (hR : Holds m R) (h0 : ∀ a b c d, R.inv 0 a b c d) :
    θ_run defs (onTc (τ := τ) (main (F := F))) (s₀ m ρ)
      (fun r => RDat.FramePost cfg0 (rdat m R) (V m) r ∧ r.2.sem = fun _ => 0) :=
  Pipeline.RDat.θ_run_frame_track (Q' := _) cfgs (0 : Fin 1) launch0 defs₀ Variants.none (rdat m R) m ρ main
    (hbody := rbody m R hR) (hshare := fun c w => by unfold RDat.share; split <;> rfl)
    (howed := fun _ _ => rfl) (V := V m) (hmain := hmain m Variants.none) (hA := fun _ _ => rfl)
    (hin := fun c => by
      show Pipeline.ΦA spec0 c ⊢ iprop(scratch R c 0 ∗ ∃ r, prngReg c r)
      unfold Pipeline.ΦA
      rw [scopedRest0_eq]
      unfold scratch
      simp only [owns_whole_eq]
      iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, HG⟩
      isplitr [HG]; swap; · iexact HG
      iexists f0; iexists f1; iexists f2; iexists f3; iexists f4; iexists f5; iexists f6; iexists f7; iexists f8
      isplitr; · ipureintro; exact h0 _ _ _ _
      isplitl [H0]
      · iexists f0; isplitr; swap; · iexact H0
        ipureintro; rfl
      isplitl [H1]
      · iexists f1; isplitr; swap; · iexact H1
        ipureintro; rfl
      isplitl [H2]
      · iexists f2; isplitr; swap; · iexact H2
        ipureintro; rfl
      isplitl [H3]
      · iexists f3; isplitr; swap; · iexact H3
        ipureintro; rfl
      isplitl [H4]
      · iexists f4; isplitr; swap; · iexact H4
        ipureintro; rfl
      isplitl [H5]
      · iexists f5; isplitr; swap; · iexact H5
        ipureintro; rfl
      isplitl [H6]
      · iexists f6; isplitr; swap; · iexact H6
        ipureintro; rfl
      isplitl [H7]
      · iexists f7; isplitr; swap; · iexact H7
        ipureintro; rfl
      iexists f8; isplitr; swap; · iexact H8
      ipureintro; rfl)
    (hout := fun c => by
      show iprop(scratch R c (Fin.last cfg0.N).val ∗ ∃ r, prngReg c r) ⊢ Pipeline.ΦA spec0 c
      unfold Pipeline.ΦA
      rw [scopedRest0_eq]
      unfold scratch
      simp only [owns_whole_eq]
      iintro ⟨⟨%g0, %g1, %g2, %g3, %g4, %g5, %g6, %g7, %g8, -, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩⟩, HG⟩
      isplitr [HG]; swap; · iexact HG
      isplitl [H0]; · iexists f0; iexact H0
      isplitl [H1]; · iexists f1; iexact H1
      isplitl [H2]; · iexists f2; iexact H2
      isplitl [H3]; · iexists f3; iexact H3
      isplitl [H4]; · iexists f4; iexact H4
      isplitl [H5]; · iexists f5; iexact H5
      isplitl [H6]; · iexists f6; iexact H6
      isplitl [H7]; · iexists f7; iexact H7
      iexists f8; iexact H8)

/-- The arguments end unchanged and the semaphores at zero. -/
theorem frame_rel (R : Rel F) (hR : Holds m R) (h0 : ∀ a b c d, R.inv 0 a b c d) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨h.1.arr_in c 0 rfl, h.1.arr_in c 1 rfl, h.1.arr_in c 2 rfl⟩, h.2⟩) (run_rel m ρ R hR h0)

end Cert.Kernel.Gen

end
-- ==== Proof.BodyKernelIdeal.lean ====
/-
  The printed body is the model of `Model`.
-/
module

public import proofs.«01_k».proof.Proof.Model
public import proofs.«01_k».proof.Proof.Gen.KernelIdeal
public import Idealize.ShloMosaic.Lib.Pipeline.Regions

@[expose] public section

set_option synthInstance.maxSize 4096
set_option maxRecDepth 100000

noncomputable section

namespace Cert.KernelIdeal.Gen

open Idealize.ShloMosaic Idealize.ShloMosaic.TcCoe Idealize.SL.Sem Cert.KernelIdeal

variable {F : FTy → Type} [FloatOps F] [Named F]

/-- The program's constants. -/
def consts : Attn.Consts F := ⟨Named.named κ "gain" 0x429044FE#32, Named.named κ "shift" 0x3DE32166#32, Named.named κ "mask" 0xF149F2CA#32⟩

set_option maxHeartbeats 4000000 in
/-- The kernel's body at a grid point is the model's at its second coordinate. -/
theorem body_eq [Facts] (i : grid0.Coords) {arg2 : Memref sig .tc .vmem S1x128x2048 .bf16} (harg2 : arg2.IsWhole) {arg3 : Memref sig .tc .vmem S1x128x512 .bf16} (harg3 : arg3.IsWhole) {arg4 : Memref sig .tc .vmem S1x128x512 .bf16} (harg4 : arg4.IsWhole) {arg5 : Memref sig .tc .vmem S1x128x2048 .bf16} (harg5 : arg5.IsWhole) {arg6 : Memref sig .tc .vmem S1x128x2048 .fp8e4m3} (harg6 : arg6.IsWhole) {arg7 : Memref sig .tc .vmem S1x32x32 .f32} (harg7 : arg7.IsWhole) {arg8 : Memref sig .tc .vmem S1x128x512 .fp8e4m3} (harg8 : arg8.IsWhole) {arg9 : Memref sig .tc .vmem S1x32x8 .f32} (harg9 : arg9.IsWhole) {arg10 : Memref sig .tc .vmem S1x128x512 .fp8e4m3} (harg10 : arg10.IsWhole) {arg11 : Memref sig .tc .vmem S1x32x8 .f32} (harg11 : arg11.IsWhole) {arg12 : Memref sig .tc .vmem S8x64x512 .fp8e4m3} (harg12 : arg12.IsWhole) {arg13 : Memref sig .tc .vmem S32x8x128x64 .fp8e4m3} (harg13 : arg13.IsWhole) {arg14 : Memref sig .tc .vmem S32x512x128 .fp8e4m3} (harg14 : arg14.IsWhole) {arg15 : Memref sig .tc .vmem S32x128 .f32} (harg15 : arg15.IsWhole) {arg16 : Memref sig .tc .vmem S32x8x128 .f32} (harg16 : arg16.IsWhole) {arg17 : Memref sig .tc .vmem S32x8x128 .f32} (harg17 : arg17.IsWhole) {arg18 : Memref sig .tc .vmem S32x128 .f32} (harg18 : arg18.IsWhole) {arg19 : Memref sig .tc .vmem S32x8x128 .f32} (harg19 : arg19.IsWhole) {arg20 : Memref sig .tc .vmem S8x64x512 .f32} (harg20 : arg20.IsWhole) :
    (cc0_fp8_softcap_causal_gqa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
      = (Attn.body (nD := nD) (τ := τ) (Λ := Λ₀) (Attn.pack_whole harg2 harg3 harg4 harg5 harg6 harg7 harg8 harg9 harg10 harg11 harg12 harg13 harg14 harg15 harg16 harg17 harg18 harg19 harg20) (consts (F := F)) (i 1)).prog := by
  unfold cc0_fp8_softcap_causal_gqa k0_part232 k0_part170
  delta cc0_fp8_softcap_causal_gqa.match_1 cc0_fp8_softcap_causal_gqa.match_3 k0_part231.match_1
    k0_part231.match_75 k0_part231.match_15 k0_part231.match_13 k0_part231.match_33 k0_part231.match_37
    k0_part231.match_53 k0_part232.match_1 k0_part232.match_3 k0_part232.match_5 k0_part232.match_7
    k0_part232.match_9 k0_part232.match_11 k0_part232.match_13 k0_part232.match_15 k0_part232.match_17
    k0_part232.match_19 k0_part232.match_21 k0_part232.match_23 k0_part232.match_25 k0_part232.match_27
    k0_part232.match_29 k0_part232.match_31 k0_part232.match_33 k0_part232.match_35 k0_part232.match_37
    k0_part232.match_39 k0_part232.match_41 k0_part232.match_43 k0_part232.match_45 k0_part232.match_47
    k0_part232.match_49 k0_part232.match_51 k0_part232.match_53 k0_part232.match_55 k0_part232.match_57
    k0_part232.match_59 k0_part232.match_61 k0_part232.match_63 k0_part232.match_65 k0_part232.match_67
    k0_part232.match_69 k0_part232.match_71 k0_part232.match_73 k0_part232.match_75 k0_part232.match_77
    k0_part232.match_79 k0_part232.match_81
  simp only [bind_assoc, Attn.psig]
  chain_rfl

end Cert.KernelIdeal.Gen

end
-- ==== Proof.RunKernelIdeal.lean ====
/-
  The run of the kernel from its body: given a property of the four arrays of codes and scales that
  the body keeps along the grid, and a relation of each output window's contents before and after
  the body that it establishes, every execution ends with the windows' arrays as that relation says.
-/
module

public import proofs.«01_k».proof.Proof.BodyKernelIdeal
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of a grid point. -/
def bufs (t : Fin cfg0.N) : Attn.Bufs sig := Attn.pack (st0_0 t) (st0_1 t) (st0_2 t) (st0_3 t) (st0_4 t) (st0_5 t) (st0_6 t) (st0_7 t) (st0_8 t) (st0_9 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8)

theorem bufs_whole (t : Fin cfg0.N) : ∀ k, (bufs t k).IsWhole := Attn.pack_whole (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)

/-- What a point's body computes. -/
def run (t : Fin cfg0.N) (S : Attn.St F) : Attn.St F :=
  ((Attn.body (nD := nD) (τ := τ) (Λ := Λ₀) (bufs_whole t) (consts (F := F)) (grid0.coords t 1)).run S).2

theorem bodyAt_eq (t : Fin cfg0.N) :
    bodyAt0 (F := F) t = (Attn.body (nD := nD) (τ := τ) (Λ := Λ₀) (bufs_whole t) (consts (F := F)) (grid0.coords t 1)).prog :=
  body_eq _ (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)

/-- What is said of the run: `inv n` of the arrays of k codes, v codes, k scales and v scales before point `n`;
    `out k t Y X` of output buffer `k` at `Y` before the body at point `t` and at `X` after it. -/
structure Rel (F : FTy → Type) where
  inv : ℕ → Vec F Attn.S32x8x128x64 .fp8e4m3 → Vec F Attn.S32x512x128 .fp8e4m3 → Vec F Attn.S32x8x128 .f32 → Vec F Attn.S32x8x128 .f32 → Prop
  out : (k : Fin 19) → Fin cfg0.N → (Y X : Vec F (Attn.sh k) (Attn.el k)) → Prop

/-- The arrays between two points. -/
def scratch (R : Rel F) (c : Dev nD) (n : ℕ) : sProp 𝕄 :=
  iprop(∃ f0 f1 f2 f3 f4 f5 f6 f7 f8, ⌜R.inv n f1 f2 f4 f5⌝ ∗ owns (c : Thread nD τ) (Memref.whole cc0_scratch0) fullShare f0 ∗ owns (c : Thread nD τ) (Memref.whole cc0_scratch1) fullShare f1 ∗ owns (c : Thread nD τ) (Memref.whole cc0_scratch2) fullShare f2 ∗ owns (c : Thread nD τ) (Memref.whole cc0_scratch3) fullShare f3 ∗ owns (c : Thread nD τ) (Memref.whole cc0_scratch4) fullShare f4 ∗ owns (c : Thread nD τ) (Memref.whole cc0_scratch5) fullShare f5 ∗ owns (c : Thread nD τ) (Memref.whole cc0_scratch6) fullShare f6 ∗ owns (c : Thread nD τ) (Memref.whole cc0_scratch7) fullShare f7 ∗ owns (c : Thread nD τ) (Memref.whole cc0_scratch8) fullShare f8)

/-- The proof data: the inputs unchanged, the outputs as `R` says. -/
def rdat (R : Rel F) (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => R.out 3 t Y X
    | ⟨4, _⟩ => fun Y X => R.out 4 t Y X
    | ⟨5, _⟩ => fun Y X => R.out 5 t Y X
    | ⟨6, _⟩ => fun Y X => R.out 6 t Y X
    | ⟨7, _⟩ => fun Y X => R.out 7 t Y X
    | ⟨8, _⟩ => fun Y X => R.out 8 t Y X
    | ⟨9, _⟩ => fun Y X => R.out 9 t Y X
  Φ n := iprop(scratch R c n.val ∗ ∃ r, prngReg c r)
  q _ := fullShare
  owed _ := 0

/-- The body keeps the property and establishes the relation, at every point whose input windows hold their blocks. -/
def Holds (R : Rel F) : Prop := ∀ (c : Dev nD) (t : Fin cfg0.N) (S : Attn.St F),
  S 0 = iblk m c 0 t → S 1 = iblk m c 1 t → S 2 = iblk m c 2 t →
  R.inv t.val (S 11) (S 12) (S 14) (S 15) →
    (run t S 0 = S 0 ∧ run t S 1 = S 1 ∧ run t S 2 = S 2)
    ∧ R.inv (t.val + 1) (run t S 11) (run t S 12) (run t S 14) (run t S 15)
    ∧ ∀ k : Fin 19, 3 ≤ k.val → k.val < 10 → R.out k t (S k) (run t S k)

/-- The windows' contents and the scratch arrays' as one state. -/
def join (Y : (w : Fin cfg0.W) → (cfg0.win w).block.Idx → Elt F (cfg0.win w).elt)
    (f0 : Vec F (Attn.sh 10) (Attn.el 10)) (f1 : Vec F (Attn.sh 11) (Attn.el 11)) (f2 : Vec F (Attn.sh 12) (Attn.el 12)) (f3 : Vec F (Attn.sh 13) (Attn.el 13)) (f4 : Vec F (Attn.sh 14) (Attn.el 14)) (f5 : Vec F (Attn.sh 15) (Attn.el 15)) (f6 : Vec F (Attn.sh 16) (Attn.el 16)) (f7 : Vec F (Attn.sh 17) (Attn.el 17)) (f8 : Vec F (Attn.sh 18) (Attn.el 18)) : Attn.St F
  | 0 => Y 0
  | 1 => Y 1
  | 2 => Y 2
  | 3 => Y 3
  | 4 => Y 4
  | 5 => Y 5
  | 6 => Y 6
  | 7 => Y 7
  | 8 => Y 8
  | 9 => Y 9
  | 10 => f0
  | 11 => f1
  | 12 => f2
  | 13 => f3
  | 14 => f4
  | 15 => f5
  | 16 => f6
  | 17 => f7
  | 18 => f8
  | ⟨n + 19, h⟩ => absurd h (Nat.not_lt.2 (Nat.le_add_left _ _))

/-- The state's buffers one by one. -/
theorem own_eq (t : Fin cfg0.N) (c : Dev nD) (S : Attn.St F) : (Attn.Own (τ := τ) (bufs t) c S : sProp 𝕄) =
    iprop(owns (c : Thread nD τ) (st0_0 t) fullShare (S 0) ∗ owns (c : Thread nD τ) (st0_1 t) fullShare (S 1) ∗ owns (c : Thread nD τ) (st0_2 t) fullShare (S 2) ∗ owns (c : Thread nD τ) (st0_3 t) fullShare (S 3) ∗ owns (c : Thread nD τ) (st0_4 t) fullShare (S 4) ∗ owns (c : Thread nD τ) (st0_5 t) fullShare (S 5) ∗ owns (c : Thread nD τ) (st0_6 t) fullShare (S 6) ∗ owns (c : Thread nD τ) (st0_7 t) fullShare (S 7) ∗ owns (c : Thread nD τ) (st0_8 t) fullShare (S 8) ∗ owns (c : Thread nD τ) (st0_9 t) fullShare (S 9) ∗ owns (c : Thread nD τ) (Memref.whole cc0_scratch0) fullShare (S 10) ∗ owns (c : Thread nD τ) (Memref.whole cc0_scratch1) fullShare (S 11) ∗ owns (c : Thread nD τ) (Memref.whole cc0_scratch2) fullShare (S 12) ∗ owns (c : Thread nD τ) (Memref.whole cc0_scratch3) fullShare (S 13) ∗ owns (c : Thread nD τ) (Memref.whole cc0_scratch4) fullShare (S 14) ∗ owns (c : Thread nD τ) (Memref.whole cc0_scratch5) fullShare (S 15) ∗ owns (c : Thread nD τ) (Memref.whole cc0_scratch6) fullShare (S 16) ∗ owns (c : Thread nD τ) (Memref.whole cc0_scratch7) fullShare (S 17) ∗ owns (c : Thread nD τ) (Memref.whole cc0_scratch8) fullShare (S 18)) :=
  bigSep_univ_eq_bigSepL [(0 : Fin 19), (1 : Fin 19), (2 : Fin 19), (3 : Fin 19), (4 : Fin 19), (5 : Fin 19), (6 : Fin 19), (7 : Fin 19), (8 : Fin 19), (9 : Fin 19), (10 : Fin 19), (11 : Fin 19), (12 : Fin 19), (13 : Fin 19), (14 : Fin 19), (15 : Fin 19), (16 : Fin 19), (17 : Fin 19), (18 : Fin 19)] (by decide) (by decide) _

theorem finds_in (R : Rel F) (c : Dev nD) (w : Fin cfg0.W) (hw : (cfg0.win w).isOut = false)
    (hc : ∀ t t' : Fin cfg0.N, (cfg0.win w).index t = (cfg0.win w).index t' →
      (cfg0.win w).clip (cfg0.grid.coords t) = (cfg0.win w).clip (cfg0.grid.coords t'))
    (hk : ∀ t Y X, (rdat m R c).after w t Y X → X = Y) (t : Fin cfg0.N) (Y) (h : (rdat m R c).Finds w t Y) :
    ∃ d, Y = (rdat m R c).fetched w t d :=
  (rdat m R c).finds_in_eq_fetched w hw hc hk t Y h

set_option maxHeartbeats 1000000 in
/-- The body obligation. -/
theorem rbody (R : Rel F) (hR : Holds m R) (c : Dev nD) :
    (rdat m R c).BodyObligation (defs₀ (F := F)) Variants.none () Set.univ := by
  intro t Y hY
  have row : defs₀ (F := F) .tc cfg0.body (cfg0.bodyArgs t (cfg0.slots t)) = bodyAt0 t := by
    unfold defs₀; rw [Defs.onTc_tc]
  obtain ⟨d0, h0⟩ := finds_in m R c 0 rfl (fun _ _ _ => rfl) (fun _ _ _ h => h) t _ (hY 0)
  obtain ⟨d1, h1⟩ := finds_in m R c 1 rfl (fun _ _ _ => rfl) (fun _ _ _ h => h) t _ (hY 1)
  obtain ⟨d2, h2⟩ := finds_in m R c 2 rfl (fun _ _ _ => rfl) (fun _ _ _ h => h) t _ (hY 2)
  rw [bigSep_W0, bigSep_W0, row, bodyAt_eq]
  iintro ⟨HΦ, Ho, HW⟩
  ihave HS := (show (rdat m R c).Φ t.castSucc ⊢ iprop((∃ f0 f1 f2 f3 f4 f5 f6 f7 f8, ⌜R.inv t.val f1 f2 f4 f5⌝ ∗ owns (c : Thread nD τ) (Memref.whole cc0_scratch0) fullShare f0 ∗ owns (c : Thread nD τ) (Memref.whole cc0_scratch1) fullShare f1 ∗ owns (c : Thread nD τ) (Memref.whole cc0_scratch2) fullShare f2 ∗ owns (c : Thread nD τ) (Memref.whole cc0_scratch3) fullShare f3 ∗ owns (c : Thread nD τ) (Memref.whole cc0_scratch4) fullShare f4 ∗ owns (c : Thread nD τ) (Memref.whole cc0_scratch5) fullShare f5 ∗ owns (c : Thread nD τ) (Memref.whole cc0_scratch6) fullShare f6 ∗ owns (c : Thread nD τ) (Memref.whole cc0_scratch7) fullShare f7 ∗ owns (c : Thread nD τ) (Memref.whole cc0_scratch8) fullShare f8) ∗ ∃ r, prngReg c r) from .rfl) $$ HΦ
  icases HS with ⟨⟨%f0, %f1, %f2, %f3, %f4, %f5, %f6, %f7, %f8, %hI, HS⟩, HG⟩
  have H := hR c t (join Y f0 f1 f2 f3 f4 f5 f6 f7 f8) h0 h1 h2 hI
  obtain ⟨⟨e0, e1, e2⟩, hI', ho⟩ := H
  iapply ((Attn.body (nD := nD) (τ := τ) (Λ := Λ₀) (bufs_whole t) (consts (F := F)) (grid0.coords t 1)).sound defs₀ c (join Y f0 f1 f2 f3 f4 f5 f6 f7 f8))
  rw [own_eq, own_eq]
  isplitl [HW HS]
  · icases HW with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iintro ⟨H0, H1, H2, H3, H4, H5, H6, H7, H8, H9, HS⟩
  isplitl [HS HG]
  · iapply (show iprop((∃ f0 f1 f2 f3 f4 f5 f6 f7 f8, ⌜R.inv (t.val + 1) f1 f2 f4 f5⌝ ∗ owns (c : Thread nD τ) (Memref.whole cc0_scratch0) fullShare f0 ∗ owns (c : Thread nD τ) (Memref.whole cc0_scratch1) fullShare f1 ∗ owns (c : Thread nD τ) (Memref.whole cc0_scratch2) fullShare f2 ∗ owns (c : Thread nD τ) (Memref.whole cc0_scratch3) fullShare f3 ∗ owns (c : Thread nD τ) (Memref.whole cc0_scratch4) fullShare f4 ∗ owns (c : Thread nD τ) (Memref.whole cc0_scratch5) fullShare f5 ∗ owns (c : Thread nD τ) (Memref.whole cc0_scratch6) fullShare f6 ∗ owns (c : Thread nD τ) (Memref.whole cc0_scratch7) fullShare f7 ∗ owns (c : Thread nD τ) (Memref.whole cc0_scratch8) fullShare f8) ∗ ∃ r, prngReg c r) ⊢ (rdat m R c).Φ t.succ from .rfl)
    isplitl [HS]
    · iexists _; iexists _; iexists _; iexists _; iexists _; iexists _; iexists _; iexists _; iexists _
      isplitr; swap; · iexact HS
      ipureintro; exact hI'
    iexact HG
  isplitl [Ho]; · iexact Ho
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact (ho 3 (by decide) (by decide))
  isplitl [H4]
  · iexists _; isplitr; swap; · iexact H4
    ipureintro; exact (ho 4 (by decide) (by decide))
  isplitl [H5]
  · iexists _; isplitr; swap; · iexact H5
    ipureintro; exact (ho 5 (by decide) (by decide))
  isplitl [H6]
  · iexists _; isplitr; swap; · iexact H6
    ipureintro; exact (ho 6 (by decide) (by decide))
  isplitl [H7]
  · iexists _; isplitr; swap; · iexact H7
    ipureintro; exact (ho 7 (by decide) (by decide))
  isplitl [H8]
  · iexists _; isplitr; swap; · iexact H8
    ipureintro; exact (ho 8 (by decide) (by decide))
  iexists _; isplitr; swap; · iexact H9
  ipureintro; exact (ho 9 (by decide) (by decide))

set_option backward.isDefEq.respectTransparency.types false in
set_option maxHeartbeats 800000 in
/-- Every execution ends, with the windows' arrays as `R` says and every semaphore at zero. -/
theorem run_rel (R : Rel F) (hR : Holds m R) (h0 : ∀ a b c d, R.inv 0 a b c d) :
    θ_run defs (onTc (τ := τ) (main (F := F))) (s₀ m ρ)
      (fun r => RDat.FramePost cfg0 (rdat m R) (V m) r ∧ r.2.sem = fun _ => 0) :=
  Pipeline.RDat.θ_run_frame_track (Q' := _) cfgs (0 : Fin 1) launch0 defs₀ Variants.none (rdat m R) m ρ main
    (hbody := rbody m R hR) (hshare := fun c w => by unfold RDat.share; split <;> rfl)
    (howed := fun _ _ => rfl) (V := V m) (hmain := hmain m Variants.none) (hA := fun _ _ => rfl)
    (hin := fun c => by
      show Pipeline.ΦA spec0 c ⊢ iprop(scratch R c 0 ∗ ∃ r, prngReg c r)
      unfold Pipeline.ΦA
      rw [scopedRest0_eq]
      unfold scratch
      simp only [owns_whole_eq]
      iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, HG⟩
      isplitr [HG]; swap; · iexact HG
      iexists f0; iexists f1; iexists f2; iexists f3; iexists f4; iexists f5; iexists f6; iexists f7; iexists f8
      isplitr; · ipureintro; exact h0 _ _ _ _
      isplitl [H0]
      · iexists f0; isplitr; swap; · iexact H0
        ipureintro; rfl
      isplitl [H1]
      · iexists f1; isplitr; swap; · iexact H1
        ipureintro; rfl
      isplitl [H2]
      · iexists f2; isplitr; swap; · iexact H2
        ipureintro; rfl
      isplitl [H3]
      · iexists f3; isplitr; swap; · iexact H3
        ipureintro; rfl
      isplitl [H4]
      · iexists f4; isplitr; swap; · iexact H4
        ipureintro; rfl
      isplitl [H5]
      · iexists f5; isplitr; swap; · iexact H5
        ipureintro; rfl
      isplitl [H6]
      · iexists f6; isplitr; swap; · iexact H6
        ipureintro; rfl
      isplitl [H7]
      · iexists f7; isplitr; swap; · iexact H7
        ipureintro; rfl
      iexists f8; isplitr; swap; · iexact H8
      ipureintro; rfl)
    (hout := fun c => by
      show iprop(scratch R c (Fin.last cfg0.N).val ∗ ∃ r, prngReg c r) ⊢ Pipeline.ΦA spec0 c
      unfold Pipeline.ΦA
      rw [scopedRest0_eq]
      unfold scratch
      simp only [owns_whole_eq]
      iintro ⟨⟨%g0, %g1, %g2, %g3, %g4, %g5, %g6, %g7, %g8, -, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩⟩, HG⟩
      isplitr [HG]; swap; · iexact HG
      isplitl [H0]; · iexists f0; iexact H0
      isplitl [H1]; · iexists f1; iexact H1
      isplitl [H2]; · iexists f2; iexact H2
      isplitl [H3]; · iexists f3; iexact H3
      isplitl [H4]; · iexists f4; iexact H4
      isplitl [H5]; · iexists f5; iexact H5
      isplitl [H6]; · iexists f6; iexact H6
      isplitl [H7]; · iexists f7; iexact H7
      iexists f8; iexact H8)

/-- The arguments end unchanged and the semaphores at zero. -/
theorem frame_rel (R : Rel F) (hR : Holds m R) (h0 : ∀ a b c d, R.inv 0 a b c d) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨h.1.arr_in c 0 rfl, h.1.arr_in c 1 rfl, h.1.arr_in c 2 rfl⟩, h.2⟩) (run_rel m ρ R hR h0)

end Cert.KernelIdeal.Gen

end
-- ==== Proof.Keep.lean ====
/-
  Which buffers the parts of the body write: every other buffer keeps its contents.
-/
module

public import proofs.«01_k».proof.Proof.Model

@[expose] public section

noncomputable section

namespace Attn

open Idealize.ShloMosaic Idealize.ShloMosaic.TcCoe Idealize.SL Idealize.SL.Sem

variable {F : FTy → Type} [FloatOps F] {nD : Nat} {τ : Topo} {sig : RefSig} {Λ : Labels} {A : Bufs sig}

/-- The program writes buffers of `K` alone. -/
structure Writes {α : Type} (K : List (Fin 19)) (d : Den F nD τ Λ A α) : Prop where
  keeps : ∀ S k, k ∉ K → (d.run S).2 k = S k

theorem Writes.mono {α : Type} {K L : List (Fin 19)} {d : Den F nD τ Λ A α} (h : Writes K d) (hs : ∀ k ∈ K, k ∈ L) : Writes L d :=
  ⟨fun S k hk => h.keeps S k fun h' => hk (hs k h')⟩

theorem Writes.pure {α : Type} {K : List (Fin 19)} (a : α) : Writes K (Pure.pure a : Den F nD τ Λ A α) := ⟨fun _ _ _ => rfl⟩

theorem Writes.bind {α β : Type} {K : List (Fin 19)} {d : Den F nD τ Λ A α} {f : α → Den F nD τ Λ A β}
    (h : Writes K d) (hf : ∀ a, Writes K (f a)) : Writes K (d >>= f) :=
  ⟨fun S k hk => ((hf _).keeps _ k hk).trans (h.keeps S k hk)⟩

theorem Writes.load {K : List (Fin 19)} (k : Fin 19) (r : Rect (sh k)) (h : 0 < r.shape.numel) :
    Writes K (Den.load k r h : Den F nD τ Λ A _) := ⟨fun _ _ _ => rfl⟩

theorem Writes.each {ι β : Type} {K : List (Fin 19)} {f : ι → Den F nD τ Λ A β} (h : ∀ i, Writes K (f i)) :
    ∀ l, Writes K (Den.each f l)
  | [] => Writes.pure _
  | i :: l => (h i).bind fun _ => (Writes.each h l).bind fun _ => Writes.pure _

theorem Writes.each_ {ι : Type} {K : List (Fin 19)} {f : ι → Den F nD τ Λ A PUnit} (h : ∀ i, Writes K (f i)) :
    ∀ l, Writes K (Den.each_ f l)
  | [] => Writes.pure _
  | i :: l => (h i).bind fun _ => Writes.each_ h l

theorem Writes.loop {K : List (Fin 19)} (l : Scf.Loop 32) (hok : l.OK) {f : Fin l.trips → Den F nD τ Λ A PUnit}
    (h : ∀ i, Writes K (f i)) : Writes K (Den.loop l hok f) := by
  refine ⟨fun S k hk => ?_⟩
  change Den.trips f (List.finRange l.trips) S k = S k
  generalize List.finRange l.trips = ks
  induction ks generalizing S with
  | nil => rfl
  | cons i ks ih => exact (ih _).trans ((h i).keeps S k hk)

variable (hA : ∀ k, (A k).IsWhole)

theorem run_put (k : Fin 19) (r : Rect (sh k)) (w : r.shape.Idx → Elt F (el k)) (h : 0 < r.shape.numel) (hp : r.PackedRows (el k).packing)
    (S : St F) : (put (nD := nD) (τ := τ) (Λ := Λ) hA k r w h hp).run S = (⟨⟩, Function.update S k (r.overlay (S k) w)) := rfl

theorem Writes.put {K : List (Fin 19)} (k : Fin 19) (hk : k ∈ K) (r : Rect (sh k)) (w : r.shape.Idx → Elt F (el k)) (h : 0 < r.shape.numel)
    (hp : r.PackedRows (el k).packing) : Writes K (put (nD := nD) (τ := τ) (Λ := Λ) hA k r w h hp) := by
  refine ⟨fun S i hi => ?_⟩
  rw [run_put]
  exact Function.update_of_ne (fun e => hi (by rw [e]; exact hk)) _ _

theorem writes_qTile (j : Fin 16) : Writes [4, 10, 13] (qTile (F := F) (nD := nD) (τ := τ) (Λ := Λ) hA j) :=
  (Writes.load ..).bind fun _ => (Writes.put hA 4 (by decide) ..).bind fun _ => (Writes.put hA 10 (by decide) ..).bind fun _ =>
    (Writes.put hA 13 (by decide) ..).bind fun _ => (Writes.put hA 10 (by decide) ..).bind fun _ =>
    (Writes.put hA 13 (by decide) ..).bind fun _ => Writes.pure _

theorem writes_kTile (t : Row) (j : Fin 4) : Writes [6, 11, 14] (kTile (F := F) (nD := nD) (τ := τ) (Λ := Λ) hA t j) :=
  (Writes.load ..).bind fun _ => (Writes.put hA 6 (by decide) ..).bind fun _ => (Writes.put hA 11 (by decide) ..).bind fun _ =>
    (Writes.put hA 14 (by decide) ..).bind fun _ => (Writes.put hA 11 (by decide) ..).bind fun _ =>
    (Writes.put hA 14 (by decide) ..).bind fun _ => Writes.pure _

theorem writes_vTile (t : Row) (j : Fin 4) : Writes [8, 12, 15] (vTile (F := F) (nD := nD) (τ := τ) (Λ := Λ) hA t j) :=
  (Writes.load ..).bind fun _ => (Writes.put hA 8 (by decide) ..).bind fun _ => (Writes.put hA 12 (by decide) ..).bind fun _ =>
    (Writes.put hA 15 (by decide) ..).bind fun _ => (Writes.put hA 15 (by decide) ..).bind fun _ => Writes.pure _

theorem writes_kvTile (t : Row) (j : Fin 4) : Writes [6, 11, 14, 8, 12, 15] (kvTile (F := F) (nD := nD) (τ := τ) (Λ := Λ) hA t j) :=
  ((writes_kTile hA t j).mono (by decide)).bind fun _ => ((writes_vTile hA t j).mono (by decide)).bind fun _ => Writes.pure _

theorem writes_start (r : Fin 32) :
    Writes [4, 5, 6, 7, 8, 9, 10, 11, 12, 13, 14, 15, 16, 17, 18] (start (F := F) (nD := nD) (τ := τ) (Λ := Λ) hA r) :=
  (Writes.each (fun j => (writes_qTile hA j).mono (by decide)) _).bind fun _ => (Writes.put hA 5 (by decide) ..).bind fun _ =>
    (Writes.each (fun j => (writes_kvTile hA _ j).mono (by decide)) _).bind fun _ => (Writes.put hA 7 (by decide) ..).bind fun _ =>
    (Writes.put hA 9 (by decide) ..).bind fun _ => (Writes.put hA 16 (by decide) ..).bind fun _ =>
    (Writes.put hA 17 (by decide) ..).bind fun _ => Writes.put hA 18 (by decide) ..

theorem writes_head (C : Consts F) (d : Bool) (sc : FVec F S128x512 .f32) (ks : Vec F S1x1x128 .f32) (k : Fin 8) (g : Fin 4) :
    Writes [16, 17, 18] (head (nD := nD) (τ := τ) (Λ := Λ) hA C d sc ks k g) :=
  (Writes.load ..).bind fun _ => (Writes.load ..).bind fun _ => (Writes.put hA 16 (by decide) ..).bind fun _ =>
    (Writes.load ..).bind fun _ => (Writes.put hA 17 (by decide) ..).bind fun _ => Writes.pure _

theorem writes_accum (a : FVec F S1x128 .f32) (x : FVec F S64x512 .f32) (vs : Vec F S1x1x128 .f32) (k : Fin 8) (g : Fin 4) :
    Writes [16, 17, 18] (accum (nD := nD) (τ := τ) (Λ := Λ) hA a x vs k g) :=
  (Writes.load ..).bind fun _ => Writes.put hA 18 (by decide) ..

theorem writes_block (C : Consts F) (d : Bool) (t : Row) (k : Fin 8) :
    Writes [16, 17, 18] (block (nD := nD) (τ := τ) (Λ := Λ) hA C d t k) :=
  (Writes.load ..).bind fun _ => (Writes.load ..).bind fun _ => (Writes.load ..).bind fun _ =>
    (writes_head hA ..).bind fun _ => (writes_head hA ..).bind fun _ => (writes_head hA ..).bind fun _ => (writes_head hA ..).bind fun _ =>
    (Writes.load ..).bind fun _ => (Writes.load ..).bind fun _ =>
    (writes_accum hA ..).bind fun _ => (writes_accum hA ..).bind fun _ => (writes_accum hA ..).bind fun _ => writes_accum hA ..

theorem writes_blocks (C : Consts F) (d : Bool) (t : Row) : Writes [16, 17, 18] (blocks (nD := nD) (τ := τ) (Λ := Λ) hA C d t) :=
  Writes.each_ (fun k => writes_block hA C d t k) _

theorem writes_finish (j : Fin 16) : Writes [3] (finish (F := F) (nD := nD) (τ := τ) (Λ := Λ) hA j) :=
  (Writes.load ..).bind fun _ => (Writes.load ..).bind fun _ => (Writes.load ..).bind fun _ => (Writes.load ..).bind fun _ =>
    Writes.put hA 3 (by decide) ..

/-- The body writes no input window. -/
theorem writes_body (C : Consts F) (r : Fin 32) :
    Writes [3, 4, 5, 6, 7, 8, 9, 10, 11, 12, 13, 14, 15, 16, 17, 18] (body (nD := nD) (τ := τ) (Λ := Λ) hA C r) :=
  ((writes_start hA r).mono (by decide)).bind fun _ =>
    (Writes.loop _ _ fun _ => (writes_blocks hA ..).mono (by decide)).bind fun _ =>
    (Writes.loop _ _ fun _ => (writes_blocks hA ..).mono (by decide)).bind fun _ =>
    ((writes_blocks hA ..).mono (by decide)).bind fun _ =>
    Writes.each_ (fun _ => (writes_finish hA _).mono (by decide)) _

end Attn

end
-- ==== Proof.Frames.lean ====
/-
  The frames of the kernel and of its ideal form: every execution ends with the three arguments
  as they were and every semaphore at zero.
-/
module

public import proofs.«01_k».proof.Proof.RunKernel
public import proofs.«01_k».proof.Proof.RunKernelIdeal
public import proofs.«01_k».proof.Proof.Keep

@[expose] public section

noncomputable section

open Idealize.ShloMosaic Idealize.ShloMosaic.TcCoe Idealize.SL Idealize.SL.Sem

namespace Cert.KernelIdeal.Gen

variable {F : FTy → Type} [FloatOps F] [Named F] (m : (ℓ : Loc nD τ sig) → Buf (Elt F) ℓ) (ρ : Dev nD → PrngReg)

/-- A point's body keeps the input windows. -/
theorem run_inputs (t : Fin cfg0.N) (S : Attn.St F) : run t S 0 = S 0 ∧ run t S 1 = S 1 ∧ run t S 2 = S 2 :=
  ⟨(Attn.writes_body _ _ _).keeps S 0 (by decide), (Attn.writes_body _ _ _).keeps S 1 (by decide), (Attn.writes_body _ _ _).keeps S 2 (by decide)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame_rel m ρ ⟨fun _ _ _ _ _ => True, fun _ _ _ _ => True⟩
    (fun _ t S _ _ _ _ => ⟨run_inputs t S, trivial, fun _ _ _ => trivial⟩) (fun _ _ _ _ => trivial)

end Cert.KernelIdeal.Gen

namespace Cert.Kernel.Gen

variable {F : FTy → Type} [FloatOps F] (m : (ℓ : Loc nD τ sig) → Buf (Elt F) ℓ) (ρ : Dev nD → PrngReg)

/-- A point's body keeps the input windows. -/
theorem run_inputs (t : Fin cfg0.N) (S : Attn.St F) : run t S 0 = S 0 ∧ run t S 1 = S 1 ∧ run t S 2 = S 2 :=
  ⟨(Attn.writes_body _ _ _).keeps S 0 (by decide), (Attn.writes_body _ _ _).keeps S 1 (by decide), (Attn.writes_body _ _ _).keeps S 2 (by decide)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame_rel m ρ ⟨fun _ _ _ _ _ => True, fun _ _ _ _ => True⟩
    (fun _ t S _ _ _ _ => ⟨run_inputs t S, trivial, fun _ _ _ => trivial⟩) (fun _ _ _ _ => trivial)

end Cert.Kernel.Gen

end
-- ==== Proof.Scale.lean ====
/-
  The power-of-two scale of a block of values, over the extended reals: the block's largest
  absolute value, the count of powers of two that a 448th of it reaches, and the scale and its
  inverse. The count the kernel takes over bit patterns is the count the reference takes over
  powers, on values below the largest finite one.
-/
module

public import Idealize.ShloMosaic.PureOps
public import Idealize.ShloMosaic.PureOps.Ideal
public import Idealize.ShloMosaic.Lib.Pointwise

@[expose] public section

noncomputable section

namespace Attn

open Idealize.ShloMosaic

/-- The largest absolute value of a block. -/
def amax (t : Fin 128 → Fin 64 → EReal) : EReal := Finset.univ.sup fun p : Fin 128 × Fin 64 => max (t p.1 p.2) (-(t p.1 p.2))

/-- How many of the powers 2^-126 … 2^127 a 448th of `x` reaches. -/
def count (x : EReal) : BitVec 32 :=
  Finset.fold IntOp.addi (0#32) (fun i : Fin 254 => BitVec.setWidth 32 (BitVec.ofBool (decide
    (Ideal.pow (Ideal.ofBits .f32 0x40000000#32) (FloatOps.sitofp (F := Ideal) .f32 (IntOp.addi (4294967170#32) (BitVec.ofNat 32 i.val)))
      ≤ x * Ideal.ofBits .f32 0x3B124925#32)))) Finset.univ

/-- The exponent a count stands for. -/
def expOf (n : BitVec 32) : BitVec 32 := Scalar.select (IntOp.cmpi .eq n 0#32) 0#32 (IntOp.subi n 126#32)

/-- The scale, and its inverse. -/
def rscale (x : EReal) : EReal := Ideal.pow (Ideal.ofBits .f32 0x40000000#32) (FloatOps.sitofp (F := Ideal) .f32 (expOf (count x)))
def rinv (x : EReal) : EReal := Ideal.pow (Ideal.ofBits .f32 0x40000000#32) (-(FloatOps.sitofp (F := Ideal) .f32 (expOf (count x))))

/-- A block's codes. -/
def qcode (t : Fin 128 → Fin 64 → EReal) (a : Fin 128) (d : Fin 64) : EReal :=
  min (Ideal.ofBits .f32 0x43E00000#32) (max (Ideal.ofBits .f32 0xC3E00000#32) (t a d * rinv (amax t)))

/-- The same count over the bit patterns of the powers. -/
def countBits (x : EReal) : BitVec 32 :=
  Finset.fold IntOp.addi (0#32) (fun i : Fin 256 => BitVec.setWidth 32 (IntOp.andi (IntOp.cmpi .sgt (BitVec.ofNat 32 i.val) 0#32)
    (BitVec.ofBool (decide (Ideal.ofBits .f32 (IntOp.shli .vector (BitVec.ofNat 32 i.val) 23#32) ≤ x * Ideal.ofBits .f32 0x3B124925#32))))) Finset.univ

/-- The exponent the kernel takes from it. -/
def expBits (n : BitVec 32) : BitVec 32 :=
  Scalar.select (IntOp.ori (IntOp.cmpi .eq n 0#32) (IntOp.cmpi .eq n 255#32)) 0#32 (IntOp.subi n 126#32)

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem bits_two : Ideal.ofBits .f32 0x40000000#32 = ((2 : ℝ) : EReal) := by
  simp [Ideal.ofBits, Ideal.ieee, -EReal.coe_mul]; norm_num
theorem bits_448 : Ideal.ofBits .f32 0x43E00000#32 = ((448 : ℝ) : EReal) := by
  simp [Ideal.ofBits, Ideal.ieee, -EReal.coe_mul]; norm_num
theorem bits_n448 : Ideal.ofBits .f32 0xC3E00000#32 = ((-448 : ℝ) : EReal) := by
  simp [Ideal.ofBits, Ideal.ieee, -EReal.coe_mul]; norm_num
theorem bits_bot : Ideal.ofBits .f32 0xFF800000#32 = ⊥ := by simp [Ideal.ofBits, Ideal.ieee]
theorem bits_256 : Ideal.ofBits .f32 0x43800000#32 = ((256 : ℝ) : EReal) := by
  simp [Ideal.ofBits, Ideal.ieee, -EReal.coe_mul]; norm_num
theorem bits_256th : Ideal.ofBits .f32 0x3B800000#32 = ((1 / 256 : ℝ) : EReal) := by
  simp [Ideal.ofBits, Ideal.ieee, -EReal.coe_mul]; norm_num
theorem bits_50 : Ideal.ofBits .f32 0x42480000#32 = ((50 : ℝ) : EReal) := by
  simp [Ideal.ofBits, Ideal.ieee, -EReal.coe_mul]; norm_num
theorem bits_8th : Ideal.ofBits .f32 0x3E000000#32 = ((1 / 8 : ℝ) : EReal) := by
  simp [Ideal.ofBits, Ideal.ieee, -EReal.coe_mul]; norm_num
theorem bits_n2 : Ideal.ofBits .f32 0xC0000000#32 = ((-2 : ℝ) : EReal) := by
  simp [Ideal.ofBits, Ideal.ieee, -EReal.coe_mul]; norm_num
/-- The constant near 1/50 is a real. -/
theorem bits_50th : ∃ y : ℝ, Ideal.ofBits .f32 0x3CA3D70A#32 = (y : EReal) := by
  refine ⟨10737418 * (2 : ℝ) ^ (-29 : ℤ), ?_⟩; simp [Ideal.ofBits, Ideal.ieee, -EReal.coe_mul]
/-- The constant near 1/448 is a real between 0 and 2^-8. -/
theorem bits_448th : ∃ y : ℝ, Ideal.ofBits .f32 0x3B124925#32 = (y : EReal) ∧ 0 ≤ y ∧ y ≤ (2 : ℝ) ^ (-8 : ℤ) := by
  refine ⟨_, by simp [Ideal.ofBits, Ideal.ieee, -EReal.coe_mul]; rfl, ?_, ?_⟩ <;> norm_num

theorem words : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by
  decide +kernel

/-- A bit pattern that is only an exponent. -/
theorem bits_pow (n : Nat) (h₀ : 0 < n) (h : n < 255) :
    Ideal.ofBits .f32 (BitVec.ofNat 32 n <<< 23) = (((2 : ℝ) ^ ((n : ℤ) - 127) : ℝ) : EReal) := by
  obtain ⟨h₁, h₂, h₃⟩ := words ⟨n, by omega⟩
  simp only at h₁ h₂ h₃
  generalize BitVec.ofNat 32 n <<< 23 = b at h₁ h₂ h₃ ⊢
  change Ideal.ieee 8 23 b = _
  unfold Ideal.ieee
  simp only [h₁, h₂, h₃]
  rw [if_neg (by omega), if_neg (by omega)]
  congr 1
  simp only [Bool.false_eq_true, if_false, one_mul, add_zero]
  have : ((2 ^ 23 : ℕ) : ℝ) = (2 : ℝ) ^ (23 : ℤ) := by norm_num
  rw [this, ← zpow_add₀ (by norm_num)]
  congr 1; ring
theorem bits_top : Ideal.ofBits .f32 (BitVec.ofNat 32 255 <<< 23) = ⊤ := by
  simp [Ideal.ofBits, Ideal.ieee]

theorem shl (x : BitVec 32) : IntOp.shli .vector x 23#32 = x <<< 23 := by
  unfold IntOp.shli; rw [if_pos (by decide)]; rfl

theorem pow_two (b : BitVec 32) : Ideal.pow (Ideal.ofBits .f32 0x40000000#32) (FloatOps.sitofp (F := Ideal) .f32 b) = (((2 : ℝ) ^ b.toInt : ℝ) : EReal) := by
  rw [bits_two]
  change ((Real.rpow 2 (b.toInt : ℝ) : ℝ) : EReal) = _
  rw [Real.rpow_eq_pow, Real.rpow_intCast]
theorem pow_two_neg (b : BitVec 32) : Ideal.pow (Ideal.ofBits .f32 0x40000000#32) (-(FloatOps.sitofp (F := Ideal) .f32 b)) = (((2 : ℝ) ^ (-b.toInt) : ℝ) : EReal) := by
  rw [bits_two]
  change Ideal.pow ((2 : ℝ) : EReal) (-(((b.toInt : ℝ)) : EReal)) = _
  rw [← EReal.coe_neg]
  change ((Real.rpow 2 (-(b.toInt : ℝ)) : ℝ) : EReal) = _
  rw [Real.rpow_eq_pow, ← Int.cast_neg, Real.rpow_intCast]

/-- A fold of bits counts them. -/
theorem fold_count {n : Nat} (p : Fin n → Prop) [DecidablePred p] (f : Fin n → BitVec 32)
    (hf : ∀ i, f i = BitVec.setWidth 32 (BitVec.ofBool (decide (p i)))) (s : Finset (Fin n)) :
    Finset.fold IntOp.addi (0#32) f s = BitVec.ofNat 32 (∑ i ∈ s, if p i then 1 else 0) := by
  classical
  induction s using Finset.induction_on with
  | empty => rfl
  | insert a s ha ih =>
    rw [Finset.fold_insert ha, ih, Finset.sum_insert ha, hf, BitVec.ofNat_add]
    unfold IntOp.addi
    congr 1
    by_cases h : p a <;> simp [h]

/-- A sum whose ends are zero. -/
theorem sum_ends (n : Nat) (f : Nat → Nat) (h₀ : f 0 = 0) (h₁ : f (n + 1) = 0) :
    ∑ i : Fin (n + 2), f i.val = ∑ i : Fin n, f (i.val + 1) := by
  rw [Fin.sum_univ_succ, Fin.sum_univ_castSucc]
  simp [h₀, h₁]

section Counts

variable {x : EReal} {y : ℝ} (hx : x * Ideal.ofBits .f32 0x3B124925#32 = (y : EReal))
include hx

theorem count_eq : count x = BitVec.ofNat 32 (∑ i : Fin 254, if (2 : ℝ) ^ ((i.val : ℤ) - 126) ≤ y then 1 else 0) := by
  refine fold_count (fun i => (2 : ℝ) ^ ((i.val : ℤ) - 126) ≤ y) _ (fun i => ?_) _
  have e : (IntOp.addi (4294967170#32) (BitVec.ofNat 32 i.val)).toInt = (i.val : ℤ) - 126 := by
    have h : ∀ j : Fin 254, (4294967170#32 + BitVec.ofNat 32 j.val).toInt = (j.val : ℤ) - 126 := by decide
    exact h i
  rw [pow_two, hx, e]
  simp only [EReal.coe_le_coe_iff]

theorem countBits_eq : countBits x = BitVec.ofNat 32 (∑ i : Fin 256, if 0 < i.val ∧ i.val < 255 ∧ (2 : ℝ) ^ ((i.val : ℤ) - 127) ≤ y then 1 else 0) := by
  refine fold_count (fun i => 0 < i.val ∧ i.val < 255 ∧ (2 : ℝ) ^ ((i.val : ℤ) - 127) ≤ y) _ (fun i => ?_) _
  congr 1
  have e : IntOp.cmpi .sgt (BitVec.ofNat 32 i.val) 0#32 = BitVec.ofBool (decide (0 < i.val)) := by
    have h : ∀ j : Fin 256, IntOp.cmpi .sgt (BitVec.ofNat 32 j.val) 0#32 = BitVec.ofBool (decide (0 < j.val)) := by decide
    exact h i
  have ea : ∀ a b : Bool, IntOp.andi (BitVec.ofBool a) (BitVec.ofBool b) = BitVec.ofBool (a && b) := by decide
  rw [shl, hx, e, ea, ← Bool.decide_and]
  congr 1
  rw [decide_eq_decide]
  refine and_congr_right fun h₀ => ?_
  by_cases h : i.val < 255
  · rw [bits_pow _ h₀ h]; simp [h]
  · have h' : i.val = 255 := by omega
    rw [h', bits_top]; simp

theorem countBits_count : countBits x = count x := by
  rw [countBits_eq hx, count_eq hx]
  refine congrArg (BitVec.ofNat 32) ?_
  refine (sum_ends 254 (fun n => if 0 < n ∧ n < 255 ∧ (2 : ℝ) ^ ((n : ℤ) - 127) ≤ y then 1 else 0) (by simp) (by simp)).trans ?_
  refine Finset.sum_congr rfl fun i _ => ?_
  have := i.isLt
  have e : (((i.val + 1 : ℕ) : ℤ) - 127) = (i.val : ℤ) - 126 := by push_cast; ring
  simp only [e]
  have h : 0 < i.val + 1 ∧ i.val + 1 < 255 := by omega
  simp only [h.1, h.2, true_and]

/-- The count stays below 248 where the value stays below 2^120. -/
theorem count_lt (hy : y ≤ (2 : ℝ) ^ (120 : ℤ)) : ∃ n : Nat, n < 248 ∧ count x = BitVec.ofNat 32 n := by
  refine ⟨_, ?_, count_eq hx⟩
  have h : ∀ i : Fin 254, (if (2 : ℝ) ^ ((i.val : ℤ) - 126) ≤ y then 1 else 0) ≤ if i.val < 247 then 1 else 0 := fun i => by
    split
    · rename_i h
      rw [if_pos]
      have := (zpow_le_zpow_iff_right₀ (by norm_num : (1 : ℝ) < 2)).1 (h.trans hy)
      omega
    · exact Nat.zero_le _
  refine lt_of_le_of_lt (Finset.sum_le_sum fun i _ => h i) ?_
  decide +kernel

end Counts

theorem exps : ∀ n : Fin 248, expBits (BitVec.ofNat 32 n.val) = expOf (BitVec.ofNat 32 n.val)
    ∧ IntOp.addi (expOf (BitVec.ofNat 32 n.val)) 127#32 = BitVec.ofNat 32 ((expOf (BitVec.ofNat 32 n.val)).toInt + 127).toNat
    ∧ IntOp.subi 127#32 (expOf (BitVec.ofNat 32 n.val)) = BitVec.ofNat 32 (127 - (expOf (BitVec.ofNat 32 n.val)).toInt).toNat
    ∧ -126 < (expOf (BitVec.ofNat 32 n.val)).toInt ∧ (expOf (BitVec.ofNat 32 n.val)).toInt < 126 := by
  decide

/-- A value whose scale can be told: a real no larger than 2^128. -/
def Bounded (x : EReal) : Prop := ∃ y : ℝ, x = (y : EReal) ∧ y ≤ (2 : ℝ) ^ (128 : ℤ) ∧ 0 ≤ y

theorem Bounded.mul {x : EReal} (h : Bounded x) : ∃ y : ℝ, x * Ideal.ofBits .f32 0x3B124925#32 = (y : EReal) ∧ y ≤ (2 : ℝ) ^ (120 : ℤ) := by
  obtain ⟨y, rfl, hy, h₀⟩ := h
  obtain ⟨z, hz, hz₀, hz₁⟩ := bits_448th
  refine ⟨y * z, by rw [hz, EReal.coe_mul], (mul_le_mul hy hz₁ hz₀ (by positivity)).trans ?_⟩
  rw [← zpow_add₀ (by norm_num)]; norm_num

/-- The kernel's scale is the reference's. -/
theorem scaleBits_eq {x : EReal} (h : Bounded x) :
    Ideal.ofBits .f32 (IntOp.shli .vector (IntOp.addi (expBits (countBits x)) 127#32) 23#32) = rscale x := by
  obtain ⟨y, hy, hy'⟩ := h.mul
  obtain ⟨n, hn, hc⟩ := count_lt hy hy'
  obtain ⟨e₁, e₂, -, e₄, e₅⟩ := exps ⟨n, hn⟩
  unfold rscale
  rw [countBits_count hy, hc, pow_two, shl]
  simp only at e₁ e₂ e₄ e₅
  rw [e₁, e₂, bits_pow _ (by omega) (by omega)]
  congr 2
  omega

/-- The kernel's inverse scale is the reference's. -/
theorem invBits_eq {x : EReal} (h : Bounded x) :
    Ideal.ofBits .f32 (IntOp.shli .vector (IntOp.subi 127#32 (expBits (countBits x))) 23#32) = rinv x := by
  obtain ⟨y, hy, hy'⟩ := h.mul
  obtain ⟨n, hn, hc⟩ := count_lt hy hy'
  obtain ⟨e₁, -, e₃, e₄, e₅⟩ := exps ⟨n, hn⟩
  unfold rinv
  rw [countBits_count hy, hc, pow_two_neg, shl]
  simp only at e₁ e₃ e₄ e₅
  rw [e₁, e₃, bits_pow _ (by omega) (by omega)]
  congr 2
  omega

/-- Scales are reals. -/
theorem rscale_real (x : EReal) : ∃ y : ℝ, rscale x = (y : EReal) := ⟨_, pow_two _⟩
theorem rinv_real (x : EReal) : ∃ y : ℝ, rinv x = (y : EReal) := ⟨_, pow_two_neg _⟩

/-- A block of reals no larger than 2^128. -/
def Tame (t : Fin 128 → Fin 64 → EReal) : Prop := ∀ a d, ∃ y : ℝ, t a d = (y : EReal) ∧ |y| ≤ (2 : ℝ) ^ (128 : ℤ)

theorem Tame.amax {t : Fin 128 → Fin 64 → EReal} (h : Tame t) : Bounded (amax t) := by
  choose y hy hb using h
  obtain ⟨p, -, hp⟩ := Finset.exists_mem_eq_sup (Finset.univ : Finset (Fin 128 × Fin 64)) ⟨(0, 0), Finset.mem_univ _⟩
    (fun p : Fin 128 × Fin 64 => max (t p.1 p.2) (-(t p.1 p.2)))
  refine ⟨|y p.1 p.2|, ?_, hb _ _, abs_nonneg _⟩
  unfold Attn.amax
  rw [hp, hy, ← EReal.coe_neg, coe_max]
  rfl

/-- Codes are reals. -/
theorem qcode_real {t : Fin 128 → Fin 64 → EReal} (h : Tame t) (a : Fin 128) (d : Fin 64) : ∃ y : ℝ, qcode t a d = (y : EReal) := by
  obtain ⟨y, hy, -⟩ := h a d
  obtain ⟨z, hz⟩ := rinv_real (amax t)
  refine ⟨min 448 (max (-448) (y * z)), ?_⟩
  unfold qcode
  rw [hy, hz, bits_448, bits_n448, ← EReal.coe_mul, coe_max, coe_min]

end Attn

end
-- ==== Proof.Tiles.lean ====
/-
  What one tile of 128 rows and two heads holds after quantisation: per head, the codes and the
  scale of the head's 128 × 64 block.
-/
module

public import proofs.«01_k».proof.Proof.Model
public import proofs.«01_k».proof.Proof.Scale
public import Idealize.ShloMosaic.Lib.Pointwise

@[expose] public section

set_option maxRecDepth 16384

noncomputable section

namespace Attn

open Idealize.ShloMosaic Idealize.ShloMosaic.TcCoe Idealize.SL Idealize.SL.Sem

/-- Head `u` of a tile. -/
def half (x : Vec Ideal S1x128x128 .bf16) (u : Fin 2) : Fin 128 → Fin 64 → EReal := fun a d => x (ix3 0 a ⟨64 * u.val + d.val, by omega⟩)

/-- A fold of maxima from −∞ is the supremum. -/
theorem fold_sup' {ι : Type} [Fintype ι] (f : ι → EReal) :
    Finset.fold max (Ideal.ofBits .f32 0xFF800000#32) f Finset.univ = Finset.univ.sup f := by
  rw [bits_bot]; rfl

theorem slt64 (n : Fin 128) : IntOp.cmpi .slt (BitVec.ofNat 32 n.val) 64#32 = if n.val < 64 then 1#1 else 0#1 := by
  revert n; decide

theorem select_one {α : Type} (a b : α) : Scalar.select (1#1) a b = a := rfl
theorem select_zero {α : Type} (a b : α) : Scalar.select (0#1) a b = b := rfl

theorem abs_nonneg' (y : EReal) : 0 ≤ max y (-y) := by
  rcases le_total 0 y with h | h
  · exact le_max_of_le_left h
  · exact le_max_of_le_right (EReal.neg_nonneg.2 h)

theorem amax_nonneg (t : Fin 128 → Fin 64 → EReal) : 0 ≤ amax t :=
  (abs_nonneg' (t 0 0)).trans (Finset.le_sup (f := fun p : Fin 128 × Fin 64 => max (t p.1 p.2) (-(t p.1 p.2))) (Finset.mem_univ (0, 0)))

theorem maxLeft_at (x : Vec Ideal S1x128x128 .bf16) (c : Fin 128) : (maxLeft (widen x) (ix2 0 c) : EReal) = amax (half x 0) := by
  pointwise [maxLeft, rowMax, colMax, leftHalf, widen]
  simp only [fold_sup', slt64]
  apply le_antisymm
  · refine Finset.sup_le fun e _ => ?_
    split
    · rename_i h
      rw [select_one]
      refine Finset.sup_le fun a _ => ?_
      refine le_trans (le_of_eq ?_) (Finset.le_sup (f := fun p : Fin 128 × Fin 64 => max (half x 0 p.1 p.2) (-(half x 0 p.1 p.2))) (Finset.mem_univ (a, ⟨e.val, h⟩)))
      simp only [half, Fin.val_zero, Nat.mul_zero, Nat.zero_add]
      rfl
    · rw [select_zero]
      refine le_trans (le_of_eq ?_) (amax_nonneg _)
      simp [Ideal.ofBits, Ideal.ieee]
  · refine Finset.sup_le fun p _ => ?_
    refine le_trans ?_ (Finset.le_sup (Finset.mem_univ (⟨p.2.val, by omega⟩ : Fin 128)))
    rw [if_pos p.2.isLt, select_one]
    refine le_trans (le_of_eq ?_) (Finset.le_sup (Finset.mem_univ p.1))
    simp only [half, Fin.val_zero, Nat.mul_zero, Nat.zero_add]
    rfl

theorem maxRight_at (x : Vec Ideal S1x128x128 .bf16) (c : Fin 128) : (maxRight (widen x) (ix2 0 c) : EReal) = amax (half x 1) := by
  pointwise [maxRight, rowMax, colMax, leftHalf, widen]
  simp only [fold_sup', slt64]
  apply le_antisymm
  · refine Finset.sup_le fun e _ => ?_
    split
    · rw [select_one]
      refine le_trans (le_of_eq ?_) (amax_nonneg _)
      simp [Ideal.ofBits, Ideal.ieee]
    · rename_i h
      rw [select_zero]
      refine Finset.sup_le fun a _ => ?_
      refine le_trans (le_of_eq ?_) (Finset.le_sup (f := fun p : Fin 128 × Fin 64 => max (half x 1 p.1 p.2) (-(half x 1 p.1 p.2))) (Finset.mem_univ (a, ⟨e.val - 64, by omega⟩)))
      have e₁ : (⟨64 * (1 : Fin 2).val + (e.val - 64), by have := e.isLt; simp; omega⟩ : Fin 128) = e := Fin.ext (by simp; omega)
      simp only [half]
      rw [e₁]
      rfl
  · refine Finset.sup_le fun p _ => ?_
    refine le_trans ?_ (Finset.le_sup (Finset.mem_univ (⟨64 * (1 : Fin 2).val + p.2.val, by have := p.2.isLt; simp; omega⟩ : Fin 128)))
    rw [if_neg (by simp), select_zero]
    refine le_trans (le_of_eq ?_) (Finset.le_sup (Finset.mem_univ p.1))
    rfl

theorem scale_of (x : FVec Ideal S1x128 .f32) (d : Fin 128) {z : EReal} (hz : Bounded z) (h : (x (ix2 0 d) : EReal) = z) : (scale x (ix2 0 d) : EReal) = rscale z := by
  rw [← scaleBits_eq hz, ← h]
  pointwise [scale, expo, field]
  rfl
theorem scaleInv_of (x : FVec Ideal S1x128 .f32) (d : Fin 128) {z : EReal} (hz : Bounded z) (h : (x (ix2 0 d) : EReal) = z) : (scaleInv x (ix2 0 d) : EReal) = rinv z := by
  rw [← invBits_eq hz, ← h]
  pointwise [scaleInv, expo, field]
  rfl

variable {x : Vec Ideal S1x128x128 .bf16}

theorem sL_at (h : Tame (half x 0)) (c : Fin 128) : (sL x (ix2 0 c) : EReal) = rscale (amax (half x 0)) := scale_of _ _ h.amax (maxLeft_at x c)
theorem sR_at (h : Tame (half x 1)) (c : Fin 128) : (sR x (ix2 0 c) : EReal) = rscale (amax (half x 1)) := scale_of _ _ h.amax (maxRight_at x c)

/-- The codes of a tile are its heads' codes. -/
theorem codes_at (h : ∀ u, Tame (half x u)) (a : Fin 128) (u : Fin 2) (d : Fin 64) :
    (codes x (ix2 a ⟨64 * u.val + d.val, by omega⟩) : EReal) = qcode (half x u) a d := by
  pointwise [codes, clip, widen]
  unfold qcode
  have e : (Scalar.select (leftHalf (ix2 0 ⟨64 * u.val + d.val, by omega⟩)) (scaleInv (maxLeft (widen x)) (ix2 0 ⟨64 * u.val + d.val, by omega⟩))
      (scaleInv (maxRight (widen x)) (ix2 0 ⟨64 * u.val + d.val, by omega⟩)) : EReal) = rinv (amax (half x u)) := by
    rw [scaleInv_of _ _ (h 0).amax (maxLeft_at x _), scaleInv_of _ _ (h 1).amax (maxRight_at x _)]
    have e₁ : leftHalf (ix2 0 ⟨64 * u.val + d.val, by omega⟩) = IntOp.cmpi .slt (BitVec.ofNat 32 (64 * u.val + d.val)) 64#32 := by
      pointwise [leftHalf]
    have e₂ := slt64 ⟨64 * u.val + d.val, by omega⟩
    simp only at e₂
    rw [e₁, e₂]
    match u with
    | 0 => rw [if_pos (by simp), select_one]
    | 1 => rw [if_neg (by simp), select_zero]
  exact congrArg (fun z : EReal => min (Ideal.ofBits .f32 0x43E00000#32) (max (Ideal.ofBits .f32 0xC3E00000#32) (half x u a d * z))) e

/-! ## What is stored of a tile -/

section Stored
variable (h : ∀ u, Tame (half x u))
include h

theorem code8_at (a : Fin 128) (u : Fin 2) (d : Fin 64) : (code8 x (ix3 0 a ⟨64 * u.val + d.val, by omega⟩) : EReal) = qcode (half x u) a d := by
  rw [← codes_at h]
  pointwise [code8]
theorem codeT_at (a : Fin 128) (u : Fin 2) (d : Fin 64) : (codeT x (ix2 ⟨64 * u.val + d.val, by omega⟩ a) : EReal) = qcode (half x u) a d := by
  rw [← codes_at h]
  pointwise [codeT]
theorem qt₀_at (c : Fin 128) (d : Fin 64) :
    ((shapeCast S1x64x128 (extractStridedSlice S64x128 ![0, 0] (codeT x) (by decide)) (by decide) : Vec Ideal S1x64x128 .fp8e4m3) (ix3 0 d c) : EReal) = qcode (half x 0) c d := by
  rw [← codeT_at h]
  pointwise []
theorem qt₁_at (c : Fin 128) (d : Fin 64) :
    ((shapeCast S1x64x128 (extractStridedSlice S64x128 ![64, 0] (codeT x) (by decide)) (by decide) : Vec Ideal S1x64x128 .fp8e4m3) (ix3 0 d c) : EReal) = qcode (half x 1) c d := by
  rw [← codeT_at h]
  pointwise []
theorem kt₀_at (a : Fin 128) (d : Fin 64) :
    ((shapeCast S1x1x128x64 (truncf .fp8e4m3 (extractStridedSlice S128x64 ![0, 0] (codes x) (by decide)) (by decide) : FVec Ideal S128x64 .fp8e4m3) (by decide) : Vec Ideal S1x1x128x64 .fp8e4m3) (ix4 0 0 a d) : EReal) = qcode (half x 0) a d := by
  rw [← codes_at h]
  pointwise []
theorem kt₁_at (a : Fin 128) (d : Fin 64) :
    ((shapeCast S1x1x128x64 (truncf .fp8e4m3 (extractStridedSlice S128x64 ![0, 64] (codes x) (by decide)) (by decide) : FVec Ideal S128x64 .fp8e4m3) (by decide) : Vec Ideal S1x1x128x64 .fp8e4m3) (ix4 0 0 a d) : EReal) = qcode (half x 1) a d := by
  rw [← codes_at h]
  pointwise []
theorem vt_at (a : Fin 128) (u : Fin 2) (d : Fin 64) :
    ((shapeCast S1x128x128 (codeT x) (by decide) : Vec Ideal S1x128x128 .fp8e4m3) (ix3 0 ⟨64 * u.val + d.val, by omega⟩ a) : EReal) = qcode (half x u) a d := by
  rw [← codeT_at h]
  pointwise []
end Stored

theorem asRow_at (v : FVec Ideal S1x128 .f32) (b : BitVec 32) (c : Fin 128) :
    ((asRow (mulf v (broadcast S1x128 (cst b))) : FVec Ideal S1x128 .f32) (ix2 0 c) : EReal) = (v (ix2 0 c) : EReal) * Ideal.ofBits .f32 b := by
  pointwise [asRow]
theorem row3_at (v : FVec Ideal S1x128 .f32) (c : Fin 128) :
    ((shapeCast S1x1x128 v (by decide) : Vec Ideal S1x1x128 .f32) (ix3 0 0 c) : EReal) = v (ix2 0 c) := by
  pointwise []
theorem row3mul_at (v : FVec Ideal S1x128 .f32) (b : BitVec 32) (c : Fin 128) :
    ((shapeCast S1x1x128 (mulf v (broadcast S1x128 (cst b))) (by decide) : Vec Ideal S1x1x128 .f32) (ix3 0 0 c) : EReal) = (v (ix2 0 c) : EReal) * Ideal.ofBits .f32 b := by
  pointwise []

/-! ## The row of scales -/

/-- A gathered row reads, in column `n + i`, the `i`-th of the list. -/
theorem gather_at : ∀ (l : List (FVec Ideal S1x128 .f32)) (n : Nat) (acc : FVec Ideal S1x128 .f32) (c : Fin 128) (hn : n + l.length ≤ 128),
    (gather n acc l (ix2 0 c) : EReal) = if h : n ≤ c.val ∧ c.val < n + l.length then ((l[c.val - n]'(by omega)) (ix2 0 c) : EReal) else acc (ix2 0 c)
  | [], n, acc, c, hn => by
    rw [dif_neg (by simp)]
    rfl
  | v :: l, n, acc, c, hn => by
    simp only [List.length_cons] at hn
    have ih := gather_at l (n + 1) (select (cmpi .eq (iota .tc S1x128 32 [1] (by decide)) (broadcast S1x128 (BitVec.ofNat 32 n))) v acc) c (by omega)
    have e : (gather n acc (v :: l) (ix2 0 c) : EReal) = gather (n + 1) (select (cmpi .eq (iota .tc S1x128 32 [1] (by decide)) (broadcast S1x128 (BitVec.ofNat 32 n))) v acc) l (ix2 0 c) := rfl
    rw [e, ih]
    have e₂ : ((select (cmpi .eq (iota .tc S1x128 32 [1] (by decide)) (broadcast S1x128 (BitVec.ofNat 32 n))) v acc : FVec Ideal S1x128 .f32) (ix2 0 c) : EReal)
        = Scalar.select (IntOp.cmpi .eq (BitVec.ofNat 32 c.val) (BitVec.ofNat 32 n)) (v (ix2 0 c)) (acc (ix2 0 c)) := by
      pointwise []
    have e₃ : IntOp.cmpi .eq (BitVec.ofNat 32 c.val) (BitVec.ofNat 32 n) = if c.val = n then 1#1 else 0#1 := by
      have : (BitVec.ofNat 32 c.val = BitVec.ofNat 32 n) ↔ c.val = n := by
        constructor
        · intro h
          have h' := congrArg BitVec.toNat h
          simp only [BitVec.toNat_ofNat] at h'
          omega
        · intro h; rw [h]
      by_cases h : c.val = n
      · rw [if_pos h, h]
        simp [IntOp.cmpi]
      · rw [if_neg h]
        have h' := mt this.1 h
        simp only [IntOp.cmpi]
        rw [beq_eq_false_iff_ne.2 h']
        rfl
    by_cases h : c.val = n
    · subst h
      rw [dif_neg (by omega), dif_pos (by simp), e₂, e₃, if_pos rfl, select_one]
      have e₄ : ∀ (i : Nat) (hi : i < (v :: l).length), i = 0 → (v :: l)[i] = v := by rintro i hi rfl; rfl
      rw [e₄ _ _ (Nat.sub_self _)]
    · by_cases h' : n + 1 ≤ c.val ∧ c.val < n + 1 + l.length
      · rw [dif_pos h', dif_pos (by simp; omega)]
        have e₄ : ∀ (i j : Nat) (hi : i < (v :: l).length) (hj : j < l.length), i = j + 1 → (v :: l)[i] = l[j] := by rintro i j hi hj rfl; rfl
        rw [e₄ (c.val - n) (c.val - (n + 1)) (by simp only [List.length_cons]; omega) (by omega) (by omega)]
      · rw [dif_neg h', dif_neg (by simp; omega), e₂, e₃, if_neg h, select_zero]

end Attn

end
-- ==== Proof.Start.lean ====
/-
  The buffers after a point's tiles are quantised: codes and scales of its q, k and v blocks at
  their places, every other row of the k and v arrays kept.
-/
module

public import proofs.«01_k».proof.Proof.Tiles
public import proofs.«01_k».proof.Proof.Keep

@[expose] public section

set_option maxRecDepth 16384

noncomputable section

namespace Attn

open Idealize.ShloMosaic Idealize.ShloMosaic.TcCoe Idealize.SL Idealize.SL.Sem

/-! ## Rectangles at an index -/

theorem overlay_at {s : Shape} {α : Type} (r : Rect s) (f : s.Idx → α) (w : r.shape.Idx → α) (i : s.Idx) (i' : r.shape.Idx)
    (h : ∀ a, r.off a + r.stride a * (i' a).val = (i a).val) : r.overlay f w i = w i' := by
  have : i = r.emb i' := funext fun a => Fin.ext (h a).symm
  rw [this, Rect.overlay_emb]

theorem overlay_off {s : Shape} {α : Type} {off size : Fin s.rank → Nat} {inb : ∀ a, off a + size a ≤ s.size a} (f : s.Idx → α)
    (w : (Rect.unit off size inb).shape.Idx → α) (i : s.Idx) (a : Fin s.rank) (h : (i a).val < off a ∨ off a + size a ≤ (i a).val) :
    (Rect.unit off size inb).overlay f w i = f i := by
  refine Rect.overlay_of_not_mem _ _ _ fun hm => ?_
  have := Rect.mem_set_unit.1 hm a
  omega

theorem ld_at {s : Shape} {α : Type} (X : s.Idx → α) (r : Rect s) (i : s.Idx) (i' : r.shape.Idx)
    (h : ∀ a, r.off a + r.stride a * (i' a).val = (i a).val) : ld X r i' = X i := by
  have : i = r.emb i' := funext fun a => Fin.ext (h a).symm
  rw [this]; rfl

/-! ## The buffers, by index -/

abbrev b0 (S : St Ideal) (a : Fin 128) (e : Fin 2048) : EReal := S 0 (ix3 0 a e)
abbrev b3 (S : St Ideal) (a : Fin 128) (e : Fin 2048) : EReal := S 3 (ix3 0 a e)
abbrev b4 (S : St Ideal) (a : Fin 128) (e : Fin 2048) : EReal := S 4 (ix3 0 a e)
abbrev b5 (S : St Ideal) (j h : Fin 32) : EReal := S 5 (ix3 0 j h)
abbrev b6 (S : St Ideal) (a : Fin 128) (e : Fin 512) : EReal := S 6 (ix3 0 a e)
abbrev b7 (S : St Ideal) (j : Fin 32) (g : Fin 8) : EReal := S 7 (ix3 0 j g)
abbrev b8 (S : St Ideal) (a : Fin 128) (e : Fin 512) : EReal := S 8 (ix3 0 a e)
abbrev b9 (S : St Ideal) (j : Fin 32) (g : Fin 8) : EReal := S 9 (ix3 0 j g)
abbrev b10 (S : St Ideal) (k : Fin 8) (d : Fin 64) (e : Fin 512) : EReal := S 10 (ix3 k d e)
abbrev b11 (S : St Ideal) (j : Fin 32) (g : Fin 8) (a : Fin 128) (d : Fin 64) : EReal := S 11 (ix4 j g a d)
abbrev b12 (S : St Ideal) (j : Fin 32) (e : Fin 512) (a : Fin 128) : EReal := S 12 (ix3 j e a)
abbrev b13 (S : St Ideal) (h : Fin 32) (c : Fin 128) : EReal := S 13 (ix2 h c)
abbrev b14 (S : St Ideal) (j : Fin 32) (g : Fin 8) (a : Fin 128) : EReal := S 14 (ix3 j g a)
abbrev b15 (S : St Ideal) (j : Fin 32) (g : Fin 8) (a : Fin 128) : EReal := S 15 (ix3 j g a)
abbrev b16 (S : St Ideal) (h : Fin 32) (c : Fin 128) : EReal := S 16 (ix2 h c)
abbrev b17 (S : St Ideal) (h : Fin 32) (s : Fin 8) (c : Fin 128) : EReal := S 17 (ix3 h s c)
abbrev b18 (S : St Ideal) (k : Fin 8) (d : Fin 64) (e : Fin 512) : EReal := S 18 (ix3 k d e)

/-- Head `h` of a block of q, of k or v. -/
def qHead (X : Vec Ideal S1x128x2048 .bf16) (h : Fin 32) : Fin 128 → Fin 64 → EReal := fun a d => X (ix3 0 a ⟨64 * h.val + d.val, by omega⟩)
def kHead (X : Vec Ideal S1x128x512 .bf16) (g : Fin 8) : Fin 128 → Fin 64 → EReal := fun a d => X (ix3 0 a ⟨64 * g.val + d.val, by omega⟩)

/-- The q codes, transposed codes and an eighth of the scales of head `h` are in place. -/
structure QH (t : Fin 128 → Fin 64 → EReal) (h : Fin 32) (S : St Ideal) : Prop where
  codes : ∀ a (d : Fin 64), b4 S a ⟨64 * h.val + d.val, by omega⟩ = qcode t a d
  trans : ∀ d (c : Fin 128), b10 S ⟨h.val / 4, by omega⟩ d ⟨128 * (h.val % 4) + c.val, by omega⟩ = qcode t c d
  scale : ∀ c, b13 S h c = rscale (amax t) * Ideal.ofBits .f32 0x3E000000#32

/-- Row `j`, head `g` of the k codes and scales. -/
structure KR (t : Fin 128 → Fin 64 → EReal) (j : Fin 32) (g : Fin 8) (S : St Ideal) : Prop where
  codes : ∀ a d, b11 S j g a d = qcode t a d
  scale : ∀ c, b14 S j g c = rscale (amax t)
/-- Row `j`, head `g` of the transposed v codes and a 256th of the scales. -/
structure VR (t : Fin 128 → Fin 64 → EReal) (j : Fin 32) (g : Fin 8) (S : St Ideal) : Prop where
  codes : ∀ a (d : Fin 64), b12 S j ⟨64 * g.val + d.val, by omega⟩ a = qcode t a d
  scale : ∀ c, b15 S j g c = rscale (amax t) * Ideal.ofBits .f32 0x3B800000#32

/-- The codes of k, and of v, of head `g` as results. -/
def KO (t : Fin 128 → Fin 64 → EReal) (g : Fin 8) (S : St Ideal) : Prop := ∀ a (d : Fin 64), b6 S a ⟨64 * g.val + d.val, by omega⟩ = qcode t a d
def VO (t : Fin 128 → Fin 64 → EReal) (g : Fin 8) (S : St Ideal) : Prop := ∀ a (d : Fin 64), b8 S a ⟨64 * g.val + d.val, by omega⟩ = qcode t a d

theorem row_at (r : Fin 32) : (row r).at = r.val := by revert r; decide

/-- The state with a rectangle of one buffer overlaid. -/
def over (k : Fin 19) (r : Rect (sh k)) (w : r.shape.Idx → Elt Ideal (el k)) (S : St Ideal) : St Ideal := Function.update S k (r.overlay (S k) w)

theorem over_self (k : Fin 19) (r : Rect (sh k)) (w : r.shape.Idx → Elt Ideal (el k)) (S : St Ideal) : over k r w S k = r.overlay (S k) w :=
  Function.update_self ..
theorem over_ne {k i : Fin 19} (h : i ≠ k) (r : Rect (sh k)) (w : r.shape.Idx → Elt Ideal (el k)) (S : St Ideal) : over k r w S i = S i :=
  Function.update_of_ne h ..

/-- Five stores to three buffers. -/
theorem over_five {o a b : Fin 19} (hao : a ≠ o) (hbo : b ≠ o) (hab : a ≠ b) (r₁ : Rect (sh o)) (r₂ r₄ : Rect (sh a)) (r₃ r₅ : Rect (sh b))
    (w₁ : r₁.shape.Idx → Elt Ideal (el o)) (w₂ : r₂.shape.Idx → Elt Ideal (el a)) (w₃ : r₃.shape.Idx → Elt Ideal (el b))
    (w₄ : r₄.shape.Idx → Elt Ideal (el a)) (w₅ : r₅.shape.Idx → Elt Ideal (el b)) (S S' : St Ideal)
    (e : S' = over b r₅ w₅ (over a r₄ w₄ (over b r₃ w₃ (over a r₂ w₂ (over o r₁ w₁ S))))) :
    S' o = r₁.overlay (S o) w₁ ∧ S' a = r₄.overlay (r₂.overlay (S a) w₂) w₄ ∧ S' b = r₅.overlay (r₃.overlay (S b) w₃) w₅ := by
  subst e
  refine ⟨?_, ?_, ?_⟩
  · rw [over_ne hbo.symm, over_ne hao.symm, over_ne hbo.symm, over_ne hao.symm, over_self]
  · rw [over_ne hab, over_self, over_ne hab, over_self, over_ne hao]
  · rw [over_self, over_ne hab.symm, over_self, over_ne hab.symm, over_ne hbo]
/-- Four stores to three buffers. -/
theorem over_four {o a b : Fin 19} (hao : a ≠ o) (hbo : b ≠ o) (hab : a ≠ b) (r₁ : Rect (sh o)) (r₂ : Rect (sh a)) (r₃ r₄ : Rect (sh b))
    (w₁ : r₁.shape.Idx → Elt Ideal (el o)) (w₂ : r₂.shape.Idx → Elt Ideal (el a)) (w₃ : r₃.shape.Idx → Elt Ideal (el b))
    (w₄ : r₄.shape.Idx → Elt Ideal (el b)) (S S' : St Ideal)
    (e : S' = over b r₄ w₄ (over b r₃ w₃ (over a r₂ w₂ (over o r₁ w₁ S)))) :
    S' o = r₁.overlay (S o) w₁ ∧ S' a = r₂.overlay (S a) w₂ ∧ S' b = r₄.overlay (r₃.overlay (S b) w₃) w₄ := by
  subst e
  refine ⟨?_, ?_, ?_⟩
  · rw [over_ne hbo.symm, over_ne hbo.symm, over_ne hao.symm, over_self]
  · rw [over_ne hab, over_ne hab, over_self, over_ne hao]
  · rw [over_self, over_self, over_ne hab.symm, over_ne hbo]

section Run

variable {nD : Nat} {τ : Topo} {sig : RefSig} {Λ : Labels} {A : Bufs sig} (hA : ∀ k, (A k).IsWhole)

/-- Programs that each establish their part and keep the others' establish all parts. -/
theorem each_post {ι β : Type} (f : ι → Den Ideal nD τ Λ A β) (P : St Ideal → Prop) (D : ι → St Ideal → Prop) (g : ι → β)
    (h₁ : ∀ i S, P S → ((f i).run S).1 = g i ∧ P ((f i).run S).2 ∧ D i ((f i).run S).2)
    (h₂ : ∀ i i' S, i' ≠ i → P S → D i' S → D i' ((f i).run S).2) : ∀ (l : List ι) (S : St Ideal), l.Nodup → P S →
      ((Den.each f l).run S).1 = l.map g ∧ P ((Den.each f l).run S).2 ∧ ∀ i, (i ∈ l ∨ D i S) → D i ((Den.each f l).run S).2
  | [], S, _, hP => ⟨rfl, hP, fun i h => h.elim (fun h => absurd h (by simp)) id⟩
  | i :: l, S, hl, hP => by
    obtain ⟨e, hP', hD⟩ := h₁ i S hP
    obtain ⟨e', hP'', hD'⟩ := each_post f P D g h₁ h₂ l ((f i).run S).2 (List.nodup_cons.1 hl).2 hP'
    refine ⟨?_, hP'', fun i' h => hD' i' ?_⟩
    · change ((f i).run S).1 :: ((Den.each f l).run ((f i).run S).2).1 = _
      rw [e, e']; rfl
    · by_cases hi : i' = i
      · subst hi; exact .inr hD
      · rcases h with h | h
        · exact .inl ((List.mem_cons.1 h).resolve_left hi)
        · exact .inr (h₂ i i' S hi hP h)

theorem half_q (X : Vec Ideal S1x128x2048 .bf16) (j : Fin 16) (u : Fin 2) : half (ld X (rX j)) u = qHead X (hd j u) := by
  funext a d
  refine ld_at X (rX j) _ _ fun e => ?_
  match e with
  | 0 => rfl
  | 1 => show 0 + 1 * a.val = a.val; omega
  | 2 => show 128 * j.val + 1 * (64 * u.val + d.val) = 64 * (2 * j.val + u.val) + d.val; omega

theorem half_k (X : Vec Ideal S1x128x512 .bf16) (j : Fin 4) (u : Fin 2) : half (ld X (rK j)) u = kHead X (kd j u) := by
  funext a d
  refine ld_at X (rK j) _ _ fun e => ?_
  match e with
  | 0 => rfl
  | 1 => show 0 + 1 * a.val = a.val; omega
  | 2 => show 128 * j.val + 1 * (64 * u.val + d.val) = 64 * (2 * j.val + u.val) + d.val; omega

theorem hd_split (h : Fin 32) : ∃ j u, h = hd j u := ⟨⟨h.val / 2, by omega⟩, ⟨h.val % 2, by omega⟩, Fin.ext (by simp only [hd]; omega)⟩
theorem kd_split (g : Fin 8) : ∃ j u, g = kd j u := ⟨⟨g.val / 2, by omega⟩, ⟨g.val % 2, by omega⟩, Fin.ext (by simp only [kd]; omega)⟩

theorem bind_put {α : Type} (k : Fin 19) (r : Rect (sh k)) (w : r.shape.Idx → Elt Ideal (el k)) (h : 0 < r.shape.numel) (hp : r.PackedRows (el k).packing)
    (f : PUnit → Den Ideal nD τ Λ A α) (S : St Ideal) : (put hA k r w h hp >>= f).run S = (f ⟨⟩).run (over k r w S) := rfl
theorem bind_load {α : Type} (k : Fin 19) (r : Rect (sh k)) (h : 0 < r.shape.numel)
    (f : (r.shape.Idx → Elt Ideal (el k)) → Den Ideal nD τ Λ A α) (S : St Ideal) : (Den.load k r h >>= f).run S = (f (ld (S k) r)).run S := rfl

/-! ## A q tile -/

theorem qTile_eq (j : Fin 16) (S : St Ideal) : ((qTile (nD := nD) (τ := τ) (Λ := Λ) hA j).run S) = ([sL (ld (S 0) (rX j)), sR (ld (S 0) (rX j))],
      over 13 (rH (hd j 1)) (asRow (mulf (sR (ld (S 0) (rX j))) (broadcast S1x128 (cst 0x3E000000#32))))
      (over 10 (rQt (hd j 1)) (shapeCast S1x64x128 (extractStridedSlice S64x128 ![64, 0] (codeT (ld (S 0) (rX j))) (by decide)) (by decide))
      (over 13 (rH (hd j 0)) (asRow (mulf (sL (ld (S 0) (rX j))) (broadcast S1x128 (cst 0x3E000000#32))))
      (over 10 (rQt (hd j 0)) (shapeCast S1x64x128 (extractStridedSlice S64x128 ![0, 0] (codeT (ld (S 0) (rX j))) (by decide)) (by decide))
      (over 4 (rX j) (code8 (ld (S 0) (rX j))) S))))) := by
  unfold qTile
  refine (bind_load ..).trans ?_
  refine (bind_put ..).trans ?_
  refine (bind_put ..).trans ?_
  refine (bind_put ..).trans ?_
  refine (bind_put ..).trans ?_
  refine (bind_put ..).trans ?_
  rfl

theorem qTile_run (j : Fin 16) (S : St Ideal) (x : Vec Ideal S1x128x128 .bf16) (hx : ld (S 0) (rX j) = x) :
    ((qTile (nD := nD) (τ := τ) (Λ := Λ) hA j).run S).1 = [sL x, sR x]
    ∧ ((qTile (nD := nD) (τ := τ) (Λ := Λ) hA j).run S).2 4 = (rX j).overlay (S 4) (code8 x)
    ∧ ((qTile (nD := nD) (τ := τ) (Λ := Λ) hA j).run S).2 10 = (rQt (hd j 1)).overlay ((rQt (hd j 0)).overlay (S 10)
        (shapeCast S1x64x128 (extractStridedSlice S64x128 ![0, 0] (codeT x) (by decide)) (by decide)))
        (shapeCast S1x64x128 (extractStridedSlice S64x128 ![64, 0] (codeT x) (by decide)) (by decide))
    ∧ ((qTile (nD := nD) (τ := τ) (Λ := Λ) hA j).run S).2 13 = (rH (hd j 1)).overlay ((rH (hd j 0)).overlay (S 13)
        (asRow (mulf (sL x) (broadcast S1x128 (cst 0x3E000000#32))))) (asRow (mulf (sR x) (broadcast S1x128 (cst 0x3E000000#32)))) := by
  subst hx
  have e := qTile_eq (nD := nD) (τ := τ) (Λ := Λ) hA j S
  exact ⟨congrArg Prod.fst e, over_five (by decide) (by decide) (by decide) _ _ _ _ _ _ _ _ _ _ S _ (congrArg Prod.snd e)⟩

theorem qTile_post (j : Fin 16) (S : St Ideal) (ht : ∀ h, Tame (qHead (S 0) h)) (u : Fin 2) :
    QH (qHead (S 0) (hd j u)) (hd j u) ((qTile (nD := nD) (τ := τ) (Λ := Λ) hA j).run S).2 := by
  obtain ⟨-, e4, e10, e13⟩ := qTile_run (nD := nD) (τ := τ) (Λ := Λ) hA j S _ rfl
  have hx : ∀ u, Tame (half (ld (S 0) (rX j)) u) := fun u => by rw [half_q]; exact ht _
  rw [← half_q]
  refine ⟨fun a d => ?_, fun d c => ?_, fun c => ?_⟩
  · unfold b4
    rw [e4, ← code8_at hx]
    refine overlay_at (rX j) _ _ _ _ fun e => ?_
    match e with
    | 0 => rfl
    | 1 => show 0 + 1 * a.val = a.val; omega
    | 2 => show 128 * j.val + 1 * (64 * u.val + d.val) = 64 * (2 * j.val + u.val) + d.val; omega
  · unfold b10
    rw [e10]
    match u with
    | 0 =>
      refine (overlay_off _ _ _ 2 (.inl ?_)).trans ?_
      · show 128 * ((2 * j.val + 0) % 4) + c.val < 128 * ((2 * j.val + 1) % 4); omega
      rw [← qt₀_at hx]
      refine overlay_at (rQt (hd j 0)) _ _ _ _ fun e => ?_
      match e with
      | 0 => rfl
      | 1 => show 0 + 1 * d.val = d.val; omega
      | 2 => show 128 * ((2 * j.val + 0) % 4) + 1 * c.val = 128 * ((2 * j.val + 0) % 4) + c.val; omega
    | 1 =>
      rw [← qt₁_at hx]
      refine overlay_at (rQt (hd j 1)) _ _ _ _ fun e => ?_
      match e with
      | 0 => rfl
      | 1 => show 0 + 1 * d.val = d.val; omega
      | 2 => show 128 * ((2 * j.val + 1) % 4) + 1 * c.val = 128 * ((2 * j.val + 1) % 4) + c.val; omega
  · unfold b13
    rw [e13]
    match u with
    | 0 =>
      refine (overlay_off _ _ _ 0 (.inl ?_)).trans ?_
      · show 2 * j.val + 0 < 2 * j.val + 1; omega
      rw [← sL_at (hx 0) c, ← asRow_at]
      refine overlay_at (rH (hd j 0)) _ _ _ _ fun e => ?_
      match e with
      | 0 => rfl
      | 1 => show 0 + 1 * c.val = c.val; omega
    | 1 =>
      rw [← sR_at (hx 1) c, ← asRow_at]
      refine overlay_at (rH (hd j 1)) _ _ _ _ fun e => ?_
      match e with
      | 0 => rfl
      | 1 => show 0 + 1 * c.val = c.val; omega

theorem qTile_keep (i j : Fin 16) (u : Fin 2) (hij : j ≠ i) (t : Fin 128 → Fin 64 → EReal) (S : St Ideal) (h : QH t (hd j u) S) :
    QH t (hd j u) ((qTile (nD := nD) (τ := τ) (Λ := Λ) hA i).run S).2 := by
  obtain ⟨-, e4, e10, e13⟩ := qTile_run (nD := nD) (τ := τ) (Λ := Λ) hA i S _ rfl
  have hne : j.val ≠ i.val := fun h => hij (Fin.ext h)
  refine ⟨fun a d => ?_, fun d c => ?_, fun c => ?_⟩
  · rw [← h.codes]
    unfold b4
    rw [e4]
    refine overlay_off _ _ _ 2 ?_
    show 64 * (2 * j.val + u.val) + d.val < 128 * i.val ∨ 128 * i.val + 128 ≤ 64 * (2 * j.val + u.val) + d.val
    omega
  · rw [← h.trans]
    unfold b10
    rw [e10]
    have key : ∀ v : Fin 2, (hd j u).val / 4 < (hd i v).val / 4 ∨ (hd i v).val / 4 + 1 ≤ (hd j u).val / 4
        ∨ 128 * ((hd j u).val % 4) + c.val < 128 * ((hd i v).val % 4) ∨ 128 * ((hd i v).val % 4) + 128 ≤ 128 * ((hd j u).val % 4) + c.val := by
      intro v; simp only [hd]; omega
    have step : ∀ (v : Fin 2) (f) (w), (rQt (hd i v)).overlay f w (ix3 ⟨(hd j u).val / 4, by omega⟩ d ⟨128 * ((hd j u).val % 4) + c.val, by omega⟩)
        = (f (ix3 ⟨(hd j u).val / 4, by omega⟩ d ⟨128 * ((hd j u).val % 4) + c.val, by omega⟩) : EReal) := by
      intro v f w
      rcases key v with k | k | k | k
      · exact overlay_off _ _ _ 0 (.inl k)
      · exact overlay_off _ _ _ 0 (.inr k)
      · exact overlay_off _ _ _ 2 (.inl k)
      · exact overlay_off _ _ _ 2 (.inr k)
    exact (step 1 _ _).trans (step 0 _ _)
  · rw [← h.scale c]
    unfold b13
    rw [e13]
    have step : ∀ (v : Fin 2) (f) (w), (rH (hd i v)).overlay f w (ix2 (hd j u) c) = (f (ix2 (hd j u) c) : EReal) := by
      intro v f w
      refine overlay_off _ _ _ 0 ?_
      show 2 * j.val + u.val < 2 * i.val + v.val ∨ 2 * i.val + v.val + 1 ≤ 2 * j.val + u.val
      omega
    exact (step 1 _ _).trans (step 0 _ _)

/-! ## A k tile and a v tile -/

theorem kTile_eq (r : Row) (j : Fin 4) (S : St Ideal) : ((kTile (nD := nD) (τ := τ) (Λ := Λ) hA r j).run S) = ([sL (ld (S 1) (rK j)), sR (ld (S 1) (rK j))],
      over 14 (rS r (kd j 1)) (shapeCast S1x1x128 (sR (ld (S 1) (rK j))) (by decide))
      (over 11 (rKt r (kd j 1)) (shapeCast S1x1x128x64 (truncf .fp8e4m3 (extractStridedSlice S128x64 ![0, 64] (codes (ld (S 1) (rK j))) (by decide)) (by decide) : FVec Ideal S128x64 .fp8e4m3) (by decide))
      (over 14 (rS r (kd j 0)) (shapeCast S1x1x128 (sL (ld (S 1) (rK j))) (by decide))
      (over 11 (rKt r (kd j 0)) (shapeCast S1x1x128x64 (truncf .fp8e4m3 (extractStridedSlice S128x64 ![0, 0] (codes (ld (S 1) (rK j))) (by decide)) (by decide) : FVec Ideal S128x64 .fp8e4m3) (by decide))
      (over 6 (rK j) (code8 (ld (S 1) (rK j))) S))))) := by
  unfold kTile
  refine (bind_load ..).trans ?_
  refine (bind_put ..).trans ?_
  refine (bind_put ..).trans ?_
  refine (bind_put ..).trans ?_
  refine (bind_put ..).trans ?_
  refine (bind_put ..).trans ?_
  rfl

theorem vTile_eq (r : Row) (j : Fin 4) (S : St Ideal) : ((vTile (nD := nD) (τ := τ) (Λ := Λ) hA r j).run S) = ([sL (ld (S 2) (rK j)), sR (ld (S 2) (rK j))],
      over 15 (rS r (kd j 1)) (shapeCast S1x1x128 (mulf (sR (ld (S 2) (rK j))) (broadcast S1x128 (cst 0x3B800000#32))) (by decide))
      (over 15 (rS r (kd j 0)) (shapeCast S1x1x128 (mulf (sL (ld (S 2) (rK j))) (broadcast S1x128 (cst 0x3B800000#32))) (by decide))
      (over 12 (rVt r j) (shapeCast S1x128x128 (codeT (ld (S 2) (rK j))) (by decide))
      (over 8 (rK j) (code8 (ld (S 2) (rK j))) S)))) := by
  unfold vTile
  refine (bind_load ..).trans ?_
  refine (bind_put ..).trans ?_
  refine (bind_put ..).trans ?_
  refine (bind_put ..).trans ?_
  refine (bind_put ..).trans ?_
  rfl

/-- Rows other than `r` of the k and v arrays are as in `S₀`. -/
structure Rows (r : Fin 32) (S₀ S : St Ideal) : Prop where
  k : ∀ j g, j ≠ r → (∀ a d, b11 S j g a d = b11 S₀ j g a d) ∧ ∀ c, b14 S j g c = b14 S₀ j g c
  v : ∀ j, j ≠ r → (∀ e a, b12 S j e a = b12 S₀ j e a) ∧ ∀ g c, b15 S j g c = b15 S₀ j g c

section Row

variable (r : Fin 32)

/-- A store to another row, or another head of a row, is not seen. -/
theorem off_rKt (g : Fin 8) (f w) (j : Fin 32) (g' : Fin 8) (a : Fin 128) (d : Fin 64) (h : j ≠ r ∨ g' ≠ g) :
    (rKt (row r) g).overlay f w (ix4 j g' a d) = (f (ix4 j g' a d) : EReal) := by
  by_cases hj : j = r
  · have hg : g'.val ≠ g.val := fun e => (h.resolve_left (fun h => h hj)) (Fin.ext e)
    refine overlay_off _ _ _ 1 ?_
    show g'.val < g.val ∨ g.val + 1 ≤ g'.val
    omega
  · have hj : j.val ≠ r.val := fun e => hj (Fin.ext e)
    refine overlay_off _ _ _ 0 ?_
    show j.val < (row r).at ∨ (row r).at + 1 ≤ j.val
    rw [row_at]; omega
theorem off_rS (g : Fin 8) (f w) (j : Fin 32) (g' : Fin 8) (a : Fin 128) (h : j ≠ r ∨ g' ≠ g) :
    (rS (row r) g).overlay f w (ix3 j g' a) = (f (ix3 j g' a) : EReal) := by
  by_cases hj : j = r
  · have hg : g'.val ≠ g.val := fun e => (h.resolve_left (fun h => h hj)) (Fin.ext e)
    refine overlay_off _ _ _ 1 ?_
    show g'.val < g.val ∨ g.val + 1 ≤ g'.val
    omega
  · have hj : j.val ≠ r.val := fun e => hj (Fin.ext e)
    refine overlay_off _ _ _ 0 ?_
    show j.val < (row r).at ∨ (row r).at + 1 ≤ j.val
    rw [row_at]; omega
theorem off_rVt (i : Fin 4) (f w) (j : Fin 32) (e : Fin 512) (a : Fin 128) (h : j ≠ r ∨ e.val / 128 ≠ i.val) :
    (rVt (row r) i).overlay f w (ix3 j e a) = (f (ix3 j e a) : EReal) := by
  by_cases hj : j = r
  · have hg := h.resolve_left (fun h => h hj)
    refine overlay_off _ _ _ 1 ?_
    show e.val < 128 * i.val ∨ 128 * i.val + 128 ≤ e.val
    omega
  · have hj : j.val ≠ r.val := fun e => hj (Fin.ext e)
    refine overlay_off _ _ _ 0 ?_
    show j.val < (row r).at ∨ (row r).at + 1 ≤ j.val
    rw [row_at]; omega
theorem on_rKt (g : Fin 8) (f w) (a : Fin 128) (d : Fin 64) : (rKt (row r) g).overlay f w (ix4 r g a d) = (w (ix4 0 0 a d) : EReal) := by
  refine overlay_at (rKt (row r) g) _ _ _ _ fun e => ?_
  match e with
  | 0 => show (row r).at + 1 * 0 = r.val; rw [row_at]; omega
  | 1 => show g.val + 1 * 0 = g.val; omega
  | 2 => show 0 + 1 * a.val = a.val; omega
  | 3 => show 0 + 1 * d.val = d.val; omega
theorem on_rS (g : Fin 8) (f w) (a : Fin 128) : (rS (row r) g).overlay f w (ix3 r g a) = (w (ix3 0 0 a) : EReal) := by
  refine overlay_at (rS (row r) g) _ _ _ _ fun e => ?_
  match e with
  | 0 => show (row r).at + 1 * 0 = r.val; rw [row_at]; omega
  | 1 => show g.val + 1 * 0 = g.val; omega
  | 2 => show 0 + 1 * a.val = a.val; omega
theorem on_rVt (i : Fin 4) (f w) (u : Fin 2) (d : Fin 64) (a : Fin 128) :
    (rVt (row r) i).overlay f w (ix3 r ⟨64 * (kd i u).val + d.val, by omega⟩ a) = (w (ix3 0 ⟨64 * u.val + d.val, by omega⟩ a) : EReal) := by
  refine overlay_at (rVt (row r) i) _ _ _ _ fun e => ?_
  match e with
  | 0 => show (row r).at + 1 * 0 = r.val; rw [row_at]; omega
  | 1 => show 128 * i.val + 1 * (64 * u.val + d.val) = 64 * (2 * i.val + u.val) + d.val; omega
  | 2 => show 0 + 1 * a.val = a.val; omega
theorem on_rK (i : Fin 4) (f w) (u : Fin 2) (a : Fin 128) (d : Fin 64) :
    (rK i).overlay f w (ix3 0 a ⟨64 * (kd i u).val + d.val, by omega⟩) = (w (ix3 0 a ⟨64 * u.val + d.val, by omega⟩) : EReal) := by
  refine overlay_at (rK i) _ _ _ _ fun e => ?_
  match e with
  | 0 => rfl
  | 1 => show 0 + 1 * a.val = a.val; omega
  | 2 => show 128 * i.val + 1 * (64 * u.val + d.val) = 64 * (2 * i.val + u.val) + d.val; omega
theorem off_rK (i : Fin 4) (f w) (a : Fin 128) (e : Fin 512) (h : e.val / 128 ≠ i.val) :
    (rK i).overlay f w (ix3 0 a e) = (f (ix3 0 a e) : EReal) := by
  refine overlay_off _ _ _ 2 ?_
  show e.val < 128 * i.val ∨ 128 * i.val + 128 ≤ e.val
  omega

theorem kd_ne {j : Fin 4} {u v : Fin 2} (h : u ≠ v) : kd j u ≠ kd j v := fun e => h (Fin.ext (by have := congrArg Fin.val e; simp only [kd] at this; omega))
theorem kd_ne' {i j : Fin 4} {u v : Fin 2} (h : i ≠ j) : kd i u ≠ kd j v := fun e => h (Fin.ext (by have := congrArg Fin.val e; simp only [kd] at this; omega))
theorem kd_div (i : Fin 4) (u : Fin 2) (d : Fin 64) : (64 * (kd i u).val + d.val) / 128 = i.val := by simp only [kd]; omega

/-- A k tile's part of the arrays. -/
structure KD (X : Vec Ideal S1x128x512 .bf16) (g : Fin 8) (S : St Ideal) : Prop where
  out : KO (kHead X g) g S
  row : KR (kHead X g) r g S
structure VD (X : Vec Ideal S1x128x512 .bf16) (g : Fin 8) (S : St Ideal) : Prop where
  out : VO (kHead X g) g S
  row : VR (kHead X g) r g S

theorem kTile_post (j : Fin 4) (S : St Ideal) (ht : ∀ h, Tame (kHead (S 1) h)) (u : Fin 2) :
    KD r (S 1) (kd j u) ((kTile (nD := nD) (τ := τ) (Λ := Λ) hA (row r) j).run S).2 := by
  have hx : ∀ u, Tame (half (ld (S 1) (rK j)) u) := fun u => by rw [half_k]; exact ht _
  obtain ⟨e6, e11, e14⟩ := over_five (by decide) (by decide) (by decide) _ _ _ _ _ _ _ _ _ _ S _ (congrArg Prod.snd (kTile_eq (nD := nD) (τ := τ) (Λ := Λ) hA (row r) j S))
  refine ⟨?_, ?_, ?_⟩ <;> rw [← half_k]
  · intro a d
    unfold b6
    rw [e6]
    rw [← code8_at hx]
    exact on_rK j _ _ u a d
  · intro a d
    unfold b11
    rw [e11]
    match u with
    | 0 =>
      rw [← kt₀_at hx]
      exact (off_rKt r _ _ _ _ _ _ _ (.inr (kd_ne (by decide)))).trans (on_rKt ..)
    | 1 =>
      rw [← kt₁_at hx]
      exact on_rKt ..
  · intro c
    unfold b14
    rw [e14]
    match u with
    | 0 =>
      rw [← sL_at (hx 0) c]
      exact ((off_rS r _ _ _ _ _ _ (.inr (kd_ne (by decide)))).trans (on_rS ..)).trans (row3_at _ c)
    | 1 =>
      rw [← sR_at (hx 1) c]
      exact (on_rS ..).trans (row3_at _ c)

theorem vTile_post (j : Fin 4) (S : St Ideal) (ht : ∀ h, Tame (kHead (S 2) h)) (u : Fin 2) :
    VD r (S 2) (kd j u) ((vTile (nD := nD) (τ := τ) (Λ := Λ) hA (row r) j).run S).2 := by
  have hx : ∀ u, Tame (half (ld (S 2) (rK j)) u) := fun u => by rw [half_k]; exact ht _
  obtain ⟨e8, e12, e15⟩ := over_four (by decide) (by decide) (by decide) _ _ _ _ _ _ _ _ S _ (congrArg Prod.snd (vTile_eq (nD := nD) (τ := τ) (Λ := Λ) hA (row r) j S))
  refine ⟨?_, ?_, ?_⟩ <;> rw [← half_k]
  · intro a d
    unfold b8
    rw [e8]
    rw [← code8_at hx]
    exact on_rK j _ _ u a d
  · intro a d
    unfold b12
    rw [e12]
    rw [← vt_at hx]
    exact on_rVt ..
  · intro c
    unfold b15
    rw [e15]
    match u with
    | 0 =>
      rw [← sL_at (hx 0) c, ← row3mul_at]
      exact (off_rS r _ _ _ _ _ _ (.inr (kd_ne (by decide)))).trans (on_rS ..)
    | 1 =>
      rw [← sR_at (hx 1) c, ← row3mul_at]
      exact on_rS ..

theorem kTile_keep (i j : Fin 4) (u : Fin 2) (hij : j ≠ i) (X : Vec Ideal S1x128x512 .bf16) (S : St Ideal) (h : KD r X (kd j u) S) :
    KD r X (kd j u) ((kTile (nD := nD) (τ := τ) (Λ := Λ) hA (row r) i).run S).2 := by
  obtain ⟨e6, e11, e14⟩ := over_five (by decide) (by decide) (by decide) _ _ _ _ _ _ _ _ _ _ S _ (congrArg Prod.snd (kTile_eq (nD := nD) (τ := τ) (Λ := Λ) hA (row r) i S))
  refine ⟨?_, ?_, ?_⟩
  · intro a d
    unfold b6
    rw [e6]
    exact (off_rK _ _ _ _ _ (by rw [kd_div]; exact fun e => hij (Fin.ext e))).trans (h.out a d)
  · intro a d
    unfold b11
    rw [e11]
    exact (off_rKt r _ _ _ _ _ _ _ (.inr (kd_ne' hij))).trans ((off_rKt r _ _ _ _ _ _ _ (.inr (kd_ne' hij))).trans (h.row.codes a d))
  · intro c
    unfold b14
    rw [e14]
    exact (off_rS r _ _ _ _ _ _ (.inr (kd_ne' hij))).trans ((off_rS r _ _ _ _ _ _ (.inr (kd_ne' hij))).trans (h.row.scale c))

theorem vTile_keep (i j : Fin 4) (u : Fin 2) (hij : j ≠ i) (X : Vec Ideal S1x128x512 .bf16) (S : St Ideal) (h : VD r X (kd j u) S) :
    VD r X (kd j u) ((vTile (nD := nD) (τ := τ) (Λ := Λ) hA (row r) i).run S).2 := by
  obtain ⟨e8, e12, e15⟩ := over_four (by decide) (by decide) (by decide) _ _ _ _ _ _ _ _ S _ (congrArg Prod.snd (vTile_eq (nD := nD) (τ := τ) (Λ := Λ) hA (row r) i S))
  refine ⟨?_, ?_, ?_⟩
  · intro a d
    unfold b8
    rw [e8]
    exact (off_rK _ _ _ _ _ (by rw [kd_div]; exact fun e => hij (Fin.ext e))).trans (h.out a d)
  · intro a d
    unfold b12
    rw [e12]
    exact (off_rVt r _ _ _ _ _ _ (.inr (by rw [kd_div]; exact fun e => hij (Fin.ext e)))).trans (h.row.codes a d)
  · intro c
    unfold b15
    rw [e15]
    exact (off_rS r _ _ _ _ _ _ (.inr (kd_ne' hij))).trans ((off_rS r _ _ _ _ _ _ (.inr (kd_ne' hij))).trans (h.row.scale c))

theorem kTile_rows (i : Fin 4) (S₀ S : St Ideal) (h : Rows r S₀ S) : Rows r S₀ ((kTile (nD := nD) (τ := τ) (Λ := Λ) hA (row r) i).run S).2 := by
  obtain ⟨e6, e11, e14⟩ := over_five (by decide) (by decide) (by decide) _ _ _ _ _ _ _ _ _ _ S _ (congrArg Prod.snd (kTile_eq (nD := nD) (τ := τ) (Λ := Λ) hA (row r) i S))
  refine ⟨fun j g hj => ⟨?_, ?_⟩, fun j hj => ⟨?_, ?_⟩⟩
  · intro a d
    unfold b11
    rw [e11]
    exact (off_rKt r _ _ _ _ _ _ _ (.inl hj)).trans ((off_rKt r _ _ _ _ _ _ _ (.inl hj)).trans ((h.k j g hj).1 a d))
  · intro c
    unfold b14
    rw [e14]
    exact (off_rS r _ _ _ _ _ _ (.inl hj)).trans ((off_rS r _ _ _ _ _ _ (.inl hj)).trans ((h.k j g hj).2 c))
  · intro e a
    exact (congrFun ((writes_kTile hA (row r) i).keeps S 12 (by decide)) _).trans ((h.v j hj).1 e a)
  · intro g c
    exact (congrFun ((writes_kTile hA (row r) i).keeps S 15 (by decide)) _).trans ((h.v j hj).2 g c)

theorem vTile_rows (i : Fin 4) (S₀ S : St Ideal) (h : Rows r S₀ S) : Rows r S₀ ((vTile (nD := nD) (τ := τ) (Λ := Λ) hA (row r) i).run S).2 := by
  obtain ⟨e8, e12, e15⟩ := over_four (by decide) (by decide) (by decide) _ _ _ _ _ _ _ _ S _ (congrArg Prod.snd (vTile_eq (nD := nD) (τ := τ) (Λ := Λ) hA (row r) i S))
  refine ⟨fun j g hj => ⟨?_, ?_⟩, fun j hj => ⟨?_, ?_⟩⟩
  · intro a d
    exact (congrFun ((writes_vTile hA (row r) i).keeps S 11 (by decide)) _).trans ((h.k j g hj).1 a d)
  · intro c
    exact (congrFun ((writes_vTile hA (row r) i).keeps S 14 (by decide)) _).trans ((h.k j g hj).2 c)
  · intro e a
    unfold b12
    rw [e12]
    exact (off_rVt r _ _ _ _ _ _ (.inl hj)).trans ((h.v j hj).1 e a)
  · intro g c
    unfold b15
    rw [e15]
    exact (off_rS r _ _ _ _ _ _ (.inl hj)).trans ((off_rS r _ _ _ _ _ _ (.inl hj)).trans ((h.v j hj).2 g c))

/-- The k and v tile of one index. -/
theorem kvTile_eq (t : Row) (j : Fin 4) (S : St Ideal) : (kvTile (nD := nD) (τ := τ) (Λ := Λ) hA t j).run S
    = ((((kTile (nD := nD) (τ := τ) (Λ := Λ) hA t j).run S).1, ((vTile (nD := nD) (τ := τ) (Λ := Λ) hA t j).run ((kTile (nD := nD) (τ := τ) (Λ := Λ) hA t j).run S).2).1),
      ((vTile (nD := nD) (τ := τ) (Λ := Λ) hA t j).run ((kTile (nD := nD) (τ := τ) (Λ := Λ) hA t j).run S).2).2) := rfl

end Row

/-- The scales a list of tiles returns. -/
def qScales (X : Vec Ideal S1x128x2048 .bf16) (j : Fin 16) : List (FVec Ideal S1x128 .f32) := [sL (ld X (rX j)), sR (ld X (rX j))]
def kScales (X : Vec Ideal S1x128x512 .bf16) (j : Fin 4) : List (FVec Ideal S1x128 .f32) := [sL (ld X (rK j)), sR (ld X (rK j))]

/-- All q tiles. -/
theorem qTiles_post (X : Vec Ideal S1x128x2048 .bf16) (ht : ∀ h, Tame (qHead X h)) (S : St Ideal) (hS : S 0 = X) :
    ((Den.each (qTile (nD := nD) (τ := τ) (Λ := Λ) hA) [0, 1, 2, 3, 4, 5, 6, 7, 8, 9, 10, 11, 12, 13, 14, 15]).run S).1
      = [0, 1, 2, 3, 4, 5, 6, 7, 8, 9, 10, 11, 12, 13, 14, 15].map (qScales X)
    ∧ ∀ h, QH (qHead X h) h ((Den.each (qTile (nD := nD) (τ := τ) (Λ := Λ) hA) [0, 1, 2, 3, 4, 5, 6, 7, 8, 9, 10, 11, 12, 13, 14, 15]).run S).2 := by
  obtain ⟨e, -, h⟩ := each_post (qTile (nD := nD) (τ := τ) (Λ := Λ) hA) (fun S => S 0 = X) (fun j S => ∀ u, QH (qHead X (hd j u)) (hd j u) S) (qScales X)
    (fun j S h => by
      subst h
      exact ⟨(qTile_run hA j S _ rfl).1, (writes_qTile (F := Ideal) (nD := nD) (τ := τ) (Λ := Λ) hA j).keeps S 0 (by decide), fun u => qTile_post hA j S ht u⟩)
    (fun i i' S hi _ h u => qTile_keep hA i i' u hi _ S (h u)) [0, 1, 2, 3, 4, 5, 6, 7, 8, 9, 10, 11, 12, 13, 14, 15] S (by decide) hS
  refine ⟨e, fun g => ?_⟩
  obtain ⟨j, u, rfl⟩ := hd_split g
  exact h j (.inl (by revert j; decide)) u

/-- All k and v tiles. -/
theorem kvTiles_post (r : Fin 32) (X Y : Vec Ideal S1x128x512 .bf16) (hX : ∀ h, Tame (kHead X h)) (hY : ∀ h, Tame (kHead Y h)) (S₀ S : St Ideal)
    (h1 : S 1 = X) (h2 : S 2 = Y) (hr : Rows r S₀ S) :
    ((Den.each (kvTile (nD := nD) (τ := τ) (Λ := Λ) hA (row r)) [0, 1, 2, 3]).run S).1 = [0, 1, 2, 3].map (fun j => (kScales X j, kScales Y j))
    ∧ Rows r S₀ ((Den.each (kvTile (nD := nD) (τ := τ) (Λ := Λ) hA (row r)) [0, 1, 2, 3]).run S).2
    ∧ ∀ g, KD r X g ((Den.each (kvTile (nD := nD) (τ := τ) (Λ := Λ) hA (row r)) [0, 1, 2, 3]).run S).2
      ∧ VD r Y g ((Den.each (kvTile (nD := nD) (τ := τ) (Λ := Λ) hA (row r)) [0, 1, 2, 3]).run S).2 := by
  have kv : ∀ (X : Vec Ideal S1x128x512 .bf16) g i S, KD r X g S → KD r X g ((vTile (nD := nD) (τ := τ) (Λ := Λ) hA (row r) i).run S).2 := by
    intro X g i S h
    have e := (writes_vTile (F := Ideal) (nD := nD) (τ := τ) (Λ := Λ) hA (row r) i).keeps S
    refine ⟨fun a d => ?_, fun a d => ?_, fun c => ?_⟩
    · exact (congrFun (e 6 (by decide)) _).trans (h.out a d)
    · exact (congrFun (e 11 (by decide)) _).trans (h.row.codes a d)
    · exact (congrFun (e 14 (by decide)) _).trans (h.row.scale c)
  have vk : ∀ (X : Vec Ideal S1x128x512 .bf16) g i S, VD r X g S → VD r X g ((kTile (nD := nD) (τ := τ) (Λ := Λ) hA (row r) i).run S).2 := by
    intro X g i S h
    have e := (writes_kTile (F := Ideal) (nD := nD) (τ := τ) (Λ := Λ) hA (row r) i).keeps S
    refine ⟨fun a d => ?_, fun a d => ?_, fun c => ?_⟩
    · exact (congrFun (e 8 (by decide)) _).trans (h.out a d)
    · exact (congrFun (e 12 (by decide)) _).trans (h.row.codes a d)
    · exact (congrFun (e 15 (by decide)) _).trans (h.row.scale c)
  obtain ⟨e, ⟨-, -, hr'⟩, h⟩ := each_post (kvTile (nD := nD) (τ := τ) (Λ := Λ) hA (row r)) (fun S => S 1 = X ∧ S 2 = Y ∧ Rows r S₀ S)
    (fun j S => ∀ u, KD r X (kd j u) S ∧ VD r Y (kd j u) S) (fun j => (kScales X j, kScales Y j))
    (fun j S ⟨h1, h2, hr⟩ => by
      have e2 : ((kTile (nD := nD) (τ := τ) (Λ := Λ) hA (row r) j).run S).2 2 = Y := ((writes_kTile (F := Ideal) (nD := nD) (τ := τ) (Λ := Λ) hA (row r) j).keeps S 2 (by decide)).trans h2
      have e1 : ((kTile (nD := nD) (τ := τ) (Λ := Λ) hA (row r) j).run S).2 1 = X := ((writes_kTile (F := Ideal) (nD := nD) (τ := τ) (Λ := Λ) hA (row r) j).keeps S 1 (by decide)).trans h1
      rw [kvTile_eq]
      refine ⟨?_, ⟨((writes_vTile (F := Ideal) (nD := nD) (τ := τ) (Λ := Λ) hA (row r) j).keeps _ 1 (by decide)).trans e1, ((writes_vTile (F := Ideal) (nD := nD) (τ := τ) (Λ := Λ) hA (row r) j).keeps _ 2 (by decide)).trans e2,
        vTile_rows hA r j S₀ _ (kTile_rows hA r j S₀ S hr)⟩, fun u => ⟨kv X _ j _ ?_, ?_⟩⟩
      · have k₁ := congrArg Prod.fst (kTile_eq (nD := nD) (τ := τ) (Λ := Λ) hA (row r) j S)
        have v₁ := congrArg Prod.fst (vTile_eq (nD := nD) (τ := τ) (Λ := Λ) hA (row r) j ((kTile (nD := nD) (τ := τ) (Λ := Λ) hA (row r) j).run S).2)
        rw [h1] at k₁
        rw [e2] at v₁
        exact Prod.ext k₁ v₁
      · have := kTile_post (nD := nD) (τ := τ) (Λ := Λ) hA r j S (by rw [h1]; exact hX) u
        rwa [h1] at this
      · have := vTile_post (nD := nD) (τ := τ) (Λ := Λ) hA r j ((kTile (nD := nD) (τ := τ) (Λ := Λ) hA (row r) j).run S).2 (by rw [e2]; exact hY) u
        rwa [e2] at this)
    (fun i i' S hi _ h u => by
      rw [kvTile_eq]
      exact ⟨kv _ _ _ _ (kTile_keep hA r i i' u hi _ _ (h u).1), vTile_keep hA r i i' u hi _ _ (vk _ _ _ _ (h u).2)⟩)
    [0, 1, 2, 3] S (by decide) ⟨h1, h2, hr⟩
  refine ⟨e, hr', fun g => ?_⟩
  obtain ⟨j, u, rfl⟩ := kd_split g
  exact h j (.inl (by revert j; decide)) u

end Run

end Attn

end
-- ==== Proof.Started.lean ====
/-
  The buffers once everything before the key blocks is done.
-/
module

public import proofs.«01_k».proof.Proof.Start

@[expose] public section

set_option maxRecDepth 16384

noncomputable section

namespace Attn

open Idealize.ShloMosaic Idealize.ShloMosaic.TcCoe Idealize.SL Idealize.SL.Sem

theorem QH.congr {t : Fin 128 → Fin 64 → EReal} {h : Fin 32} {S S' : St Ideal} (H : QH t h S) (e4 : S' 4 = S 4) (e10 : S' 10 = S 10) (e13 : S' 13 = S 13) :
    QH t h S' :=
  ⟨fun a d => (congrFun e4 _).trans (H.codes a d), fun d c => (congrFun e10 _).trans (H.trans d c), fun c => (congrFun e13 _).trans (H.scale c)⟩
theorem KD.congr {r : Fin 32} {X : Vec Ideal S1x128x512 .bf16} {g : Fin 8} {S S' : St Ideal} (H : KD r X g S) (e6 : S' 6 = S 6) (e11 : S' 11 = S 11)
    (e14 : S' 14 = S 14) : KD r X g S' :=
  ⟨fun a d => (congrFun e6 _).trans (H.out a d), fun a d => (congrFun e11 _).trans (H.row.codes a d), fun c => (congrFun e14 _).trans (H.row.scale c)⟩
theorem VD.congr {r : Fin 32} {X : Vec Ideal S1x128x512 .bf16} {g : Fin 8} {S S' : St Ideal} (H : VD r X g S) (e8 : S' 8 = S 8) (e12 : S' 12 = S 12)
    (e15 : S' 15 = S 15) : VD r X g S' :=
  ⟨fun a d => (congrFun e8 _).trans (H.out a d), fun a d => (congrFun e12 _).trans (H.row.codes a d), fun c => (congrFun e15 _).trans (H.row.scale c)⟩
theorem Rows.congr {r : Fin 32} {S₀ S S' : St Ideal} (H : Rows r S₀ S) (e11 : S' 11 = S 11) (e12 : S' 12 = S 12) (e14 : S' 14 = S 14) (e15 : S' 15 = S 15) :
    Rows r S₀ S' :=
  ⟨fun j g hj => ⟨fun a d => (congrFun e11 _).trans ((H.k j g hj).1 a d), fun c => (congrFun e14 _).trans ((H.k j g hj).2 c)⟩,
    fun j hj => ⟨fun e a => (congrFun e12 _).trans ((H.v j hj).1 e a), fun g c => (congrFun e15 _).trans ((H.v j hj).2 g c)⟩⟩
theorem Rows.base {r : Fin 32} {S₀ S : St Ideal} (e11 : S 11 = S₀ 11) (e12 : S 12 = S₀ 12) (e14 : S 14 = S₀ 14) (e15 : S 15 = S₀ 15) : Rows r S₀ S :=
  Rows.congr ⟨fun _ _ _ => ⟨fun _ _ => rfl, fun _ => rfl⟩, fun _ _ => ⟨fun _ _ => rfl, fun _ _ => rfl⟩⟩ e11 e12 e14 e15

/-! ## The rows of scales -/

theorem gather_get (l : List (FVec Ideal S1x128 .f32)) (acc : FVec Ideal S1x128 .f32) (c : Fin 128) (hn : l.length ≤ 128) (v : FVec Ideal S1x128 .f32)
    (h : l[c.val]? = some v) : (gather 0 acc l (ix2 0 c) : EReal) = v (ix2 0 c) := by
  obtain ⟨hc, e⟩ := List.getElem?_eq_some_iff.1 h
  rw [gather_at l 0 acc c (by omega), dif_pos ⟨Nat.zero_le _, by omega⟩]
  have : ∀ (i : Nat) (hi : i < l.length), i = c.val → l[i] = v := by rintro i hi rfl; exact e
  rw [this _ _ (Nat.sub_zero _)]

theorem qScales_get (X : Vec Ideal S1x128x2048 .bf16) (h : Fin 32) :
    ([0, 1, 2, 3, 4, 5, 6, 7, 8, 9, 10, 11, 12, 13, 14, 15].map (qScales X)).flatten[h.val]?
      = some (if h.val % 2 = 0 then sL (ld X (rX ⟨h.val / 2, by omega⟩)) else sR (ld X (rX ⟨h.val / 2, by omega⟩))) := by
  fin_cases h <;> rfl
theorem kScales_get (X : Vec Ideal S1x128x512 .bf16) (h : Fin 8) :
    ([0, 1, 2, 3].map (kScales X)).flatten[h.val]?
      = some (if h.val % 2 = 0 then sL (ld X (rK ⟨h.val / 2, by omega⟩)) else sR (ld X (rK ⟨h.val / 2, by omega⟩))) := by
  fin_cases h <;> rfl

/-- The row of q's scales. -/
abbrev qRow (L : List (FVec Ideal S1x128 .f32)) : FVec Ideal S1x1x32 .f32 :=
  shapeCast S1x1x32 (extractStridedSlice S1x32 ![0, 0] (gather 0 (broadcast S1x128 (cst (F := Ideal) 0x00000000#32)) L) (by decide)) (by decide)
/-- The row of k's, or of v's, scales. -/
abbrev kRow (L : List (FVec Ideal S1x128 .f32)) : FVec Ideal S1x1x8 .f32 :=
  shapeCast S1x1x8 (extractStridedSlice S1x8 ![0, 0] (gather 0 (broadcast S1x128 (cst (F := Ideal) 0x00000000#32)) L) (by decide)) (by decide)

theorem qRow_get (L : List (FVec Ideal S1x128 .f32)) (h : Fin 32) (v : FVec Ideal S1x128 .f32) (hn : L.length ≤ 128) (hv : L[h.val]? = some v) :
    (qRow L (ix3 0 0 h) : EReal) = v (ix2 0 ⟨h.val, by omega⟩) := by
  rw [← gather_get L (broadcast S1x128 (cst (F := Ideal) 0x00000000#32)) ⟨h.val, by omega⟩ hn v hv]
  pointwise []

theorem qRow_at (X : Vec Ideal S1x128x2048 .bf16) (ht : ∀ h, Tame (qHead X h)) (h : Fin 32) :
    (qRow ([0, 1, 2, 3, 4, 5, 6, 7, 8, 9, 10, 11, 12, 13, 14, 15].map (qScales X)).flatten (ix3 0 0 h) : EReal) = rscale (amax (qHead X h)) := by
  refine (qRow_get _ h _ (by simp [qScales]) (qScales_get X h)).trans ?_
  obtain ⟨j, u, rfl⟩ := hd_split h
  have hx : ∀ u, Tame (half (ld X (rX j)) u) := fun u => by rw [half_q]; exact ht _
  have hj : (⟨(hd j u).val / 2, by omega⟩ : Fin 16) = j := Fin.ext (by simp only [hd]; omega)
  rw [hj, ← half_q]
  match u with
  | 0 => rw [if_pos (by simp only [hd, Fin.val_zero]; omega)]; exact sL_at (hx 0) _
  | 1 => rw [if_neg (by simp only [hd, Fin.val_one]; omega)]; exact sR_at (hx 1) _

theorem kRow_get (L : List (FVec Ideal S1x128 .f32)) (h : Fin 8) (v : FVec Ideal S1x128 .f32) (hn : L.length ≤ 128) (hv : L[h.val]? = some v) :
    (kRow L (ix3 0 0 h) : EReal) = v (ix2 0 ⟨h.val, by omega⟩) := by
  rw [← gather_get L (broadcast S1x128 (cst (F := Ideal) 0x00000000#32)) ⟨h.val, by omega⟩ hn v hv]
  pointwise []

theorem kRow_at (X : Vec Ideal S1x128x512 .bf16) (ht : ∀ h, Tame (kHead X h)) (h : Fin 8) :
    (kRow ([0, 1, 2, 3].map (kScales X)).flatten (ix3 0 0 h) : EReal) = rscale (amax (kHead X h)) := by
  refine (kRow_get _ h _ (by simp [kScales]) (kScales_get X h)).trans ?_
  obtain ⟨j, u, rfl⟩ := kd_split h
  have hx : ∀ u, Tame (half (ld X (rK j)) u) := fun u => by rw [half_k]; exact ht _
  have hj : (⟨(kd j u).val / 2, by omega⟩ : Fin 4) = j := Fin.ext (by simp only [kd]; omega)
  rw [hj, ← half_k]
  match u with
  | 0 => rw [if_pos (by simp only [kd, Fin.val_zero]; omega)]; exact sL_at (hx 0) _
  | 1 => rw [if_neg (by simp only [kd, Fin.val_one]; omega)]; exact sR_at (hx 1) _

theorem rQs_at (r : Fin 32) (f w) (j h : Fin 32) :
    (rQs (row r)).overlay f w (ix3 0 j h) = if j = r then (w (ix3 0 0 h) : EReal) else f (ix3 0 j h) := by
  by_cases hj : j = r
  · rw [if_pos hj]
    subst hj
    refine overlay_at (rQs (row j)) _ _ _ _ fun e => ?_
    match e with
    | 0 => rfl
    | 1 => show (row j).at + 1 * 0 = j.val; rw [row_at]; omega
    | 2 => show 0 + 1 * h.val = h.val; omega
  · rw [if_neg hj]
    have hj : j.val ≠ r.val := fun e => hj (Fin.ext e)
    refine overlay_off _ _ _ 1 ?_
    show j.val < (row r).at ∨ (row r).at + 1 ≤ j.val
    rw [row_at]; omega
theorem rKs_at (r : Fin 32) (f w) (j : Fin 32) (h : Fin 8) :
    (rKs (row r)).overlay f w (ix3 0 j h) = if j = r then (w (ix3 0 0 h) : EReal) else f (ix3 0 j h) := by
  by_cases hj : j = r
  · rw [if_pos hj]
    subst hj
    refine overlay_at (rKs (row j)) _ _ _ _ fun e => ?_
    match e with
    | 0 => rfl
    | 1 => show (row j).at + 1 * 0 = j.val; rw [row_at]; omega
    | 2 => show 0 + 1 * h.val = h.val; omega
  · rw [if_neg hj]
    have hj : j.val ≠ r.val := fun e => hj (Fin.ext e)
    refine overlay_off _ _ _ 1 ?_
    show j.val < (row r).at ∨ (row r).at + 1 ≤ j.val
    rw [row_at]; omega

/-- What the buffers hold before the key blocks, from what they held at the start of the point. -/
structure Started (r : Fin 32) (S S' : St Ideal) : Prop where
  q : ∀ h, QH (qHead (S 0) h) h S'
  k : ∀ g, KD r (S 1) g S'
  v : ∀ g, VD r (S 2) g S'
  rows : Rows r S S'
  qs : ∀ j h, b5 S' j h = if j = r then rscale (amax (qHead (S 0) h)) else b5 S j h
  ks : ∀ j g, b7 S' j g = if j = r then rscale (amax (kHead (S 1) g)) else b7 S j g
  vs : ∀ j g, b9 S' j g = if j = r then rscale (amax (kHead (S 2) g)) else b9 S j g
  m : ∀ h c, b16 S' h c = ((-2 : ℝ) : EReal)
  l : ∀ h s c, b17 S' h s c = 0
  o : ∀ k d e, b18 S' k d e = 0

section Run

variable {nD : Nat} {τ : Topo} {sig : RefSig} {Λ : Labels} {A : Bufs sig} (hA : ∀ k, (A k).IsWhole)

theorem start_eq (r : Fin 32) (S : St Ideal) (Q : List (List (FVec Ideal S1x128 .f32)) × St Ideal)
    (hQ : (Den.each (qTile (nD := nD) (τ := τ) (Λ := Λ) hA) [0, 1, 2, 3, 4, 5, 6, 7, 8, 9, 10, 11, 12, 13, 14, 15]).run S = Q)
    (T : List (List (FVec Ideal S1x128 .f32) × List (FVec Ideal S1x128 .f32)) × St Ideal)
    (hT : (Den.each (kvTile (nD := nD) (τ := τ) (Λ := Λ) hA (row r)) [0, 1, 2, 3]).run (over 5 (rQs (row r)) (qRow Q.1.flatten) Q.2) = T) :
    ((start (nD := nD) (τ := τ) (Λ := Λ) hA r).run S).2 =
      over 18 rO (shapeCast S8x64x512 (broadcast S8x64x512 (cst (F := Ideal) 0x00000000#32)) (by decide))
      (over 17 rLw (shapeCast S32x8x128 (broadcast S32x8x128 (cst (F := Ideal) 0x00000000#32)) (by decide))
      (over 16 rM (shapeCast S32x128 (broadcast S32x128 (cst (F := Ideal) 0xC0000000#32)) (by decide))
      (over 9 (rKs (row r)) (kRow (T.1.map (·.2)).flatten)
      (over 7 (rKs (row r)) (kRow (T.1.map (·.1)).flatten) T.2)))) := by
  subst hQ hT
  refine congrArg Prod.snd (?_ : _ = (PUnit.unit, _))
  unfold start
  refine (Den.run_bind ..).trans ?_
  refine (bind_put ..).trans ?_
  refine (Den.run_bind ..).trans ?_
  refine (bind_put ..).trans ?_
  refine (bind_put ..).trans ?_
  refine (bind_put ..).trans ?_
  refine (bind_put ..).trans ?_
  rfl

theorem over_read {k : Fin 19} (r : Rect (sh k)) (w : r.shape.Idx → Elt Ideal (el k)) (S S' : St Ideal) (e : S' = over k r w S) :
    S' k = r.overlay (S k) w ∧ ∀ i, i ≠ k → S' i = S i := by
  subst e
  exact ⟨over_self .., fun i h => over_ne h ..⟩

theorem start_post (r : Fin 32) (S : St Ideal) (hq : ∀ h, Tame (qHead (S 0) h)) (hk : ∀ h, Tame (kHead (S 1) h)) (hv : ∀ h, Tame (kHead (S 2) h)) :
    Started r S ((start (nD := nD) (τ := τ) (Λ := Λ) hA r).run S).2 := by
  obtain ⟨eq₁, eq₂⟩ := qTiles_post (nD := nD) (τ := τ) (Λ := Λ) hA (S 0) hq S rfl
  have qw := (Writes.each (F := Ideal) (fun j => writes_qTile (nD := nD) (τ := τ) (Λ := Λ) hA j) [0, 1, 2, 3, 4, 5, 6, 7, 8, 9, 10, 11, 12, 13, 14, 15]).keeps S
  have start := start_eq (nD := nD) (τ := τ) (Λ := Λ) hA r S _ rfl _ rfl
  generalize (Den.each (qTile (nD := nD) (τ := τ) (Λ := Λ) hA) [0, 1, 2, 3, 4, 5, 6, 7, 8, 9, 10, 11, 12, 13, 14, 15]).run S = Q at eq₁ eq₂ qw start
  obtain ⟨f5, g5⟩ := over_read (k := 5) (rQs (row r)) (qRow Q.1.flatten) Q.2 _ rfl
  generalize hS5 : over 5 (rQs (row r)) (qRow Q.1.flatten) Q.2 = S5 at start f5 g5
  obtain ⟨et₁, et₂, et₃⟩ := kvTiles_post (nD := nD) (τ := τ) (Λ := Λ) hA r (S 1) (S 2) hk hv S S5
    ((g5 1 (by decide)).trans (qw 1 (by decide))) ((g5 2 (by decide)).trans (qw 2 (by decide)))
    (Rows.base ((g5 11 (by decide)).trans (qw 11 (by decide))) ((g5 12 (by decide)).trans (qw 12 (by decide)))
      ((g5 14 (by decide)).trans (qw 14 (by decide))) ((g5 15 (by decide)).trans (qw 15 (by decide))))
  have tw := (Writes.each (F := Ideal) (fun j => writes_kvTile (nD := nD) (τ := τ) (Λ := Λ) hA (row r) j) [0, 1, 2, 3]).keeps S5
  generalize (Den.each (kvTile (nD := nD) (τ := τ) (Λ := Λ) hA (row r)) [0, 1, 2, 3]).run S5 = T at et₁ et₂ et₃ tw start
  obtain ⟨f7, g7⟩ := over_read (k := 7) (rKs (row r)) (kRow (T.1.map (·.1)).flatten) T.2 _ rfl
  generalize over 7 (rKs (row r)) (kRow (T.1.map (·.1)).flatten) T.2 = S7 at start f7 g7
  obtain ⟨f9, g9⟩ := over_read (k := 9) (rKs (row r)) (kRow (T.1.map (·.2)).flatten) S7 _ rfl
  generalize over 9 (rKs (row r)) (kRow (T.1.map (·.2)).flatten) S7 = S9 at start f9 g9
  obtain ⟨f16, g16⟩ := over_read (k := 16) rM (shapeCast S32x128 (broadcast S32x128 (cst (F := Ideal) 0xC0000000#32)) (by decide)) S9 _ rfl
  generalize over 16 rM (shapeCast S32x128 (broadcast S32x128 (cst (F := Ideal) 0xC0000000#32)) (by decide)) S9 = S16 at start f16 g16
  obtain ⟨f17, g17⟩ := over_read (k := 17) rLw (shapeCast S32x8x128 (broadcast S32x8x128 (cst (F := Ideal) 0x00000000#32)) (by decide)) S16 _ rfl
  generalize over 17 rLw (shapeCast S32x8x128 (broadcast S32x8x128 (cst (F := Ideal) 0x00000000#32)) (by decide)) S16 = S17 at start f17 g17
  obtain ⟨f18, g18⟩ := over_read (k := 18) rO (shapeCast S8x64x512 (broadcast S8x64x512 (cst (F := Ideal) 0x00000000#32)) (by decide)) S17 _ start
  generalize ((Attn.start (nD := nD) (τ := τ) (Λ := Λ) hA r).run S).2 = S' at f18 g18
  have top : ∀ i : Fin 19, i.val < 16 → i ≠ 7 → i ≠ 9 → S' i = T.2 i := fun i h h7 h9 =>
    (g18 i (by rintro rfl; exact absurd h (by decide))).trans ((g17 i (by rintro rfl; exact absurd h (by decide))).trans
      ((g16 i (by rintro rfl; exact absurd h (by decide))).trans ((g9 i h9).trans (g7 i h7))))
  have mid : ∀ i : Fin 19, i ∉ [(6 : Fin 19), 11, 14, 8, 12, 15] → i ≠ 5 → T.2 i = Q.2 i := fun i h h5 => (tw i h).trans (g5 i h5)
  refine ⟨fun h => ?_, fun g => ?_, fun g => ?_, ?_, fun j h => ?_, fun j g => ?_, fun j g => ?_, fun h c => ?_, fun h s c => ?_, fun k d e => ?_⟩
  · exact (eq₂ h).congr ((top 4 (by decide) (by decide) (by decide)).trans (mid 4 (by decide) (by decide)))
      ((top 10 (by decide) (by decide) (by decide)).trans (mid 10 (by decide) (by decide)))
      ((top 13 (by decide) (by decide) (by decide)).trans (mid 13 (by decide) (by decide)))
  · exact (et₃ g).1.congr (top 6 (by decide) (by decide) (by decide)) (top 11 (by decide) (by decide) (by decide)) (top 14 (by decide) (by decide) (by decide))
  · exact (et₃ g).2.congr (top 8 (by decide) (by decide) (by decide)) (top 12 (by decide) (by decide) (by decide)) (top 15 (by decide) (by decide) (by decide))
  · exact et₂.congr (top 11 (by decide) (by decide) (by decide)) (top 12 (by decide) (by decide) (by decide)) (top 14 (by decide) (by decide) (by decide))
      (top 15 (by decide) (by decide) (by decide))
  · refine (congrFun ((top 5 (by decide) (by decide) (by decide)).trans ((tw 5 (by decide)).trans f5)) _).trans ((rQs_at r _ _ j h).trans ?_)
    have e1 : (qRow Q.1.flatten (ix3 0 0 h) : EReal) = rscale (amax (qHead (S 0) h)) := by rw [eq₁]; exact qRow_at _ hq h
    have e2 : (Q.2 5 (ix3 0 j h) : EReal) = b5 S j h := congrFun (qw 5 (by decide)) _
    rw [e1, e2]
  · have e := ((g18 7 (by decide)).trans ((g17 7 (by decide)).trans ((g16 7 (by decide)).trans (g9 7 (by decide))))).trans f7
    refine (congrFun e _).trans ((rKs_at r _ _ j g).trans ?_)
    have e1 : (kRow (T.1.map (·.1)).flatten (ix3 0 0 g) : EReal) = rscale (amax (kHead (S 1) g)) := by rw [et₁]; exact kRow_at _ hk g
    have e2 : (T.2 7 (ix3 0 j g) : EReal) = b7 S j g := congrFun ((mid 7 (by decide) (by decide)).trans (qw 7 (by decide))) _
    rw [e1, e2]
  · have e := ((g18 9 (by decide)).trans ((g17 9 (by decide)).trans (g16 9 (by decide)))).trans f9
    refine (congrFun e _).trans ((rKs_at r _ _ j g).trans ?_)
    have e1 : (kRow (T.1.map (·.2)).flatten (ix3 0 0 g) : EReal) = rscale (amax (kHead (S 2) g)) := by rw [et₁]; exact kRow_at _ hv g
    have e2 : (S7 9 (ix3 0 j g) : EReal) = b9 S j g := congrFun ((g7 9 (by decide)).trans ((mid 9 (by decide) (by decide)).trans (qw 9 (by decide)))) _
    rw [e1, e2]
  · refine (congrFun ((g18 16 (by decide)).trans ((g17 16 (by decide)).trans f16)) _).trans ?_
    rw [← bits_n2]
    refine (overlay_at rM _ _ (ix2 h c) (ix2 h c) fun e => ?_).trans ?_
    · match e with
      | 0 => show 0 + 1 * h.val = h.val; omega
      | 1 => show 0 + 1 * c.val = c.val; omega
    · pointwise []
  · refine (congrFun ((g18 17 (by decide)).trans f17) _).trans ?_
    refine (overlay_at rLw _ _ (ix3 h s c) (ix3 h s c) fun e => ?_).trans ?_
    · match e with
      | 0 => show 0 + 1 * h.val = h.val; omega
      | 1 => show 0 + 1 * s.val = s.val; omega
      | 2 => show 0 + 1 * c.val = c.val; omega
    · pointwise []
  · refine (congrFun f18 _).trans ?_
    refine (overlay_at rO _ _ (ix3 k d e) (ix3 k d e) fun i => ?_).trans ?_
    · match i with
      | 0 => show 0 + 1 * k.val = k.val; omega
      | 1 => show 0 + 1 * d.val = d.val; omega
      | 2 => show 0 + 1 * e.val = e.val; omega
    · pointwise []

end Run

end Attn

end
-- ==== Proof.Online.lean ====
/-
  The softmax of capped scores two ways over the reals: block by block, with a running maximum,
  running sums and an accumulator that are rescaled as the maximum grows; and at once. Both are
  the weighted mean of the values with weights exp (50 τ) on the keys that are shown.
-/
module

public import proofs.«01_k».proof.Proof.Scale

@[expose] public section

noncomputable section

namespace Attn

open Idealize.ShloMosaic

/-! ## Extended reals that are real -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The factor from capped scores to base-two exponents, and the shift it turns into 8. -/
abbrev gainR : ℝ := 50 * (Real.log 2)⁻¹
abbrev shiftR : ℝ := 4 / 25 * Real.log 2

theorem log_two_pos : 0 < Real.log 2 := Real.log_pos (by norm_num)
theorem gainR_pos : 0 < gainR := mul_pos (by norm_num) (inv_pos.2 log_two_pos)

theorem exp2_gain (x : ℝ) : Ideal.exp2 ((x : EReal) * (gainR : EReal)) = ((Real.exp (50 * x) : ℝ) : EReal) := by
  rw [← EReal.coe_mul]
  show ((Real.rpow 2 (x * gainR) : ℝ) : EReal) = _
  refine congrArg _ ?_
  show (2 : ℝ) ^ (x * gainR) = _
  rw [Real.rpow_def_of_pos (by norm_num)]
  congr 1
  have := log_two_pos.ne'
  unfold gainR
  field_simp

theorem exp_shift (t μ : ℝ) : Real.exp (50 * (t - (μ - shiftR))) = 256 * Real.exp (-50 * μ) * Real.exp (50 * t) := by
  have h : Real.exp (8 * Real.log 2) = 256 := by
    rw [mul_comm, Real.exp_mul, Real.exp_log (by norm_num)]
    norm_num
  rw [← h, ← Real.exp_add, ← Real.exp_add]
  congr 1
  unfold shiftR
  ring

theorem exp2_bot (y : ℝ) : Ideal.exp2 (((⊥ : EReal) - (y : EReal)) * (gainR : EReal)) = 0 := by
  rw [EReal.bot_sub, EReal.bot_mul_coe_of_pos gainR_pos]
  rfl

theorem clip_id {y : ℝ} (h₀ : 0 ≤ y) (h₁ : y ≤ 256) :
    min (Ideal.ofBits .f32 0x43E00000#32) (max (Ideal.ofBits .f32 0xC3E00000#32) (y : EReal)) = (y : EReal) := by
  rw [bits_448, bits_n448, coe_max, coe_min, max_eq_right (by linarith), min_eq_right (by linarith)]

/-! ## Scores under a mask -/

section Mask

variable {ι : Type} [Fintype ι] (τ : ι → ℝ) (live : ι → Prop) [DecidablePred live]

/-- A score where it is shown, −∞ elsewhere. -/
def hide (κ : ι) : EReal := if live κ then (τ κ : EReal) else ⊥
/-- Its weight. -/
def wgt (κ : ι) : ℝ := if live κ then Real.exp (50 * τ κ) else 0

theorem wgt_nonneg (κ : ι) : 0 ≤ wgt τ live κ := by unfold wgt; split <;> positivity

/-- The running maximum stays real and bounds the shown scores. -/
theorem newMax_real (μ : ℝ) : ∃ μ' : ℝ, max (μ : EReal) (Finset.univ.sup (hide τ live)) = (μ' : EReal) ∧ ∀ κ, live κ → τ κ ≤ μ' := by
  have hbot : max (μ : EReal) (Finset.univ.sup (hide τ live)) ≠ ⊥ := (lt_of_lt_of_le (EReal.bot_lt_coe μ) (le_max_left _ _)).ne'
  have htop : max (μ : EReal) (Finset.univ.sup (hide τ live)) ≠ ⊤ := by
    refine (max_lt (EReal.coe_lt_top μ) ((Finset.sup_lt_iff bot_lt_top).2 fun κ _ => ?_)).ne
    unfold hide; split
    · exact EReal.coe_lt_top _
    · exact bot_lt_top
  refine ⟨_, (EReal.coe_toReal htop hbot).symm, fun κ hκ => ?_⟩
  rw [← EReal.coe_le_coe_iff, EReal.coe_toReal htop hbot]
  refine le_trans ?_ ((Finset.le_sup (Finset.mem_univ κ)).trans (le_max_right _ _))
  rw [hide, if_pos hκ]

/-- The weight a block computes. -/
theorem weight_real {μ : ℝ} (hμ : ∀ κ, live κ → τ κ ≤ μ) (κ : ι) :
    Ideal.exp2 ((hide τ live κ - ((μ : EReal) - (shiftR : EReal))) * (gainR : EReal)) = ((256 * Real.exp (-50 * μ) * wgt τ live κ : ℝ) : EReal)
    ∧ 0 ≤ 256 * Real.exp (-50 * μ) * wgt τ live κ ∧ 256 * Real.exp (-50 * μ) * wgt τ live κ ≤ 256 := by
  refine ⟨?_, by have := wgt_nonneg τ live κ; positivity, ?_⟩
  · rw [← EReal.coe_sub]
    unfold hide wgt
    split
    · rw [← EReal.coe_sub, exp2_gain, exp_shift]
    · rw [exp2_bot, mul_zero]; rfl
  · unfold wgt
    split
    · rename_i h
      rw [mul_assoc, ← Real.exp_add]
      have : Real.exp (-50 * μ + 50 * τ κ) ≤ 1 := Real.exp_le_one_iff.2 (by have := hμ κ h; linarith)
      linarith
    · simp

end Mask

/-! ## Block by block -/

/-- The running maximum, sums and accumulator of one query for the weights' sums `w` and weighted values `z`. -/
def Run (w : Fin 8 → ℝ) (z : Fin 64 → ℝ) (M : EReal) (L : Fin 8 → EReal) (O : Fin 64 → EReal) : Prop :=
  ∃ μ : ℝ, M = (μ : EReal) ∧ (∀ s, L s = ((256 * Real.exp (-50 * μ) * w s : ℝ) : EReal)) ∧ ∀ d, O d = ((Real.exp (-50 * μ) * z d : ℝ) : EReal)

theorem Run.zero {M : EReal} {L : Fin 8 → EReal} {O : Fin 64 → EReal} (hM : M = ((-2 : ℝ) : EReal)) (hL : ∀ s, L s = 0) (hO : ∀ d, O d = 0) :
    Run (fun _ => 0) (fun _ => 0) M L O := ⟨-2, hM, fun s => by rw [hL, mul_zero]; rfl, fun d => by rw [hO, mul_zero]; rfl⟩

/-- One block. -/
theorem Run.step {w : Fin 8 → ℝ} {z : Fin 64 → ℝ} {M : EReal} {L : Fin 8 → EReal} {O : Fin 64 → EReal} (h : Run w z M L O)
    (τ : Fin 128 → ℝ) (live : Fin 128 → Prop) [DecidablePred live] (v : Fin 128 → Fin 64 → ℝ) (σ : ℝ)
    {M' a : EReal} {p : Fin 128 → EReal} {L' : Fin 8 → EReal} {O' : Fin 64 → EReal}
    (hM : M' = max M (Finset.univ.sup (hide τ live)))
    (ha : a = Ideal.exp2 ((M - M') * (gainR : EReal)))
    (hp : ∀ κ, p κ = Ideal.exp2 ((hide τ live κ - (M' - (shiftR : EReal))) * (gainR : EReal)))
    (hL : ∀ s : Fin 8, L' s = a * L s + ∑ x : Fin 16, p ⟨x.val * 8 + s.val, by omega⟩)
    (hO : ∀ d, O' d = a * O d + (∑ κ, (v κ d : EReal) * min (Ideal.ofBits .f32 0x43E00000#32) (max (Ideal.ofBits .f32 0xC3E00000#32) (p κ))) * ((σ * (1 / 256) : ℝ) : EReal)) :
    Run (fun s => w s + ∑ x : Fin 16, wgt τ live ⟨x.val * 8 + s.val, by omega⟩) (fun d => z d + ∑ κ, wgt τ live κ * (v κ d * σ)) M' L' O' := by
  obtain ⟨μ, rfl, hw, hz⟩ := h
  obtain ⟨μ', hμ, hle⟩ := newMax_real τ live μ
  rw [hμ] at hM
  subst hM
  have ea : a = ((Real.exp (50 * (μ - μ')) : ℝ) : EReal) := by rw [ha, ← EReal.coe_sub, exp2_gain]
  have ep : ∀ κ, p κ = ((256 * Real.exp (-50 * μ') * wgt τ live κ : ℝ) : EReal) := fun κ => (hp κ).trans (weight_real τ live hle κ).1
  have ee : Real.exp (50 * (μ - μ')) * Real.exp (-50 * μ) = Real.exp (-50 * μ') := by rw [← Real.exp_add]; congr 1; ring
  refine ⟨μ', rfl, fun s => ?_, fun d => ?_⟩
  · rw [hL, ea, hw]
    simp only [ep]
    rw [← coe_sum, ← EReal.coe_mul, ← EReal.coe_add]
    refine congrArg _ ?_
    rw [← Finset.mul_sum, ← ee]
    ring
  · rw [hO, ea, hz]
    have : ∀ κ, (v κ d : EReal) * min (Ideal.ofBits .f32 0x43E00000#32) (max (Ideal.ofBits .f32 0xC3E00000#32) (p κ))
        = ((v κ d * (256 * Real.exp (-50 * μ') * wgt τ live κ) : ℝ) : EReal) := by
      intro κ
      rw [ep, clip_id (weight_real τ live hle κ).2.1 (weight_real τ live hle κ).2.2, ← EReal.coe_mul]
    simp only [this]
    rw [← coe_sum, ← EReal.coe_mul, ← EReal.coe_mul, ← EReal.coe_add]
    refine congrArg _ ?_
    rw [mul_add, ← mul_assoc, ee, Finset.sum_mul, Finset.mul_sum]
    congr 1
    refine Finset.sum_congr rfl fun κ _ => ?_
    ring

/-- A real quotient. -/
theorem div_real (x y : ℝ) (hy : y ≠ 0) : Ideal.div (x : EReal) (y : EReal) = ((x / y : ℝ) : EReal) := by
  unfold Ideal.div
  rw [if_neg (by rw [← EReal.coe_zero, EReal.coe_eq_coe_iff]; exact hy), ← EReal.coe_inv, ← EReal.coe_mul, div_eq_mul_inv]

/-- The quotient at the end. -/
theorem Run.quot {w : Fin 8 → ℝ} {z : Fin 64 → ℝ} {M : EReal} {L : Fin 8 → EReal} {O : Fin 64 → EReal} (h : Run w z M L O)
    (hw : 0 < ∑ s, w s) (d : Fin 64) :
    Ideal.div (O d) ((∑ s, L s) * Ideal.ofBits .f32 0x3B800000#32) = ((z d / ∑ s, w s : ℝ) : EReal) := by
  obtain ⟨μ, -, hL, hO⟩ := h
  have hp := Real.exp_pos (-50 * μ)
  simp only [hL]
  rw [hO, ← coe_sum, bits_256th, ← EReal.coe_mul, ← Finset.mul_sum]
  have e : 256 * Real.exp (-50 * μ) * (∑ s, w s) * (1 / 256) = Real.exp (-50 * μ) * ∑ s, w s := by ring
  rw [e, div_real _ _ (mul_pos hp hw).ne', mul_div_mul_left _ _ hp.ne']

/-! ## At once -/

section Dense

variable {ι : Type} [Fintype ι] (τ : ι → ℝ) (live : ι → Prop) [DecidablePred live]

/-- A score scaled by 50 where it is shown. -/
def hide50 (κ : ι) : EReal := if live κ then ((50 * τ κ : ℝ) : EReal) else ⊥

theorem sup_real (h : ∃ κ, live κ) : ∃ μ : ℝ, Finset.univ.sup (hide50 τ live) = (μ : EReal) ∧ ∀ κ, live κ → 50 * τ κ ≤ μ := by
  obtain ⟨κ₀, h₀⟩ := h
  have hbot : Finset.univ.sup (hide50 τ live) ≠ ⊥ := by
    refine (lt_of_lt_of_le ?_ (Finset.le_sup (Finset.mem_univ κ₀))).ne'
    rw [hide50, if_pos h₀]; exact EReal.bot_lt_coe _
  have htop : Finset.univ.sup (hide50 τ live) ≠ ⊤ := by
    refine ((Finset.sup_lt_iff bot_lt_top).2 fun κ _ => ?_).ne
    unfold hide50; split
    · exact EReal.coe_lt_top _
    · exact bot_lt_top
  refine ⟨_, (EReal.coe_toReal htop hbot).symm, fun κ hκ => ?_⟩
  rw [← EReal.coe_le_coe_iff, EReal.coe_toReal htop hbot]
  refine le_trans ?_ (Finset.le_sup (Finset.mem_univ κ))
  rw [hide50, if_pos hκ]

/-- The softmax at once. -/
theorem dense (h : ∃ κ, live κ) (v σ : ι → ℝ) :
    Ideal.div (∑ κ, min (Ideal.ofBits .f32 0x43E00000#32) (max (Ideal.ofBits .f32 0xC3E00000#32)
        (Ideal.exp (hide50 τ live κ - Finset.univ.sup (hide50 τ live)) * Ideal.ofBits .f32 0x43800000#32)) * Ideal.ofBits .f32 0x3B800000#32 * ((v κ : EReal) * (σ κ : EReal)))
      (∑ κ, Ideal.exp (hide50 τ live κ - Finset.univ.sup (hide50 τ live)))
    = (((∑ κ, wgt τ live κ * (v κ * σ κ)) / ∑ κ, wgt τ live κ : ℝ) : EReal) := by
  obtain ⟨μ, hμ, hle⟩ := sup_real τ live h
  have hp := Real.exp_pos (-μ)
  have e : ∀ κ, Ideal.exp (hide50 τ live κ - (μ : EReal)) = ((Real.exp (-μ) * wgt τ live κ : ℝ) : EReal) := by
    intro κ
    unfold hide50 wgt
    split
    · rw [← EReal.coe_sub, ← Real.exp_add, show -μ + 50 * τ κ = 50 * τ κ - μ by ring]; rfl
    · rw [EReal.bot_sub, mul_zero]; rfl
  have le1 : ∀ κ, Real.exp (-μ) * wgt τ live κ ≤ 1 := by
    intro κ
    unfold wgt
    split
    · rename_i hκ
      rw [← Real.exp_add]
      exact Real.exp_le_one_iff.2 (by have := hle κ hκ; linarith)
    · simp
  have c : ∀ κ, min (Ideal.ofBits .f32 0x43E00000#32) (max (Ideal.ofBits .f32 0xC3E00000#32)
        (((Real.exp (-μ) * wgt τ live κ : ℝ) : EReal) * Ideal.ofBits .f32 0x43800000#32)) * Ideal.ofBits .f32 0x3B800000#32 * ((v κ : EReal) * (σ κ : EReal))
      = ((Real.exp (-μ) * (wgt τ live κ * (v κ * σ κ)) : ℝ) : EReal) := by
    intro κ
    have h0 := wgt_nonneg τ live κ
    rw [bits_256, ← EReal.coe_mul, clip_id (by positivity) (by have := le1 κ; linarith), bits_256th, ← EReal.coe_mul, ← EReal.coe_mul, ← EReal.coe_mul]
    refine congrArg _ ?_
    ring
  rw [hμ]
  simp only [e, c]
  rw [← coe_sum, ← coe_sum, ← Finset.mul_sum, ← Finset.mul_sum]
  have hs : 0 < ∑ κ, wgt τ live κ := by
    obtain ⟨κ₀, h₀⟩ := h
    refine Finset.sum_pos' (fun κ _ => wgt_nonneg τ live κ) ⟨κ₀, Finset.mem_univ _, ?_⟩
    rw [wgt, if_pos h₀]; exact Real.exp_pos _
  rw [div_real _ _ (mul_pos hp hs).ne', mul_div_mul_left _ _ hp.ne']

end Dense

/-! ## The capped scores -/

/-- The capped score, before the factor 50, of query `c` of a q block and key `κ` of a k block. -/
def logit (qt kt : Fin 128 → Fin 64 → EReal) (c κ : Fin 128) : EReal :=
  Ideal.tanh ((∑ x : Fin 64, qcode kt κ x * qcode qt c x)
    * (rscale (amax qt) * Ideal.ofBits .f32 0x3E000000#32 * rscale (amax kt) * Ideal.ofBits .f32 0x3CA3D70A#32))

theorem tanh_real (x : EReal) : ∃ y : ℝ, Ideal.tanh x = (y : EReal) := by
  induction x with
  | bot => exact ⟨-1, by show (-1 : EReal) = _; simp⟩
  | top => exact ⟨1, by show (1 : EReal) = _; simp⟩
  | coe r => exact ⟨Real.tanh r, rfl⟩

/-- The same as a real. -/
def logitR (qt kt : Fin 128 → Fin 64 → EReal) (c κ : Fin 128) : ℝ := (logit qt kt c κ).toReal

theorem logit_eq (qt kt : Fin 128 → Fin 64 → EReal) (c κ : Fin 128) : logit qt kt c κ = (logitR qt kt c κ : EReal) := by
  unfold logitR
  obtain ⟨y, h⟩ : ∃ y : ℝ, logit qt kt c κ = (y : EReal) := tanh_real _
  rw [h, EReal.toReal_coe]

end Attn

end
-- ==== Proof.Blocks.lean ====
/-
  One key block: the running maximum, sums and accumulator of every head of a group take the step
  of the softmax block by block, and the other groups keep theirs.
-/
module

public import proofs.«01_k».proof.Proof.Started
public import proofs.«01_k».proof.Proof.Online

@[expose] public section

set_option maxRecDepth 16384

noncomputable section

namespace Attn

open Idealize.ShloMosaic Idealize.ShloMosaic.TcCoe Idealize.SL Idealize.SL.Sem

/-- The keys a query sees in a block: all below the diagonal, those at or before it on the diagonal. -/
def Live (d : Bool) (c κ : Fin 128) : Prop := d = false ∨ κ.val ≤ c.val
instance (d : Bool) (c : Fin 128) : DecidablePred (Live d c) := fun κ => inferInstanceAs (Decidable (d = false ∨ κ.val ≤ c.val))

/-- The constants over the reals. -/
structure Consts.Real (C : Consts Ideal) : Prop where
  gain : (C.gain : EReal) = (gainR : EReal)
  shift : (C.shift : EReal) = (shiftR : EReal)
  mask : (C.mask : EReal) = ⊥

theorem sge_iff (κ c : Fin 128) : IntOp.cmpi .sge (BitVec.ofNat 32 c.val) (BitVec.ofNat 32 κ.val) = if κ.val ≤ c.val then 1#1 else 0#1 := by
  have key : ∀ n : Nat, n < 128 → (BitVec.ofNat 32 n).toInt = n := by
    intro n hn
    rw [BitVec.toInt_eq_toNat_bmod, BitVec.toNat_ofNat, Nat.mod_eq_of_lt (by omega)]
    exact Int.bmod_eq_of_le (by omega) (by omega)
  simp only [IntOp.cmpi, BitVec.sle, key _ κ.isLt, key _ c.isLt]
  by_cases h : κ.val ≤ c.val
  · rw [if_pos h, decide_eq_true (by exact_mod_cast h)]; rfl
  · rw [if_neg h, decide_eq_false (by exact_mod_cast h)]; rfl

section Pure

variable {C : Consts Ideal} (hC : C.Real)

theorem capped_at (sc : FVec Ideal S128x512 .f32) (ks : Vec Ideal S1x1x128 .f32) (g : Fin 4) (qs : Vec Ideal S1x128 .f32) (κ c : Fin 128) :
    (capped sc ks g qs (ix2 κ c) : EReal) = Ideal.tanh ((sc (ix2 κ ⟨128 * g.val + c.val, by omega⟩) : EReal)
      * ((qs (ix2 0 c) : EReal) * (ks (ix3 0 0 c) : EReal) * Ideal.ofBits .f32 0x3CA3D70A#32)) := by
  pointwise [capped]

theorem scores_at (k : Vec Ideal S1x1x128x64 .fp8e4m3) (q : Vec Ideal S1x64x512 .fp8e4m3) (κ : Fin 128) (e : Fin 512) :
    (scores k q (ix2 κ e) : EReal) = ∑ x : Fin 64, (k (ix4 0 0 κ x) : EReal) * (q (ix3 0 x e) : EReal) := by
  pointwise [scores, dotQK]

include hC in
theorem masked_at (d : Bool) (t : FVec Ideal S128x128 .f32) (τ : Fin 128 → ℝ) (c : Fin 128) (ht : ∀ κ, (t (ix2 κ c) : EReal) = (τ κ : EReal)) (κ : Fin 128) :
    (masked C d t (ix2 κ c) : EReal) = hide τ (Live d c) κ := by
  match d with
  | false =>
    rw [hide, if_pos (.inl rfl)]
    exact ht κ
  | true =>
    have e : (masked C true t (ix2 κ c) : EReal) = Scalar.select (IntOp.cmpi .sge (BitVec.ofNat 32 c.val) (BitVec.ofNat 32 κ.val)) (t (ix2 κ c) : EReal) C.mask := by
      pointwise [masked, causal]
    rw [e, sge_iff, hC.mask, ht]
    unfold hide
    by_cases h : κ.val ≤ c.val
    · rw [if_pos h, if_pos (.inr h), select_one]
    · rw [if_neg h, if_neg (by rintro (h' | h'); exact absurd h' (by decide); exact h h'), select_zero]

theorem newMax_at (m : FVec Ideal S1x128 .f32) (t : FVec Ideal S128x128 .f32) (c : Fin 128) :
    (newMax m t (ix2 0 c) : EReal) = max (m (ix2 0 c) : EReal) (Finset.univ.sup fun κ : Fin 128 => (t (ix2 κ c) : EReal)) := by
  rw [← fold_sup']
  pointwise [newMax]

include hC in
theorem decay_at (m l : FVec Ideal S1x128 .f32) (c : Fin 128) :
    (decay C m l (ix2 0 c) : EReal) = Ideal.exp2 (((m (ix2 0 c) : EReal) - (l (ix2 0 c) : EReal)) * (gainR : EReal)) := by
  rw [← hC.gain]
  pointwise [decay]
  rfl

include hC in
theorem weights_at (t : FVec Ideal S128x128 .f32) (m : FVec Ideal S1x128 .f32) (κ c : Fin 128) :
    (weights C t m (ix2 κ c) : EReal) = Ideal.exp2 (((t (ix2 κ c) : EReal) - ((m (ix2 0 c) : EReal) - (shiftR : EReal))) * (gainR : EReal)) := by
  rw [← hC.gain, ← hC.shift]
  pointwise [weights]
  rfl

theorem asRow_id (x : FVec Ideal S1x128 .f32) (c : Fin 128) : (asRow x (ix2 0 c) : EReal) = x (ix2 0 c) := by pointwise [asRow]

theorem newSum_at (a : FVec Ideal S1x128 .f32) (l : Vec Ideal S1x8x128 .f32) (p : FVec Ideal S128x128 .f32) (s : Fin 8) (c : Fin 128) :
    ((shapeCast S1x8x128 (newSum a l p) (by decide) : Vec Ideal S1x8x128 .f32) (ix3 0 s c) : EReal)
      = (a (ix2 0 c) : EReal) * (l (ix3 0 s c) : EReal) + ∑ x : Fin 16, (p (ix2 ⟨x.val * 8 + s.val, by omega⟩ c) : EReal) := by
  pointwise [newSum]

theorem pcode_at (p : FVec Ideal S128x128 .f32) (κ c : Fin 128) :
    (pcode p (ix2 κ c) : EReal) = min (Ideal.ofBits .f32 0x43E00000#32) (max (Ideal.ofBits .f32 0xC3E00000#32) (p (ix2 κ c) : EReal)) := by
  pointwise [pcode, clip]

theorem mix_at (v : Vec Ideal S1x64x128 .fp8e4m3) (p : Fin 4 → FVec Ideal S128x128 .fp8e4m3) (g : Fin 4) (d : Fin 64) (c : Fin 128) :
    (mix v (p 0) (p 1) (p 2) (p 3) (ix2 d ⟨128 * g.val + c.val, by omega⟩) : EReal) = ∑ κ : Fin 128, (v (ix3 0 d κ) : EReal) * (p g (ix2 κ c) : EReal) := by
  fin_cases g <;> pointwise [mix, dotPV]
  · refine Finset.sum_congr rfl fun x _ => ?_
    rw [dif_neg (by omega), dif_neg (by omega), dif_pos (by omega)]
    exact congrArg (fun i => (v (ix3 0 d x) : EReal) * (p 2 (ix2 x i) : EReal)) (Fin.ext (by show 256 + c.val - 128 - 128 = c.val; omega))
  · refine Finset.sum_congr rfl fun x _ => ?_
    rw [dif_neg (by omega), dif_neg (by omega), dif_neg (by omega)]
    exact congrArg (fun i => (v (ix3 0 d x) : EReal) * (p 3 (ix2 x i) : EReal)) (Fin.ext (by show 384 + c.val - 128 - 128 - 128 = c.val; omega))

theorem newAcc_at (a : FVec Ideal S1x128 .f32) (o : Vec Ideal S1x64x128 .f32) (x : FVec Ideal S64x512 .f32) (vs : Vec Ideal S1x1x128 .f32) (g : Fin 4)
    (d : Fin 64) (c : Fin 128) :
    ((shapeCast S1x64x128 (newAcc a o x vs g) (by decide) : Vec Ideal S1x64x128 .f32) (ix3 0 d c) : EReal)
      = (a (ix2 0 c) : EReal) * (o (ix3 0 d c) : EReal) + (x (ix2 d ⟨128 * g.val + c.val, by omega⟩) : EReal) * (vs (ix3 0 0 c) : EReal) := by
  pointwise [newAcc]

end Pure

section Run

variable {nD : Nat} {τ : Topo} {sig : RefSig} {Λ : Labels} {A : Bufs sig} (hA : ∀ k, (A k).IsWhole) {C : Consts Ideal} (hC : C.Real)

theorem over_two {a b : Fin 19} (hab : a ≠ b) (r₁ : Rect (sh a)) (r₂ : Rect (sh b)) (w₁ : r₁.shape.Idx → Elt Ideal (el a)) (w₂ : r₂.shape.Idx → Elt Ideal (el b))
    (S S' : St Ideal) (e : S' = over b r₂ w₂ (over a r₁ w₁ S)) : S' a = r₁.overlay (S a) w₁ ∧ S' b = r₂.overlay (S b) w₂ := by
  subst e
  exact ⟨by rw [over_ne hab, over_self], by rw [over_self, over_ne hab.symm]⟩

theorem head_eq (d : Bool) (sc : FVec Ideal S128x512 .f32) (ks : Vec Ideal S1x1x128 .f32) (k : Fin 8) (g : Fin 4) (S : St Ideal)
    (qs m : Vec Ideal S1x128 .f32) (l : Vec Ideal S1x8x128 .f32) (hqs : ld (S 13) (rH (gd k g)) = qs) (hm : ld (S 16) (rH (gd k g)) = m)
    (hl : ld (S 17) (rL (gd k g)) = l) (t : FVec Ideal S128x128 .f32) (ht : masked C d (capped sc ks g qs) = t) :
    ((head (nD := nD) (τ := τ) (Λ := Λ) hA C d sc ks k g).run S).1 = (decay C m (newMax m t), pcode (weights C t (newMax m t)))
    ∧ ((head (nD := nD) (τ := τ) (Λ := Λ) hA C d sc ks k g).run S).2 16 = (rH (gd k g)).overlay (S 16) (asRow (newMax m t))
    ∧ ((head (nD := nD) (τ := τ) (Λ := Λ) hA C d sc ks k g).run S).2 17 = (rL (gd k g)).overlay (S 17)
        (shapeCast S1x8x128 (newSum (decay C m (newMax m t)) l (weights C t (newMax m t))) (by decide)) := by
  have e : ((head (nD := nD) (τ := τ) (Λ := Λ) hA C d sc ks k g).run S) = ((decay C m (newMax m t), pcode (weights C t (newMax m t))),
      over 17 (rL (gd k g)) (shapeCast S1x8x128 (newSum (decay C m (newMax m t)) l (weights C t (newMax m t))) (by decide))
      (over 16 (rH (gd k g)) (asRow (newMax m t)) S)) := by
    subst hqs hm hl ht
    unfold head
    refine (bind_load ..).trans ?_
    refine (bind_load ..).trans ?_
    refine (bind_put ..).trans ?_
    refine (bind_load ..).trans ?_
    refine (bind_put ..).trans ?_
    rfl
  exact ⟨congrArg Prod.fst e, over_two (by decide) _ _ _ _ S _ (congrArg Prod.snd e)⟩

theorem over_one {k : Fin 19} (r : Rect (sh k)) (w : r.shape.Idx → Elt Ideal (el k)) (S S' : St Ideal) (e : S' = over k r w S) :
    S' k = r.overlay (S k) w := e ▸ over_self ..

theorem accum_eq (a : FVec Ideal S1x128 .f32) (x : FVec Ideal S64x512 .f32) (vs : Vec Ideal S1x1x128 .f32) (k : Fin 8) (g : Fin 4) (S : St Ideal)
    (o : Vec Ideal S1x64x128 .f32) (ho : ld (S 18) (rQt (gd k g)) = o) :
    ((accum (nD := nD) (τ := τ) (Λ := Λ) hA a x vs k g).run S).2 18
      = (rQt (gd k g)).overlay (S 18) (shapeCast S1x64x128 (newAcc a o x vs g) (by decide)) := by
  subst ho
  exact over_one (k := 18) (rQt (gd k g)) _ S _ rfl

theorem writes_head' (C : Consts Ideal) (d : Bool) (sc : FVec Ideal S128x512 .f32) (ks : Vec Ideal S1x1x128 .f32) (k : Fin 8) (g : Fin 4) :
    Writes [16, 17] (head (nD := nD) (τ := τ) (Λ := Λ) hA C d sc ks k g) :=
  (Writes.load ..).bind fun _ => (Writes.load ..).bind fun _ => (Writes.put hA 16 (by decide) ..).bind fun _ =>
    (Writes.load ..).bind fun _ => (Writes.put hA 17 (by decide) ..).bind fun _ => Writes.pure _
theorem writes_accum' (a : FVec Ideal S1x128 .f32) (x : FVec Ideal S64x512 .f32) (vs : Vec Ideal S1x1x128 .f32) (k : Fin 8) (g : Fin 4) :
    Writes [18] (accum (nD := nD) (τ := τ) (Λ := Λ) hA a x vs k g) :=
  (Writes.load ..).bind fun _ => Writes.put hA 18 (by decide) ..

theorem ld_rH (X : Vec Ideal S32x128 .f32) (h : Fin 32) (c : Fin 128) : (ld X (rH h) (ix2 0 c) : EReal) = X (ix2 h c) := by
  refine ld_at X (rH h) _ _ fun e => ?_
  match e with
  | 0 => rfl
  | 1 => show 0 + 1 * c.val = c.val; omega
theorem on_rH (h : Fin 32) (f w) (c : Fin 128) : (rH h).overlay f w (ix2 h c) = (w (ix2 0 c) : EReal) := by
  refine overlay_at (rH h) _ _ _ _ fun e => ?_
  match e with
  | 0 => rfl
  | 1 => show 0 + 1 * c.val = c.val; omega
theorem off_rH (h : Fin 32) (f w) (h' : Fin 32) (c : Fin 128) (hh : h' ≠ h) : (rH h).overlay f w (ix2 h' c) = (f (ix2 h' c) : EReal) := by
  have hv : h'.val ≠ h.val := fun e => hh (Fin.ext e)
  refine overlay_off _ _ _ 0 ?_
  show h'.val < h.val ∨ h.val + 1 ≤ h'.val
  omega
theorem ld_rL (X : Vec Ideal S32x8x128 .f32) (h : Fin 32) (s : Fin 8) (c : Fin 128) : (ld X (rL h) (ix3 0 s c) : EReal) = X (ix3 h s c) := by
  refine ld_at X (rL h) _ _ fun e => ?_
  match e with
  | 0 => rfl
  | 1 => show 0 + 1 * s.val = s.val; omega
  | 2 => show 0 + 1 * c.val = c.val; omega
theorem on_rL (h : Fin 32) (f w) (s : Fin 8) (c : Fin 128) : (rL h).overlay f w (ix3 h s c) = (w (ix3 0 s c) : EReal) := by
  refine overlay_at (rL h) _ _ _ _ fun e => ?_
  match e with
  | 0 => rfl
  | 1 => show 0 + 1 * s.val = s.val; omega
  | 2 => show 0 + 1 * c.val = c.val; omega
theorem off_rL (h : Fin 32) (f w) (h' : Fin 32) (s : Fin 8) (c : Fin 128) (hh : h' ≠ h) : (rL h).overlay f w (ix3 h' s c) = (f (ix3 h' s c) : EReal) := by
  have hv : h'.val ≠ h.val := fun e => hh (Fin.ext e)
  refine overlay_off _ _ _ 0 ?_
  show h'.val < h.val ∨ h.val + 1 ≤ h'.val
  omega

/-- Where head `g` of group `k` lies in the accumulator. -/
theorem at_rQt (k : Fin 8) (g : Fin 4) (d : Fin 64) (c : Fin 128) (e : Fin 3) : (rQt (gd k g)).off e + (rQt (gd k g)).stride e * ((ix3 0 d c : S1x64x128.Idx) e).val
    = ((ix3 k d ⟨128 * g.val + c.val, by omega⟩ : S8x64x512.Idx) e).val := by
  match e with
  | 0 => show (4 * k.val + g.val) / 4 + 1 * 0 = k.val; omega
  | 1 => show 0 + 1 * d.val = d.val; omega
  | 2 => show 128 * ((4 * k.val + g.val) % 4) + 1 * c.val = 128 * g.val + c.val; omega
theorem ld_rQt {φ : EltTy} (X : Vec Ideal S8x64x512 φ) (k : Fin 8) (g : Fin 4) (d : Fin 64) (c : Fin 128) :
    ld X (rQt (gd k g)) (ix3 0 d c) = X (ix3 k d ⟨128 * g.val + c.val, by omega⟩) := ld_at X (rQt (gd k g)) _ _ (at_rQt k g d c)
theorem on_rQt (k : Fin 8) (g : Fin 4) (f w) (d : Fin 64) (c : Fin 128) :
    (rQt (gd k g)).overlay f w (ix3 k d ⟨128 * g.val + c.val, by omega⟩) = (w (ix3 0 d c) : EReal) := overlay_at (rQt (gd k g)) _ _ _ _ (at_rQt k g d c)
theorem off_rQt (k : Fin 8) (g : Fin 4) (f w) (k' : Fin 8) (g' : Fin 4) (d : Fin 64) (c : Fin 128) (hh : k' ≠ k ∨ g' ≠ g) :
    (rQt (gd k g)).overlay f w (ix3 k' d ⟨128 * g'.val + c.val, by omega⟩) = (f (ix3 k' d ⟨128 * g'.val + c.val, by omega⟩) : EReal) := by
  by_cases hk : k' = k
  · have hv : g'.val ≠ g.val := fun e => hh.resolve_left (fun h => h hk) (Fin.ext e)
    refine overlay_off _ _ _ 2 ?_
    show 128 * g'.val + c.val < 128 * ((4 * k.val + g.val) % 4) ∨ 128 * ((4 * k.val + g.val) % 4) + 128 ≤ 128 * g'.val + c.val
    omega
  · have hv : k'.val ≠ k.val := fun e => hk (Fin.ext e)
    refine overlay_off _ _ _ 0 ?_
    show k'.val < (4 * k.val + g.val) / 4 ∨ (4 * k.val + g.val) / 4 + 1 ≤ k'.val
    omega

/-- The new maximum, decay and weights of a query from its old maximum. -/
def nextM (τ : Fin 128 → ℝ) (live : Fin 128 → Prop) [DecidablePred live] (M : EReal) : EReal := max M (Finset.univ.sup (hide τ live))
def nextA (τ : Fin 128 → ℝ) (live : Fin 128 → Prop) [DecidablePred live] (M : EReal) : EReal := Ideal.exp2 ((M - nextM τ live M) * (gainR : EReal))
def nextP (τ : Fin 128 → ℝ) (live : Fin 128 → Prop) [DecidablePred live] (M : EReal) (κ : Fin 128) : EReal :=
  Ideal.exp2 ((hide τ live κ - (nextM τ live M - (shiftR : EReal))) * (gainR : EReal))

/-- What one head of one block computes: `τ c` are the query's scores; `P` is the decay and the weights' codes. -/
structure HeadRes (d : Bool) (τ : Fin 128 → Fin 128 → ℝ) (h : Fin 32) (S : St Ideal) (P : FVec Ideal S1x128 .f32 × FVec Ideal S128x128 .fp8e4m3) (S' : St Ideal) : Prop where
  a : ∀ c, (P.1 (ix2 0 c) : EReal) = nextA (τ c) (Live d c) (b16 S h c)
  p : ∀ κ c, (P.2 (ix2 κ c) : EReal) = min (Ideal.ofBits .f32 0x43E00000#32) (max (Ideal.ofBits .f32 0xC3E00000#32) (nextP (τ c) (Live d c) (b16 S h c) κ))
  m : ∀ c, b16 S' h c = nextM (τ c) (Live d c) (b16 S h c)
  l : ∀ s c, b17 S' h s c = nextA (τ c) (Live d c) (b16 S h c) * b17 S h s c + ∑ x : Fin 16, nextP (τ c) (Live d c) (b16 S h c) ⟨x.val * 8 + s.val, by omega⟩

/-- A head's running maximum and sums are the same in two states. -/
structure Same (h : Fin 32) (S S' : St Ideal) : Prop where
  m : ∀ c, b16 S' h c = b16 S h c
  l : ∀ s c, b17 S' h s c = b17 S h s c

theorem Same.rfl {h : Fin 32} {S : St Ideal} : Same h S S := ⟨fun _ => Eq.refl _, fun _ _ => Eq.refl _⟩
theorem Same.trans {h : Fin 32} {S S' S'' : St Ideal} (e : Same h S S') (e' : Same h S' S'') : Same h S S'' :=
  ⟨fun c => (e'.m c).trans (e.m c), fun s c => (e'.l s c).trans (e.l s c)⟩

theorem HeadRes.pre {d : Bool} {τ : Fin 128 → Fin 128 → ℝ} {h : Fin 32} {S S₁ : St Ideal} {P : FVec Ideal S1x128 .f32 × FVec Ideal S128x128 .fp8e4m3} {S' : St Ideal}
    (r : HeadRes d τ h S₁ P S') (e : Same h S S₁) : HeadRes d τ h S P S' :=
  ⟨fun c => by rw [← e.m]; exact r.a c, fun κ c => by rw [← e.m]; exact r.p κ c, fun c => by rw [← e.m]; exact r.m c,
    fun s c => by rw [← e.m, ← e.l]; exact r.l s c⟩
theorem HeadRes.post {d : Bool} {τ : Fin 128 → Fin 128 → ℝ} {h : Fin 32} {S S' S'' : St Ideal} {P : FVec Ideal S1x128 .f32 × FVec Ideal S128x128 .fp8e4m3}
    (r : HeadRes d τ h S P S') (e : Same h S' S'') : HeadRes d τ h S P S'' :=
  ⟨r.a, r.p, fun c => (e.m c).trans (r.m c), fun s c => (e.l s c).trans (r.l s c)⟩

/-- What one head of one block leaves. -/
structure HeadPost (d : Bool) (τ : Fin 128 → Fin 128 → ℝ) (h : Fin 32) (S : St Ideal) (R : (FVec Ideal S1x128 .f32 × FVec Ideal S128x128 .fp8e4m3) × St Ideal) : Prop where
  res : HeadRes d τ h S R.1 R.2
  same : ∀ h', h' ≠ h → Same h' S R.2
  keep : ∀ i, i ≠ 16 → i ≠ 17 → R.2 i = S i

include hC in
theorem head_post (d : Bool) (sc : FVec Ideal S128x512 .f32) (ks : Vec Ideal S1x1x128 .f32) (k : Fin 8) (g : Fin 4) (S : St Ideal)
    (qt kt : Fin 128 → Fin 64 → EReal)
    (hsc : ∀ κ c : Fin 128, (sc (ix2 κ ⟨128 * g.val + c.val, by omega⟩) : EReal) = ∑ x : Fin 64, qcode kt κ x * qcode qt c x)
    (hks : ∀ c, (ks (ix3 0 0 c) : EReal) = rscale (amax kt)) (hqs : ∀ c, b13 S (gd k g) c = rscale (amax qt) * Ideal.ofBits .f32 0x3E000000#32) :
    HeadPost d (logitR qt kt) (gd k g) S ((head (nD := nD) (τ := τ) (Λ := Λ) hA C d sc ks k g).run S) := by
  obtain ⟨qs, iq⟩ : ∃ qs : Vec Ideal S1x128 .f32, ld (S 13) (rH (gd k g)) = qs := ⟨_, rfl⟩
  obtain ⟨m, im⟩ : ∃ m : Vec Ideal S1x128 .f32, ld (S 16) (rH (gd k g)) = m := ⟨_, rfl⟩
  obtain ⟨l, il⟩ : ∃ l : Vec Ideal S1x8x128 .f32, ld (S 17) (rL (gd k g)) = l := ⟨_, rfl⟩
  have vq : ∀ c, (qs (ix2 0 c) : EReal) = b13 S (gd k g) c := fun c => (congrFun iq.symm (ix2 0 c)).trans (ld_rH (S 13) (gd k g) c)
  have vm : ∀ c, (m (ix2 0 c) : EReal) = b16 S (gd k g) c := fun c => (congrFun im.symm (ix2 0 c)).trans (ld_rH (S 16) (gd k g) c)
  have vl : ∀ s c, (l (ix3 0 s c) : EReal) = b17 S (gd k g) s c := fun s c => (congrFun il.symm (ix3 0 s c)).trans (ld_rL (S 17) (gd k g) s c)
  obtain ⟨T, hT⟩ : ∃ T : FVec Ideal S128x128 .f32, masked C d (capped sc ks g qs) = T := ⟨_, rfl⟩
  obtain ⟨e₁, em, el⟩ := head_eq (nD := nD) (τ := τ) (Λ := Λ) hA (C := C) d sc ks k g S qs m l iq im il T hT
  have ht : ∀ κ c, (T (ix2 κ c) : EReal) = hide (logitR qt kt c) (Live d c) κ := by
    intro κ c
    rw [← hT]
    refine masked_at hC d _ (logitR qt kt c) c (fun κ => ?_) κ
    rw [← logit_eq, capped_at, hsc, hks, vq, hqs]
    rfl
  have hm : ∀ c, (newMax m T (ix2 0 c) : EReal) = nextM (logitR qt kt c) (Live d c) (b16 S (gd k g) c) := by
    intro c
    rw [newMax_at, vm]
    unfold nextM
    exact congrArg _ (Finset.sup_congr rfl fun κ _ => ht κ c)
  have ha : ∀ c, (decay C m (newMax m T) (ix2 0 c) : EReal) = nextA (logitR qt kt c) (Live d c) (b16 S (gd k g) c) := by
    intro c
    rw [decay_at hC, hm, vm]
    rfl
  have hp : ∀ κ c, (weights C T (newMax m T) (ix2 κ c) : EReal) = nextP (logitR qt kt c) (Live d c) (b16 S (gd k g) c) κ := by
    intro κ c
    rw [weights_at hC, hm, ht]
    rfl
  refine ⟨⟨fun c => ?_, fun κ c => ?_, fun c => ?_, fun s c => ?_⟩, fun h' hh => ⟨fun c => ?_, fun s c => ?_⟩, fun i h16 h17 => ?_⟩
  · rw [e₁]; exact ha c
  · rw [e₁, ← hp]; exact pcode_at _ κ c
  · unfold b16; rw [em]
    exact (on_rH (gd k g) _ _ c).trans ((asRow_id _ c).trans (hm c))
  · unfold b17; rw [el]
    refine (on_rL (gd k g) _ _ s c).trans ((newSum_at _ _ _ s c).trans ?_)
    rw [ha, vl]
    exact congrArg _ (Finset.sum_congr rfl fun x _ => hp _ c)
  · unfold b16; rw [em]
    exact off_rH (gd k g) _ _ h' c hh
  · unfold b17; rw [el]
    exact off_rL (gd k g) _ _ h' s c hh
  · exact (writes_head' (nD := nD) (τ := τ) (Λ := Λ) hA C d sc ks k g).keeps S i (by simp [h16, h17])

/-- One head's accumulator after its block. -/
structure AccPost (a : FVec Ideal S1x128 .f32) (x : FVec Ideal S64x512 .f32) (vs : Vec Ideal S1x1x128 .f32) (k : Fin 8) (g : Fin 4) (S S' : St Ideal) : Prop where
  on : ∀ d (c : Fin 128), b18 S' k d ⟨128 * g.val + c.val, by omega⟩ = (a (ix2 0 c) : EReal) * b18 S k d ⟨128 * g.val + c.val, by omega⟩
    + (x (ix2 d ⟨128 * g.val + c.val, by omega⟩) : EReal) * (vs (ix3 0 0 c) : EReal)
  off : ∀ k' (g' : Fin 4) d (c : Fin 128), k' ≠ k ∨ g' ≠ g → b18 S' k' d ⟨128 * g'.val + c.val, by omega⟩ = b18 S k' d ⟨128 * g'.val + c.val, by omega⟩
  keep : ∀ i, i ≠ 18 → S' i = S i

theorem accum_post (a : FVec Ideal S1x128 .f32) (x : FVec Ideal S64x512 .f32) (vs : Vec Ideal S1x1x128 .f32) (k : Fin 8) (g : Fin 4) (S : St Ideal) :
    AccPost a x vs k g S ((accum (nD := nD) (τ := τ) (Λ := Λ) hA a x vs k g).run S).2 := by
  obtain ⟨o, io⟩ : ∃ o : Vec Ideal S1x64x128 .f32, ld (S 18) (rQt (gd k g)) = o := ⟨_, rfl⟩
  have vo : ∀ d c, (o (ix3 0 d c) : EReal) = b18 S k d ⟨128 * g.val + c.val, by omega⟩ := fun d c =>
    (congrFun io.symm (ix3 0 d c)).trans (ld_rQt (φ := .f32) (S 18) k g d c)
  have e := accum_eq (nD := nD) (τ := τ) (Λ := Λ) hA a x vs k g S o io
  refine ⟨fun d c => ?_, fun k' g' d c h => ?_, fun i h => (writes_accum' (nD := nD) (τ := τ) (Λ := Λ) hA a x vs k g).keeps S i (by simp [h])⟩
  · rw [← vo]
    unfold b18; rw [e]
    exact (on_rQt k g _ _ d c).trans (newAcc_at ..)
  · unfold b18; rw [e]
    exact off_rQt k g _ _ k' g' d c h

/-- A block's run. -/
theorem block_run (d : Bool) (t : Row) (k : Fin 8) (S : St Ideal) (kc : Vec Ideal S1x1x128x64 .fp8e4m3) (qc : Vec Ideal S1x64x512 .fp8e4m3)
    (ks : Vec Ideal S1x1x128 .f32) (hk : ld (S 11) (rKt t k) = kc) (hq : ld (S 10) (rQw k) = qc) (hs : ld (S 14) (rS t k) = ks) :
    ∃ (H₀ H₁ H₂ H₃ : (FVec Ideal S1x128 .f32 × FVec Ideal S128x128 .fp8e4m3) × St Ideal) (v : Vec Ideal S1x64x128 .fp8e4m3) (vs : Vec Ideal S1x1x128 .f32)
      (x : FVec Ideal S64x512 .f32) (T₀ T₁ T₂ : St Ideal),
      (H₀ = (head (nD := nD) (τ := τ) (Λ := Λ) hA C d (scores kc qc) ks k 0).run S)
      ∧ (H₁ = (head (nD := nD) (τ := τ) (Λ := Λ) hA C d (scores kc qc) ks k 1).run H₀.2)
      ∧ (H₂ = (head (nD := nD) (τ := τ) (Λ := Λ) hA C d (scores kc qc) ks k 2).run H₁.2)
      ∧ (H₃ = (head (nD := nD) (τ := τ) (Λ := Λ) hA C d (scores kc qc) ks k 3).run H₂.2)
      ∧ (v = ld (H₃.2 12) (rVh t k)) ∧ (vs = ld (H₃.2 15) (rS t k)) ∧ (x = mix v H₀.1.2 H₁.1.2 H₂.1.2 H₃.1.2)
      ∧ (T₀ = ((accum (nD := nD) (τ := τ) (Λ := Λ) hA H₀.1.1 x vs k 0).run H₃.2).2)
      ∧ (T₁ = ((accum (nD := nD) (τ := τ) (Λ := Λ) hA H₁.1.1 x vs k 1).run T₀).2)
      ∧ (T₂ = ((accum (nD := nD) (τ := τ) (Λ := Λ) hA H₂.1.1 x vs k 2).run T₁).2)
      ∧ ((block (nD := nD) (τ := τ) (Λ := Λ) hA C d t k).run S).2 = ((accum (nD := nD) (τ := τ) (Λ := Λ) hA H₃.1.1 x vs k 3).run T₂).2 := by
  subst hk hq hs
  refine ⟨_, _, _, _, _, _, _, _, _, _, rfl, rfl, rfl, rfl, rfl, rfl, rfl, rfl, rfl, rfl, ?_⟩
  unfold block
  refine (congrArg Prod.snd (bind_load ..)).trans ?_
  refine (congrArg Prod.snd (bind_load ..)).trans ?_
  refine (congrArg Prod.snd (bind_load ..)).trans ?_
  rfl

theorem gd_ne {k : Fin 8} {g g' : Fin 4} (h : g ≠ g') : gd k g ≠ gd k g' :=
  fun e => h (Fin.ext (by have := congrArg Fin.val e; simp only [gd] at this; omega))
theorem gd_ne' {k k' : Fin 8} {g g' : Fin 4} (h : k ≠ k') : gd k g ≠ gd k' g' :=
  fun e => h (Fin.ext (by have := congrArg Fin.val e; simp only [gd] at this; omega))

theorem Same.of_eq {h : Fin 32} {S S' : St Ideal} (e16 : S' 16 = S 16) (e17 : S' 17 = S 17) : Same h S S' :=
  ⟨fun _ => by unfold b16; rw [e16], fun _ _ => by unfold b17; rw [e17]⟩
theorem AccPost.same {a : FVec Ideal S1x128 .f32} {x : FVec Ideal S64x512 .f32} {vs : Vec Ideal S1x1x128 .f32} {k : Fin 8} {g : Fin 4} {S S' : St Ideal}
    (p : AccPost a x vs k g S S') (h : Fin 32) : Same h S S' := .of_eq (p.keep 16 (by decide)) (p.keep 17 (by decide))

/-- What a block leaves for one head of its group: `A` is the decay, `Q` the weights' codes. -/
structure GroupRes (d : Bool) (τ : Fin 128 → Fin 128 → ℝ) (vt : Fin 128 → Fin 64 → EReal) (k : Fin 8) (g : Fin 4) (S S' : St Ideal) : Prop where
  m : ∀ c, b16 S' (gd k g) c = nextM (τ c) (Live d c) (b16 S (gd k g) c)
  l : ∀ s c, b17 S' (gd k g) s c = nextA (τ c) (Live d c) (b16 S (gd k g) c) * b17 S (gd k g) s c
    + ∑ x : Fin 16, nextP (τ c) (Live d c) (b16 S (gd k g) c) ⟨x.val * 8 + s.val, by omega⟩
  o : ∀ e (c : Fin 128), b18 S' k e ⟨128 * g.val + c.val, by omega⟩ = nextA (τ c) (Live d c) (b16 S (gd k g) c) * b18 S k e ⟨128 * g.val + c.val, by omega⟩
    + (∑ κ : Fin 128, qcode vt κ e * min (Ideal.ofBits .f32 0x43E00000#32) (max (Ideal.ofBits .f32 0xC3E00000#32) (nextP (τ c) (Live d c) (b16 S (gd k g) c) κ)))
      * (rscale (amax vt) * Ideal.ofBits .f32 0x3B800000#32)

theorem GroupRes.of (d : Bool) (τ : Fin 128 → Fin 128 → ℝ) (vt : Fin 128 → Fin 64 → EReal) (k : Fin 8) (g : Fin 4) (S S₁ S' : St Ideal)
    (P : FVec Ideal S1x128 .f32 × FVec Ideal S128x128 .fp8e4m3) (x : FVec Ideal S64x512 .f32) (vs : Vec Ideal S1x1x128 .f32)
    (hr : HeadRes d τ (gd k g) S P S')
    (hx : ∀ e (c : Fin 128), (x (ix2 e ⟨128 * g.val + c.val, by omega⟩) : EReal) = ∑ κ : Fin 128, qcode vt κ e * (P.2 (ix2 κ c) : EReal))
    (hvs : ∀ c, (vs (ix3 0 0 c) : EReal) = rscale (amax vt) * Ideal.ofBits .f32 0x3B800000#32)
    (ho : ∀ e (c : Fin 128), b18 S' k e ⟨128 * g.val + c.val, by omega⟩ = (P.1 (ix2 0 c) : EReal) * b18 S k e ⟨128 * g.val + c.val, by omega⟩
      + (x (ix2 e ⟨128 * g.val + c.val, by omega⟩) : EReal) * (vs (ix3 0 0 c) : EReal)) : GroupRes d τ vt k g S S' := by
  refine ⟨hr.m, hr.l, fun e c => ?_⟩
  rw [ho, hr.a, hx, hvs]
  simp only [hr.p]

include hC in
/-- One key block, row `j` of k and v, for the four heads of group `k`. -/
theorem block_post (d : Bool) (j : Fin 32) (t : Row) (htj : t = row j) (k : Fin 8) (S : St Ideal) (qt : Fin 4 → Fin 128 → Fin 64 → EReal) (kt vt : Fin 128 → Fin 64 → EReal)
    (hq : ∀ g, QH (qt g) (gd k g) S) (hk : KR kt j k S) (hv : VR vt j k S) (S' : St Ideal)
    (hS : ((block (nD := nD) (τ := τ) (Λ := Λ) hA C d t k).run S).2 = S') :
    (∀ g, GroupRes d (logitR (qt g) kt) vt k g S S')
    ∧ ∀ k', k' ≠ k → ∀ g, Same (gd k' g) S S' ∧ ∀ e (c : Fin 128), b18 S' k' e ⟨128 * g.val + c.val, by omega⟩ = b18 S k' e ⟨128 * g.val + c.val, by omega⟩ := by
  subst htj
  obtain ⟨kc, ik⟩ : ∃ kc : Vec Ideal S1x1x128x64 .fp8e4m3, ld (S 11) (rKt (row j) k) = kc := ⟨_, rfl⟩
  obtain ⟨qc, iq⟩ : ∃ qc : Vec Ideal S1x64x512 .fp8e4m3, ld (S 10) (rQw k) = qc := ⟨_, rfl⟩
  obtain ⟨ks, is⟩ : ∃ ks : Vec Ideal S1x1x128 .f32, ld (S 14) (rS (row j) k) = ks := ⟨_, rfl⟩
  have vk : ∀ a x, (kc (ix4 0 0 a x) : EReal) = qcode kt a x := fun a x => by
    refine (congrFun ik.symm (ix4 0 0 a x)).trans (Eq.trans (ld_at (S 11) (rKt (row j) k) (ix4 j k a x) _ fun e => ?_) (hk.codes a x))
    match e with
    | 0 => show (row j).at + 1 * 0 = j.val; rw [row_at]; omega
    | 1 => show k.val + 1 * 0 = k.val; omega
    | 2 => show 0 + 1 * a.val = a.val; omega
    | 3 => show 0 + 1 * x.val = x.val; omega
  have vq : ∀ x (g : Fin 4) (c : Fin 128), (qc (ix3 0 x ⟨128 * g.val + c.val, by omega⟩) : EReal) = qcode (qt g) c x := fun x g c => by
    refine (congrFun iq.symm _).trans (Eq.trans (ld_at (S 10) (rQw k) (ix3 ⟨(gd k g).val / 4, by omega⟩ x ⟨128 * ((gd k g).val % 4) + c.val, by omega⟩) _ fun e => ?_)
      ((hq g).trans x c))
    match e with
    | 0 => show k.val + 1 * 0 = (4 * k.val + g.val) / 4; omega
    | 1 => show 0 + 1 * x.val = x.val; omega
    | 2 => show 0 + 1 * (128 * g.val + c.val) = 128 * ((4 * k.val + g.val) % 4) + c.val; omega
  have vs' : ∀ c, (ks (ix3 0 0 c) : EReal) = rscale (amax kt) := fun c => by
    refine (congrFun is.symm (ix3 0 0 c)).trans (Eq.trans (ld_at (S 14) (rS (row j) k) (ix3 j k c) _ fun e => ?_) (hk.scale c))
    match e with
    | 0 => show (row j).at + 1 * 0 = j.val; rw [row_at]; omega
    | 1 => show k.val + 1 * 0 = k.val; omega
    | 2 => show 0 + 1 * c.val = c.val; omega
  have hsc : ∀ (g : Fin 4) (κ c : Fin 128), (scores kc qc (ix2 κ ⟨128 * g.val + c.val, by omega⟩) : EReal) = ∑ x : Fin 64, qcode kt κ x * qcode (qt g) c x := by
    intro g κ c
    rw [scores_at]
    exact Finset.sum_congr rfl fun x _ => by rw [vk, vq]
  obtain ⟨H₀, H₁, H₂, H₃, v, vs, x, T₀, T₁, T₂, e₀, e₁, e₂, e₃, ev, evs, ex, f₀, f₁, f₂, f₃⟩ :=
    block_run (nD := nD) (τ := τ) (Λ := Λ) hA (C := C) d (row j) k S kc qc ks ik iq is
  rw [hS] at f₃
  have p₀ : HeadPost d (logitR (qt 0) kt) (gd k 0) S H₀ := e₀ ▸ head_post hA hC d _ ks k 0 S (qt 0) kt (hsc 0) vs' fun c => (hq 0).scale c
  have p₁ : HeadPost d (logitR (qt 1) kt) (gd k 1) H₀.2 H₁ := e₁ ▸ head_post hA hC d _ ks k 1 H₀.2 (qt 1) kt (hsc 1) vs' fun c => by
    unfold b13; rw [p₀.keep 13 (by decide) (by decide)]; exact (hq 1).scale c
  have p₂ : HeadPost d (logitR (qt 2) kt) (gd k 2) H₁.2 H₂ := e₂ ▸ head_post hA hC d _ ks k 2 H₁.2 (qt 2) kt (hsc 2) vs' fun c => by
    unfold b13; rw [p₁.keep 13 (by decide) (by decide), p₀.keep 13 (by decide) (by decide)]; exact (hq 2).scale c
  have p₃ : HeadPost d (logitR (qt 3) kt) (gd k 3) H₂.2 H₃ := e₃ ▸ head_post hA hC d _ ks k 3 H₂.2 (qt 3) kt (hsc 3) vs' fun c => by
    unfold b13; rw [p₂.keep 13 (by decide) (by decide), p₁.keep 13 (by decide) (by decide), p₀.keep 13 (by decide) (by decide)]; exact (hq 3).scale c
  have a₀ : AccPost H₀.1.1 x vs k 0 H₃.2 T₀ := f₀ ▸ accum_post hA ..
  have a₁ : AccPost H₁.1.1 x vs k 1 T₀ T₁ := f₁ ▸ accum_post hA ..
  have a₂ : AccPost H₂.1.1 x vs k 2 T₁ T₂ := f₂ ▸ accum_post hA ..
  have a₃ : AccPost H₃.1.1 x vs k 3 T₂ S' := f₃ ▸ accum_post hA ..
  have keep : ∀ i, i ≠ 16 → i ≠ 17 → H₃.2 i = S i := fun i h h' => by
    rw [p₃.keep i h h', p₂.keep i h h', p₁.keep i h h', p₀.keep i h h']
  have tail : ∀ h, Same h H₃.2 S' := fun h => (((a₀.same h).trans (a₁.same h)).trans (a₂.same h)).trans (a₃.same h)
  have vv : ∀ e κ, (v (ix3 0 e κ) : EReal) = qcode vt κ e := fun e κ => by
    refine (congrFun ev (ix3 0 e κ)).trans (Eq.trans (ld_at (H₃.2 12) (rVh (row j) k) (ix3 j ⟨64 * k.val + e.val, by omega⟩ κ) _ fun i => ?_) ?_)
    · match i with
      | 0 => show (row j).at + 1 * 0 = j.val; rw [row_at]; omega
      | 1 => show 64 * k.val + 1 * e.val = 64 * k.val + e.val; omega
      | 2 => show 0 + 1 * κ.val = κ.val; omega
    · rw [keep 12 (by decide) (by decide)]; exact hv.codes κ e
  have vvs : ∀ c, (vs (ix3 0 0 c) : EReal) = rscale (amax vt) * Ideal.ofBits .f32 0x3B800000#32 := fun c => by
    refine (congrFun evs (ix3 0 0 c)).trans (Eq.trans (ld_at (H₃.2 15) (rS (row j) k) (ix3 j k c) _ fun e => ?_) ?_)
    · match e with
      | 0 => show (row j).at + 1 * 0 = j.val; rw [row_at]; omega
      | 1 => show k.val + 1 * 0 = k.val; omega
      | 2 => show 0 + 1 * c.val = c.val; omega
    · rw [keep 15 (by decide) (by decide)]; exact hv.scale c
  have k18 : ∀ e n, b18 H₃.2 k e n = b18 S k e n := fun e n => by unfold b18; rw [keep 18 (by decide) (by decide)]
  have hx : ∀ (g : Fin 4) (p : Fin 4 → FVec Ideal S128x128 .fp8e4m3), x = mix v (p 0) (p 1) (p 2) (p 3) → ∀ e (c : Fin 128),
      (x (ix2 e ⟨128 * g.val + c.val, by omega⟩) : EReal) = ∑ κ : Fin 128, qcode vt κ e * (p g (ix2 κ c) : EReal) := by
    intro g p hp e c
    rw [hp, mix_at]
    exact Finset.sum_congr rfl fun κ _ => by rw [vv]
  have hx' := fun g => hx g ![H₀.1.2, H₁.1.2, H₂.1.2, H₃.1.2] ex
  refine ⟨fun g => ?_, fun k' hk' g => ⟨?_, fun e c => ?_⟩⟩
  · match g with
    | 0 =>
      refine GroupRes.of d _ vt k 0 S S S' H₀.1 x vs (p₀.res.post ((((p₁.same _ (gd_ne (by decide))).trans (p₂.same _ (gd_ne (by decide)))).trans
        (p₃.same _ (gd_ne (by decide)))).trans (tail _))) (hx' 0) vvs fun e c => ?_
      rw [a₃.off k 0 e c (.inr (by decide)), a₂.off k 0 e c (.inr (by decide)), a₁.off k 0 e c (.inr (by decide)), a₀.on, k18]
    | 1 =>
      refine GroupRes.of d _ vt k 1 S S S' H₁.1 x vs (HeadRes.pre (p₁.res.post (((p₂.same _ (gd_ne (by decide))).trans
        (p₃.same _ (gd_ne (by decide)))).trans (tail _))) (p₀.same _ (gd_ne (by decide)))) (hx' 1) vvs fun e c => ?_
      rw [a₃.off k 1 e c (.inr (by decide)), a₂.off k 1 e c (.inr (by decide)), a₁.on, a₀.off k 1 e c (.inr (by decide)), k18]
    | 2 =>
      refine GroupRes.of d _ vt k 2 S S S' H₂.1 x vs (HeadRes.pre (p₂.res.post ((p₃.same _ (gd_ne (by decide))).trans (tail _)))
        ((p₀.same _ (gd_ne (by decide))).trans (p₁.same _ (gd_ne (by decide))))) (hx' 2) vvs fun e c => ?_
      rw [a₃.off k 2 e c (.inr (by decide)), a₂.on, a₁.off k 2 e c (.inr (by decide)), a₀.off k 2 e c (.inr (by decide)), k18]
    | 3 =>
      refine GroupRes.of d _ vt k 3 S S S' H₃.1 x vs (HeadRes.pre (p₃.res.post (tail _))
        (((p₀.same _ (gd_ne (by decide))).trans (p₁.same _ (gd_ne (by decide)))).trans (p₂.same _ (gd_ne (by decide))))) (hx' 3) vvs fun e c => ?_
      rw [a₃.on, a₂.off k 3 e c (.inr (by decide)), a₁.off k 3 e c (.inr (by decide)), a₀.off k 3 e c (.inr (by decide)), k18]
  · exact ((((p₀.same _ (gd_ne' hk')).trans (p₁.same _ (gd_ne' hk'))).trans (p₂.same _ (gd_ne' hk'))).trans (p₃.same _ (gd_ne' hk'))).trans (tail _)
  · rw [a₃.off k' g e c (.inl hk'), a₂.off k' g e c (.inl hk'), a₁.off k' g e c (.inl hk'), a₀.off k' g e c (.inl hk')]
    unfold b18; rw [keep 18 (by decide) (by decide)]

end Run

end Attn

end
-- ==== Proof.Flash.lean ====
/-
  The whole body on the running values: after the key blocks below and on the diagonal, the sums
  and accumulators of every head and query are those of all the keys the query sees; the quotients
  stored at the end are the weighted means of the values.
-/
module

public import proofs.«01_k».proof.Proof.Blocks

@[expose] public section

set_option maxRecDepth 16384

noncomputable section

namespace Attn

open Idealize.ShloMosaic Idealize.ShloMosaic.TcCoe Idealize.SL Idealize.SL.Sem

/-! ## Sums over blocks -/

/-- Codes and scale of a v tile as reals. -/
def vR (vt : Fin 128 → Fin 64 → EReal) (κ : Fin 128) (e : Fin 64) : ℝ := (qcode vt κ e).toReal
def σR (t : Fin 128 → Fin 64 → EReal) : ℝ := (rscale (amax t)).toReal

theorem vR_eq {vt : Fin 128 → Fin 64 → EReal} (h : Tame vt) (κ : Fin 128) (e : Fin 64) : qcode vt κ e = (vR vt κ e : EReal) := by
  obtain ⟨y, hy⟩ := qcode_real h κ e
  unfold vR; rw [hy, EReal.toReal_coe]
theorem σR_eq (t : Fin 128 → Fin 64 → EReal) : rscale (amax t) = (σR t : EReal) := by
  obtain ⟨y, hy⟩ := rscale_real (amax t)
  unfold σR; rw [hy, EReal.toReal_coe]

/-- Whether query `c` of block `r` sees key `κ` of block `j`. -/
def Sees (r j : Fin 32) (c κ : Fin 128) : Prop := 128 * j.val + κ.val ≤ 128 * r.val + c.val
instance (r j : Fin 32) (c : Fin 128) : DecidablePred (Sees r j c) := fun κ => inferInstanceAs (Decidable (128 * j.val + κ.val ≤ 128 * r.val + c.val))

theorem wgt_congr {ι : Type} [Fintype ι] (τ : ι → ℝ) (p q : ι → Prop) [DecidablePred p] [DecidablePred q] (h : ∀ κ, p κ ↔ q κ) (κ : ι) : wgt τ p κ = wgt τ q κ := by
  unfold wgt; simp only [h κ]

theorem sees_below {r j : Fin 32} (h : j.val < r.val) (c κ : Fin 128) : Live false c κ ↔ Sees r j c κ := by
  unfold Live Sees; simp; omega
theorem sees_diag (r : Fin 32) (c κ : Fin 128) : Live true c κ ↔ Sees r r c κ := by
  unfold Live Sees; simp
theorem sees_above {r j : Fin 32} (h : r.val < j.val) (c κ : Fin 128) : ¬ Sees r j c κ := by
  unfold Sees; omega

theorem sum_below (f : Fin 32 → ℝ) (n : Fin 32) : (∑ j, if j.val < n.val + 1 then f j else 0) = (∑ j, if j.val < n.val then f j else 0) + f n := by
  have e : ∀ j : Fin 32, (if j.val < n.val + 1 then f j else 0) = (if j.val < n.val then f j else 0) + if j = n then f j else 0 := by
    intro j
    by_cases h : j = n
    · subst h; simp
    · have : j.val ≠ n.val := fun e => h (Fin.ext e)
      rw [if_neg h, add_zero]
      by_cases h' : j.val < n.val
      · rw [if_pos h', if_pos (by omega)]
      · rw [if_neg h', if_neg (by omega)]
  rw [Finset.sum_congr rfl fun j _ => e j, Finset.sum_add_distrib, Finset.sum_ite_eq' Finset.univ n f, if_pos (Finset.mem_univ _)]

/-- Splitting 128 keys in 16 times 8. -/
theorem sum_split (f : Fin 128 → ℝ) : ∑ s : Fin 8, ∑ x : Fin 16, f ⟨x.val * 8 + s.val, by omega⟩ = ∑ κ, f κ := by
  rw [Finset.sum_comm, ← Fintype.sum_prod_type', ← (finProdFinEquiv : Fin 16 × Fin 8 ≃ Fin 128).sum_comp]
  refine Finset.sum_congr rfl fun p _ => congrArg f (Fin.ext ?_)
  show p.1.val * 8 + p.2.val = p.2.val + 8 * p.1.val
  omega

/-! ## The tiles of a query block -/

section Sums

variable (r : Fin 32) (qt : Fin 32 → Fin 128 → Fin 64 → EReal) (kt vt : Fin 32 → Fin 8 → Fin 128 → Fin 64 → EReal)

/-- The group of a head. -/
def grp (h : Fin 32) : Fin 8 := ⟨h.val / 4, by omega⟩
theorem grp_gd (k : Fin 8) (g : Fin 4) : grp (gd k g) = k := Fin.ext (by simp only [grp, gd]; omega)

/-- The weight of key `κ` of block `j` for query `c` of head `h`. -/
def kw (h : Fin 32) (c : Fin 128) (j : Fin 32) (κ : Fin 128) : ℝ := wgt (logitR (qt h) (kt j (grp h)) c) (Sees r j c) κ
/-- Sums over the blocks below `n`. -/
def sumW (n : Nat) (h : Fin 32) (c : Fin 128) (s : Fin 8) : ℝ := ∑ j : Fin 32, if j.val < n then ∑ x : Fin 16, kw r qt kt h c j ⟨x.val * 8 + s.val, by omega⟩ else 0
def sumZ (n : Nat) (h : Fin 32) (c : Fin 128) (e : Fin 64) : ℝ := ∑ j : Fin 32, if j.val < n then ∑ κ : Fin 128, kw r qt kt h c j κ * (vR (vt j (grp h)) κ e * σR (vt j (grp h))) else 0

/-- The attention output. -/
def soft (h : Fin 32) (c : Fin 128) (e : Fin 64) : ℝ :=
  (∑ j : Fin 32, ∑ κ : Fin 128, kw r qt kt h c j κ * (vR (vt j (grp h)) κ e * σR (vt j (grp h)))) / ∑ j : Fin 32, ∑ κ : Fin 128, kw r qt kt h c j κ

theorem kw_above (h : Fin 32) (c : Fin 128) {j : Fin 32} (hj : r.val < j.val) (κ : Fin 128) : kw r qt kt h c j κ = 0 := if_neg (sees_above hj c κ)

theorem total_pos (h : Fin 32) (c : Fin 128) : 0 < ∑ j : Fin 32, ∑ κ : Fin 128, kw r qt kt h c j κ := by
  have nn : ∀ j κ, 0 ≤ kw r qt kt h c j κ := fun j κ => wgt_nonneg _ _ κ
  refine lt_of_lt_of_le ?_ (Finset.single_le_sum (fun j _ => Finset.sum_nonneg fun κ _ => nn j κ) (Finset.mem_univ r))
  refine lt_of_lt_of_le ?_ (Finset.single_le_sum (fun κ _ => nn r κ) (Finset.mem_univ c))
  unfold kw wgt
  rw [if_pos (show Sees r r c c from le_refl _)]
  exact Real.exp_pos _

theorem sumW_all (h : Fin 32) (c : Fin 128) : ∑ s, sumW r qt kt (r.val + 1) h c s = ∑ j : Fin 32, ∑ κ : Fin 128, kw r qt kt h c j κ := by
  unfold sumW
  rw [Finset.sum_comm]
  refine Finset.sum_congr rfl fun j _ => ?_
  by_cases hj : j.val < r.val + 1
  · simp only [if_pos hj]
    exact sum_split _
  · simp only [if_neg hj]
    rw [Finset.sum_const_zero, Finset.sum_eq_zero fun κ _ => kw_above r qt kt h c (by omega) κ]

theorem sumZ_all (h : Fin 32) (c : Fin 128) (e : Fin 64) : sumZ r qt kt vt (r.val + 1) h c e
    = ∑ j : Fin 32, ∑ κ : Fin 128, kw r qt kt h c j κ * (vR (vt j (grp h)) κ e * σR (vt j (grp h))) := by
  unfold sumZ
  refine Finset.sum_congr rfl fun j _ => ?_
  by_cases hj : j.val < r.val + 1
  · rw [if_pos hj]
  · rw [if_neg hj, Finset.sum_eq_zero fun κ _ => by rw [kw_above r qt kt h c (by omega) κ, zero_mul]]

/-- The running values of group `k` after the blocks below `n`. -/
def Acc (n : Nat) (k : Fin 8) (S : St Ideal) : Prop := ∀ (g : Fin 4) (c : Fin 128),
  Run (sumW r qt kt n (gd k g) c) (sumZ r qt kt vt n (gd k g) c) (b16 S (gd k g) c) (fun s => b17 S (gd k g) s c) (fun e => b18 S k e ⟨128 * g.val + c.val, by omega⟩)

theorem Acc.start {S : St Ideal} (hm : ∀ h c, b16 S h c = ((-2 : ℝ) : EReal)) (hl : ∀ h s c, b17 S h s c = 0) (ho : ∀ k d e, b18 S k d e = 0) (k : Fin 8) :
    Acc r qt kt vt 0 k S := by
  intro g c
  have ew : sumW r qt kt 0 (gd k g) c = fun _ => 0 := funext fun s => Finset.sum_eq_zero fun j _ => if_neg (by omega)
  have ez : sumZ r qt kt vt 0 (gd k g) c = fun _ => 0 := funext fun s => Finset.sum_eq_zero fun j _ => if_neg (by omega)
  rw [ew, ez]
  exact Run.zero (hm _ _) (fun s => hl _ s c) (fun e => ho ..)

theorem Acc.same {n : Nat} {k : Fin 8} {S S' : St Ideal} (h : Acc r qt kt vt n k S)
    (e : ∀ g, Same (gd k g) S S' ∧ ∀ e (c : Fin 128), b18 S' k e ⟨128 * g.val + c.val, by omega⟩ = b18 S k e ⟨128 * g.val + c.val, by omega⟩) :
    Acc r qt kt vt n k S' := by
  intro g c
  have := h g c
  rw [(e g).1.m, show (fun s => b17 S' (gd k g) s c) = _ from funext fun s => (e g).1.l s c,
    show (fun e => b18 S' k e ⟨128 * g.val + c.val, by omega⟩) = _ from funext fun e' => (e g).2 e' c]
  exact this

/-- A block's step. -/
theorem Acc.step {d : Bool} {j : Fin 32} (hd : ∀ c κ, Live d c κ ↔ Sees r j c κ) {k : Fin 8} {S S' : St Ideal} (hv : Tame (vt j k)) (h : Acc r qt kt vt j.val k S)
    (res : ∀ g, GroupRes d (logitR (qt (gd k g)) (kt j k)) (vt j k) k g S S') : Acc r qt kt vt (j.val + 1) k S' := by
  intro g c
  have ew : sumW r qt kt (j.val + 1) (gd k g) c = fun s => sumW r qt kt j.val (gd k g) c s + ∑ x : Fin 16, wgt (logitR (qt (gd k g)) (kt j k) c) (Live d c) ⟨x.val * 8 + s.val, by omega⟩ := by
    funext s
    refine (sum_below _ j).trans (congrArg _ (Finset.sum_congr rfl fun x _ => ?_))
    unfold kw; rw [grp_gd]
    exact (wgt_congr _ _ _ (hd c) _).symm
  have ez : sumZ r qt kt vt (j.val + 1) (gd k g) c = fun e => sumZ r qt kt vt j.val (gd k g) c e
      + ∑ κ : Fin 128, wgt (logitR (qt (gd k g)) (kt j k) c) (Live d c) κ * (vR (vt j k) κ e * σR (vt j k)) := by
    funext e
    refine (sum_below _ j).trans (congrArg _ (Finset.sum_congr rfl fun κ _ => ?_))
    unfold kw; rw [grp_gd]
    exact congrArg (· * _) (wgt_congr _ _ _ (hd c) _).symm
  rw [ew, ez]
  refine Run.step (h g c) (logitR (qt (gd k g)) (kt j k) c) (Live d c) (vR (vt j k)) (σR (vt j k)) ((res g).m c) (a := nextA (logitR (qt (gd k g)) (kt j k) c) (Live d c) (b16 S (gd k g) c))
    (p := nextP (logitR (qt (gd k g)) (kt j k) c) (Live d c) (b16 S (gd k g) c)) ?_ (fun κ => ?_) (fun s => (res g).l s c) fun e => ?_
  · rw [(res g).m]; rfl
  · rw [(res g).m]; rfl
  · refine ((res g).o e c).trans ?_
    rw [σR_eq, bits_256th, ← EReal.coe_mul]
    simp only [vR_eq hv]

end Sums

/-! ## The programs -/

section Run

variable {nD : Nat} {τ : Topo} {sig : RefSig} {Λ : Labels} {A : Bufs sig} (hA : ∀ k, (A k).IsWhole) {C : Consts Ideal} (hC : C.Real)

/-- Programs that each do their part and keep the others' do all parts. -/
theorem each_post_ {ι : Type} (f : ι → Den Ideal nD τ Λ A PUnit) (P : St Ideal → Prop) (U D : ι → St Ideal → Prop)
    (h₁ : ∀ i S, P S → U i S → P ((f i).run S).2 ∧ D i ((f i).run S).2)
    (h₂ : ∀ i i' S, i' ≠ i → P S → (U i' S → U i' ((f i).run S).2) ∧ (D i' S → D i' ((f i).run S).2)) : ∀ (l : List ι) (S : St Ideal), l.Nodup → P S →
      (∀ i ∈ l, U i S) → P ((Den.each_ f l).run S).2 ∧ ∀ i, (i ∈ l ∨ D i S) → D i ((Den.each_ f l).run S).2
  | [], S, _, hP, _ => ⟨hP, fun i h => h.elim (fun h => absurd h (by simp)) id⟩
  | i :: l, S, hl, hP, hU => by
    obtain ⟨hP', hD⟩ := h₁ i S hP (hU i (by simp))
    have hn := List.nodup_cons.1 hl
    obtain ⟨hP'', hD'⟩ := each_post_ f P U D h₁ h₂ l ((f i).run S).2 hn.2 hP' fun i' hi' =>
      (h₂ i i' S (fun e => hn.1 (e ▸ hi')) hP).1 (hU i' (by simp [hi']))
    refine ⟨hP'', fun i' h => hD' i' ?_⟩
    by_cases hi : i' = i
    · subst hi; exact .inr hD
    · rcases h with h | h
      · exact .inl ((List.mem_cons.1 h).resolve_left hi)
      · exact .inr ((h₂ i i' S hi hP).2 h)

theorem trips_post {n : Nat} (body : Fin n → Den Ideal nD τ Λ A PUnit) (I : Nat → St Ideal → Prop)
    (h : ∀ (i : Fin n) S, I i.val S → I (i.val + 1) ((body i).run S).2) (S : St Ideal) (h₀ : I 0 S) : I n (Den.trips body (List.finRange n) S) := by
  have key : ∀ k m, m + k = n → ∀ S, I m S → I n (Den.trips body ((List.finRange n).drop m) S) := by
    intro k
    induction k with
    | zero =>
      intro m hm S hS
      rw [List.drop_eq_nil_of_le (by simp; omega)]
      have : m = n := by omega
      exact this ▸ hS
    | succ k ih =>
      intro m hm S hS
      rw [List.drop_eq_getElem_cons (by simp; omega)]
      have e : (List.finRange n)[m]'(by simp; omega) = ⟨m, by omega⟩ := by simp
      rw [e]
      exact ih (m + 1) (by omega) _ (h ⟨m, by omega⟩ S hS)
  exact key n 0 (by omega) S h₀

/-- The codes and scales of the tiles that a query block uses, rows below `n` of k and v, are in place. -/
structure Ready (qt : Fin 32 → Fin 128 → Fin 64 → EReal) (kt vt : Fin 32 → Fin 8 → Fin 128 → Fin 64 → EReal) (n : Nat) (S : St Ideal) : Prop where
  q : ∀ h, QH (qt h) h S
  k : ∀ j g, j.val < n → KR (kt j g) j g S
  v : ∀ j g, j.val < n → VR (vt j g) j g S

theorem Ready.congr {qt : Fin 32 → Fin 128 → Fin 64 → EReal} {kt vt : Fin 32 → Fin 8 → Fin 128 → Fin 64 → EReal} {n : Nat} {S S' : St Ideal} (h : Ready qt kt vt n S)
    (e : ∀ i : Fin 19, i ∉ ([16, 17, 18] : List (Fin 19)) → S' i = S i) : Ready qt kt vt n S' := by
  have e4 := e 4 (by decide); have e10 := e 10 (by decide); have e11 := e 11 (by decide); have e12 := e 12 (by decide)
  have e13 := e 13 (by decide); have e14 := e 14 (by decide); have e15 := e 15 (by decide)
  refine ⟨fun i => ⟨fun a d => ?_, fun d c => ?_, fun c => ?_⟩, fun j g hj => ⟨fun a d => ?_, fun c => ?_⟩, fun j g hj => ⟨fun a d => ?_, fun c => ?_⟩⟩
  · unfold b4; rw [e4]; exact (h.q i).codes a d
  · unfold b10; rw [e10]; exact (h.q i).trans d c
  · unfold b13; rw [e13]; exact (h.q i).scale c
  · unfold b11; rw [e11]; exact (h.k j g hj).codes a d
  · unfold b14; rw [e14]; exact (h.k j g hj).scale c
  · unfold b12; rw [e12]; exact (h.v j g hj).codes a d
  · unfold b15; rw [e15]; exact (h.v j g hj).scale c

include hC in
theorem blocks_post (r : Fin 32) (qt : Fin 32 → Fin 128 → Fin 64 → EReal) (kt vt : Fin 32 → Fin 8 → Fin 128 → Fin 64 → EReal) (hv : ∀ j g, Tame (vt j g))
    (d : Bool) (j : Fin 32) (t : Row) (htj : t = row j) (n : Nat) (hj : j.val < n) (hd : ∀ c κ, Live d c κ ↔ Sees r j c κ) (S : St Ideal) (hR : Ready qt kt vt n S)
    (hS : ∀ k, Acc r qt kt vt j.val k S) : Ready qt kt vt n ((blocks (nD := nD) (τ := τ) (Λ := Λ) hA C d t).run S).2
      ∧ ∀ k, Acc r qt kt vt (j.val + 1) k ((blocks (nD := nD) (τ := τ) (Λ := Λ) hA C d t).run S).2 := by
  have key := each_post_ (block (nD := nD) (τ := τ) (Λ := Λ) hA C d t) (Ready qt kt vt n) (Acc r qt kt vt j.val) (Acc r qt kt vt (j.val + 1))
    (fun k S hP hU => ⟨hP.congr ((writes_block (nD := nD) (τ := τ) (Λ := Λ) hA C d t k).keeps S),
      hU.step r qt kt vt hd (hv j k) (block_post (nD := nD) (τ := τ) (Λ := Λ) hA hC d j t htj k S (fun g => qt (gd k g)) (kt j k) (vt j k) (fun g => hP.q _) (hP.k j k hj) (hP.v j k hj) _ rfl).1⟩)
    (fun k k' S hk hP => by
      have := (block_post (nD := nD) (τ := τ) (Λ := Λ) hA hC d j t htj k S (fun g => qt (gd k g)) (kt j k) (vt j k) (fun g => hP.q _) (hP.k j k hj) (hP.v j k hj) _ rfl).2 k' hk
      exact ⟨fun h => h.same r qt kt vt this, fun h => h.same r qt kt vt this⟩)
    [0, 1, 2, 3, 4, 5, 6, 7] S (by decide) hR fun k _ => hS k
  exact ⟨key.1, fun k => key.2 k (.inl (by fin_cases k <;> decide))⟩

theorem trip_row (r : Fin 32) (n : Fin (loop₁ r).trips) : trip₁ r n = row ⟨n.val, by have := n.isLt; have := loop₁_trips r; omega⟩ := by
  have key : ∀ n : Fin 32, Scf.iv 0#32 1#32 n.val = (row n).1 := by decide
  exact Subtype.ext (key ⟨n.val, by have := n.isLt; have := loop₁_trips r; omega⟩)

/-! ## The quotients -/

theorem quotient_at (l : Vec Ideal S1x8x128 .f32) (o : Vec Ideal S1x64x128 .f32) (d : Fin 64) (c : Fin 128) :
    (quotient l o (ix2 d c) : EReal) = Ideal.div (o (ix3 0 d c) : EReal) ((∑ s : Fin 8, (l (ix3 0 s c) : EReal)) * Ideal.ofBits .f32 0x3B800000#32) := by
  pointwise [quotient]
theorem outTile_at (x : Fin 2 → FVec Ideal S64x128 .f32) (u : Fin 2) (c : Fin 128) (d : Fin 64) :
    (outTile (x 0) (x 1) (ix3 0 c ⟨64 * u.val + d.val, by omega⟩) : EReal) = x u (ix2 d c) := by
  fin_cases u <;> pointwise [outTile]

/-- The quotient stored for a head. -/
def quot (S : St Ideal) (h : Fin 32) (c : Fin 128) (d : Fin 64) : EReal :=
  Ideal.div (b18 S (grp h) d ⟨128 * (h.val % 4) + c.val, by omega⟩) ((∑ s : Fin 8, b17 S h s c) * Ideal.ofBits .f32 0x3B800000#32)

theorem finish_eq (j : Fin 16) (S : St Ideal) (l : Fin 2 → Vec Ideal S1x8x128 .f32) (o : Fin 2 → Vec Ideal S1x64x128 .f32)
    (hl₀ : ld (S 17) (rL (hd j 0)) = l 0) (ho₀ : ld (S 18) (rQt (hd j 0)) = o 0) (hl₁ : ld (S 17) (rL (hd j 1)) = l 1) (ho₁ : ld (S 18) (rQt (hd j 1)) = o 1) :
    ((finish (F := Ideal) (nD := nD) (τ := τ) (Λ := Λ) hA j).run S).2 3 = (rX j).overlay (S 3) (outTile (quotient (l 0) (o 0)) (quotient (l 1) (o 1))) := by
  have e : ((finish (F := Ideal) (nD := nD) (τ := τ) (Λ := Λ) hA j).run S).2 = over 3 (rX j) (outTile (quotient (l 0) (o 0)) (quotient (l 1) (o 1))) S := by
    rw [← hl₀, ← ho₀, ← hl₁, ← ho₁]
    rfl
  exact over_one (k := 3) (rX j) _ S _ e

theorem finish_post (j : Fin 16) (S : St Ideal) (S' : St Ideal) (hS : ((finish (F := Ideal) (nD := nD) (τ := τ) (Λ := Λ) hA j).run S).2 = S') :
    (∀ u c d, b3 S' c ⟨64 * (hd j u).val + d.val, by omega⟩ = quot S (hd j u) c d)
    ∧ ∀ c (e : Fin 2048), e.val / 128 ≠ j.val → b3 S' c e = b3 S c e := by
  have pick : ∀ {α : Type} (x y : α), ∃ f : Fin 2 → α, x = f 0 ∧ y = f 1 := fun x y => ⟨![x, y], rfl, rfl⟩
  obtain ⟨l, hl₀, hl₁⟩ := pick (α := Vec Ideal S1x8x128 .f32) (ld (S 17) (rL (hd j 0))) (ld (S 17) (rL (hd j 1)))
  obtain ⟨o, ho₀, ho₁⟩ := pick (α := Vec Ideal S1x64x128 .f32) (ld (S 18) (rQt (hd j 0))) (ld (S 18) (rQt (hd j 1)))
  have e := finish_eq (nD := nD) (τ := τ) (Λ := Λ) hA j S l o hl₀ ho₀ hl₁ ho₁
  rw [hS] at e
  have vl : ∀ u s c, (l u (ix3 0 s c) : EReal) = b17 S (hd j u) s c := by
    intro u s c
    match u with
    | 0 => exact (congrFun hl₀.symm (ix3 0 s c)).trans (ld_rL (S 17) (hd j 0) s c)
    | 1 => exact (congrFun hl₁.symm (ix3 0 s c)).trans (ld_rL (S 17) (hd j 1) s c)
  have at_o : ∀ (u : Fin 2) (d : Fin 64) (c : Fin 128), ld (S 18) (rQt (hd j u)) (ix3 0 d c) = S 18 (ix3 (grp (hd j u)) d ⟨128 * ((hd j u).val % 4) + c.val, by omega⟩) := by
    intro u d c
    refine ld_at (S 18) (rQt (hd j u)) _ _ fun i => ?_
    match i with
    | 0 => show (hd j u).val / 4 + 1 * 0 = (hd j u).val / 4; omega
    | 1 => show 0 + 1 * d.val = d.val; omega
    | 2 => show 128 * ((hd j u).val % 4) + 1 * c.val = 128 * ((hd j u).val % 4) + c.val; omega
  have vo : ∀ u d c, (o u (ix3 0 d c) : EReal) = b18 S (grp (hd j u)) d ⟨128 * ((hd j u).val % 4) + c.val, by omega⟩ := by
    intro u d c
    match u with
    | 0 => exact (congrFun ho₀.symm (ix3 0 d c)).trans (at_o 0 d c)
    | 1 => exact (congrFun ho₁.symm (ix3 0 d c)).trans (at_o 1 d c)
  refine ⟨fun u c d => ?_, fun c n hn => ?_⟩
  · unfold b3; rw [e]
    refine (overlay_at (rX j) _ _ _ (ix3 0 c ⟨64 * u.val + d.val, by omega⟩) fun i => ?_).trans ?_
    · match i with
      | 0 => rfl
      | 1 => show 0 + 1 * c.val = c.val; omega
      | 2 => show 128 * j.val + 1 * (64 * u.val + d.val) = 64 * (2 * j.val + u.val) + d.val; omega
    · refine (outTile_at (fun u => quotient (l u) (o u)) u c d).trans ((quotient_at _ _ d c).trans ?_)
      rw [vo]
      simp only [vl]
      rfl
  · unfold b3; rw [e]
    refine overlay_off _ _ _ 2 ?_
    show n.val < 128 * j.val ∨ 128 * j.val + 128 ≤ n.val
    omega

theorem finishes_post (S : St Ideal) (h : Fin 32) (c : Fin 128) (d : Fin 64) :
    b3 ((Den.each_ (finish (F := Ideal) (nD := nD) (τ := τ) (Λ := Λ) hA) [0, 1, 2, 3, 4, 5, 6, 7, 8, 9, 10, 11, 12, 13, 14, 15]).run S).2 c ⟨64 * h.val + d.val, by omega⟩
      = quot S h c d := by
  obtain ⟨j, u, rfl⟩ := hd_split h
  have eqQ : ∀ S₁ : St Ideal, (S₁ 17 = S 17 ∧ S₁ 18 = S 18) → ∀ h c d, quot S₁ h c d = quot S h c d := by
    intro S₁ hS h c d
    unfold quot b18 b17
    rw [hS.1, hS.2]
  have key := each_post_ (finish (F := Ideal) (nD := nD) (τ := τ) (Λ := Λ) hA) (fun S₁ => S₁ 17 = S 17 ∧ S₁ 18 = S 18) (fun _ _ => True)
    (fun j S₁ => ∀ u c d, b3 S₁ c ⟨64 * (hd j u).val + d.val, by omega⟩ = quot S (hd j u) c d)
    (fun i S₁ hP _ => ⟨⟨((writes_finish (nD := nD) (τ := τ) (Λ := Λ) hA i).keeps S₁ 17 (by decide)).trans hP.1,
        ((writes_finish (nD := nD) (τ := τ) (Λ := Λ) hA i).keeps S₁ 18 (by decide)).trans hP.2⟩,
      fun u c d => ((finish_post (nD := nD) (τ := τ) (Λ := Λ) hA i S₁ _ rfl).1 u c d).trans (eqQ S₁ hP _ _ _)⟩)
    (fun i i' S₁ hi _ => ⟨fun h => h, fun h u c d => ((finish_post (nD := nD) (τ := τ) (Λ := Λ) hA i S₁ _ rfl).2 c _ (by
      have : i'.val ≠ i.val := fun e => hi (Fin.ext e)
      simp only [hd]; omega)).trans (h u c d)⟩)
    [0, 1, 2, 3, 4, 5, 6, 7, 8, 9, 10, 11, 12, 13, 14, 15] S (by decide) ⟨rfl, rfl⟩ fun _ _ => trivial
  exact key.2 j (.inl (by fin_cases j <;> decide)) u c d

/-! ## The body -/

/-- What the body at query block `r` leaves. -/
structure Finished (r : Fin 32) (qt : Fin 32 → Fin 128 → Fin 64 → EReal) (kt vt : Fin 32 → Fin 8 → Fin 128 → Fin 64 → EReal) (S S' : St Ideal) : Prop where
  ready : Ready qt kt vt (r.val + 1) S'
  kout : ∀ g, KO (kt r g) g S'
  vout : ∀ g, VO (vt r g) g S'
  qs : ∀ j h, b5 S' j h = if j = r then rscale (amax (qt h)) else b5 S j h
  ks : ∀ j g, b7 S' j g = if j = r then rscale (amax (kt r g)) else b7 S j g
  vs : ∀ j g, b9 S' j g = if j = r then rscale (amax (vt r g)) else b9 S j g
  y : ∀ h c (d : Fin 64), b3 S' c ⟨64 * h.val + d.val, by omega⟩ = (soft r qt kt vt h c d : EReal)

theorem trips_none {n : Nat} (h : n = 0) (body : Fin n → Den Ideal nD τ Λ A PUnit) (S : St Ideal) : Den.trips body (List.finRange n) S = S := by
  subst h; rfl

theorem body_run (r : Fin 32) (S : St Ideal) : ((body (nD := nD) (τ := τ) (Λ := Λ) hA C r).run S).2
    = ((Den.each_ (finish (F := Ideal) (nD := nD) (τ := τ) (Λ := Λ) hA) [0, 1, 2, 3, 4, 5, 6, 7, 8, 9, 10, 11, 12, 13, 14, 15]).run
      ((blocks (nD := nD) (τ := τ) (Λ := Λ) hA C true (row r)).run
      (Den.trips (fun n => blocks (nD := nD) (τ := τ) (Λ := Λ) hA C false (trip₂ r n)) (List.finRange (loop₂ r).trips)
      (Den.trips (fun n => blocks (nD := nD) (τ := τ) (Λ := Λ) hA C false (trip₁ r n)) (List.finRange (loop₁ r).trips)
      ((start (nD := nD) (τ := τ) (Λ := Λ) hA r).run S).2))).2).2 := rfl

include hC in
theorem body_post (r : Fin 32) (S : St Ideal) (qt : Fin 32 → Fin 128 → Fin 64 → EReal) (kt vt : Fin 32 → Fin 8 → Fin 128 → Fin 64 → EReal)
    (tq : ∀ h, Tame (qt h)) (tk : ∀ j g, Tame (kt j g)) (tv : ∀ j g, Tame (vt j g))
    (hq : ∀ h, qHead (S 0) h = qt h) (hk : ∀ g, kHead (S 1) g = kt r g) (hv : ∀ g, kHead (S 2) g = vt r g)
    (rk : ∀ j g, j.val < r.val → KR (kt j g) j g S) (rv : ∀ j g, j.val < r.val → VR (vt j g) j g S) :
    Finished r qt kt vt S ((body (nD := nD) (τ := τ) (Λ := Λ) hA C r).run S).2 := by
  have st := start_post (nD := nD) (τ := τ) (Λ := Λ) hA r S (fun h => by rw [hq]; exact tq h) (fun g => by rw [hk]; exact tk r g) (fun g => by rw [hv]; exact tv r g)
  rw [body_run]
  generalize ((start (nD := nD) (τ := τ) (Λ := Λ) hA r).run S).2 = S₁ at st
  have ready₁ : Ready qt kt vt (r.val + 1) S₁ := by
    refine ⟨fun h => hq h ▸ st.q h, fun j g hj => ?_, fun j g hj => ?_⟩
    · by_cases e : j = r
      · subst e; exact hk g ▸ (st.k g).row
      · have hlt : j.val < r.val := lt_of_le_of_ne (by omega) fun h => e (Fin.ext h)
        exact ⟨fun a d => ((st.rows.k j g e).1 a d).trans ((rk j g hlt).codes a d), fun c => ((st.rows.k j g e).2 c).trans ((rk j g hlt).scale c)⟩
    · by_cases e : j = r
      · subst e; exact hv g ▸ (st.v g).row
      · have hlt : j.val < r.val := lt_of_le_of_ne (by omega) fun h => e (Fin.ext h)
        exact ⟨fun a d => ((st.rows.v j e).1 _ a).trans ((rv j g hlt).codes a d), fun c => ((st.rows.v j e).2 g c).trans ((rv j g hlt).scale c)⟩
  have I := trips_post (nD := nD) (τ := τ) (Λ := Λ) (fun n => blocks (nD := nD) (τ := τ) (Λ := Λ) hA C false (trip₁ r n))
    (fun n S => Ready qt kt vt (r.val + 1) S ∧ (∀ k, Acc r qt kt vt n k S) ∧ ∀ i : Fin 19, i ∉ ([16, 17, 18] : List (Fin 19)) → S i = S₁ i)
    (fun n S hS => by
      have hn : n.val < r.val := loop₁_trips r ▸ n.isLt
      have := blocks_post (nD := nD) (τ := τ) (Λ := Λ) hA hC r qt kt vt tv false ⟨n.val, by omega⟩ (trip₁ r n) (trip_row r n) (r.val + 1) (by show n.val < r.val + 1; omega)
        (sees_below hn) S hS.1 hS.2.1
      exact ⟨this.1, this.2, fun i hi => ((writes_blocks (nD := nD) (τ := τ) (Λ := Λ) hA C false (trip₁ r n)).keeps S i hi).trans (hS.2.2 i hi)⟩)
    S₁ ⟨ready₁, Acc.start r qt kt vt st.m st.l st.o, fun _ _ => rfl⟩
  rw [trips_none (loop₂_trips r)]
  generalize Den.trips (fun n => blocks (nD := nD) (τ := τ) (Λ := Λ) hA C false (trip₁ r n)) (List.finRange (loop₁ r).trips) S₁ = S₂ at I
  obtain ⟨ready₂, acc₂, keep₂⟩ := I
  rw [loop₁_trips] at acc₂
  obtain ⟨ready₃, acc₃⟩ := blocks_post (nD := nD) (τ := τ) (Λ := Λ) hA hC r qt kt vt tv true r (row r) rfl (r.val + 1) (by omega) (sees_diag r) S₂ ready₂ acc₂
  have keep₃ := (writes_blocks (nD := nD) (τ := τ) (Λ := Λ) hA C true (row r)).keeps S₂
  generalize ((blocks (nD := nD) (τ := τ) (Λ := Λ) hA C true (row r)).run S₂).2 = S₃ at ready₃ acc₃ keep₃
  have y := finishes_post (nD := nD) (τ := τ) (Λ := Λ) hA S₃
  have keep₄ := (Writes.each_ (F := Ideal) (fun j => writes_finish (F := Ideal) (nD := nD) (τ := τ) (Λ := Λ) hA j) [0, 1, 2, 3, 4, 5, 6, 7, 8, 9, 10, 11, 12, 13, 14, 15]).keeps S₃
  generalize ((Den.each_ (finish (F := Ideal) (nD := nD) (τ := τ) (Λ := Λ) hA) [0, 1, 2, 3, 4, 5, 6, 7, 8, 9, 10, 11, 12, 13, 14, 15]).run S₃).2 = S₄ at y keep₄
  have keep : ∀ i : Fin 19, i ∉ ([3, 16, 17, 18] : List (Fin 19)) → S₄ i = S₁ i := fun i hi => by
    have h3 : i ∉ ([3] : List (Fin 19)) := fun h => hi (by simp at h; subst h; decide)
    have h18 : i ∉ ([16, 17, 18] : List (Fin 19)) := fun h => hi (by simp at h; rcases h with rfl | rfl | rfl <;> decide)
    exact (keep₄ i h3).trans ((keep₃ i h18).trans (keep₂ i h18))
  have e4 := keep 4 (by decide); have e5 := keep 5 (by decide); have e6 := keep 6 (by decide); have e7 := keep 7 (by decide)
  have e8 := keep 8 (by decide); have e9 := keep 9 (by decide); have e10 := keep 10 (by decide); have e11 := keep 11 (by decide)
  have e12 := keep 12 (by decide); have e13 := keep 13 (by decide); have e14 := keep 14 (by decide); have e15 := keep 15 (by decide)
  refine ⟨⟨fun i => ⟨fun a d => ?_, fun d c => ?_, fun c => ?_⟩, fun j g hj => ⟨fun a d => ?_, fun c => ?_⟩, fun j g hj => ⟨fun a d => ?_, fun c => ?_⟩⟩,
    fun g a d => ?_, fun g a d => ?_, fun j h => ?_, fun j g => ?_, fun j g => ?_, fun h c d => ?_⟩
  · unfold b4; rw [e4]; exact (ready₁.q i).codes a d
  · unfold b10; rw [e10]; exact (ready₁.q i).trans d c
  · unfold b13; rw [e13]; exact (ready₁.q i).scale c
  · unfold b11; rw [e11]; exact (ready₁.k j g hj).codes a d
  · unfold b14; rw [e14]; exact (ready₁.k j g hj).scale c
  · unfold b12; rw [e12]; exact (ready₁.v j g hj).codes a d
  · unfold b15; rw [e15]; exact (ready₁.v j g hj).scale c
  · unfold b6; rw [e6, ← hk]; exact (st.k g).out a d
  · unfold b8; rw [e8, ← hv]; exact (st.v g).out a d
  · rw [← hq]; unfold b5; rw [e5]; exact st.qs j h
  · rw [← hk]; unfold b7; rw [e7]; exact st.ks j g
  · rw [← hv]; unfold b9; rw [e9]; exact st.vs j g
  · rw [y]
    have hh : h = gd (grp h) ⟨h.val % 4, by omega⟩ := Fin.ext (by simp only [gd, grp]; omega)
    have R := acc₃ (grp h) ⟨h.val % 4, by omega⟩ c
    rw [← hh] at R
    refine (R.quot (by rw [sumW_all]; exact total_pos r qt kt h c) d).trans ?_
    rw [sumW_all, sumZ_all]
    rfl

end Run

end Attn

end
-- ==== Proof.Spec.lean ====
/-
  The seven results as arrays over the extended reals, from the three arguments: codes and scales
  head by head and block by block, and the attention output.
-/
module

public import proofs.«01_k».proof.Proof.Flash

@[expose] public section

noncomputable section

namespace Attn

open Idealize.ShloMosaic Idealize.ShloMosaic.TcCoe

/-- Block `r`, head `h` of batch `b` of q. -/
def qT (X : S8x4096x2048.Idx → EReal) (b : Fin 8) (r h : Fin 32) : Fin 128 → Fin 64 → EReal :=
  fun a d => X (ix3 b ⟨128 * r.val + a.val, by omega⟩ ⟨64 * h.val + d.val, by omega⟩)
/-- The same of k or v. -/
def kT (X : S8x4096x512.Idx → EReal) (b : Fin 8) (r : Fin 32) (g : Fin 8) : Fin 128 → Fin 64 → EReal :=
  fun a d => X (ix3 b ⟨128 * r.val + a.val, by omega⟩ ⟨64 * g.val + d.val, by omega⟩)

/-- The attention output of block `r` of batch `b`: head `h`, query `c`, place `d`. -/
def att (Xq : S8x4096x2048.Idx → EReal) (Xk Xv : S8x4096x512.Idx → EReal) (b : Fin 8) (r h : Fin 32) (c : Fin 128) (d : Fin 64) : ℝ :=
  soft r (qT Xq b r) (kT Xk b) (kT Xv b) h c d

/-- The attention output. -/
def yOut (Xq : S8x4096x2048.Idx → EReal) (Xk Xv : S8x4096x512.Idx → EReal) : S8x4096x2048.Idx → EReal := fun i =>
  have h1 : (i 1).val < 4096 := (i 1).isLt
  have h2 : (i 2).val < 2048 := (i 2).isLt
  (att Xq Xk Xv (i 0) ⟨(i 1).val / 128, by omega⟩ ⟨(i 2).val / 64, by omega⟩ ⟨(i 1).val % 128, by omega⟩ ⟨(i 2).val % 64, by omega⟩ : EReal)
/-- The codes of q. -/
def qOut (X : S8x4096x2048.Idx → EReal) : S8x4096x2048.Idx → EReal := fun i =>
  have h1 : (i 1).val < 4096 := (i 1).isLt
  have h2 : (i 2).val < 2048 := (i 2).isLt
  qcode (qT X (i 0) ⟨(i 1).val / 128, by omega⟩ ⟨(i 2).val / 64, by omega⟩) ⟨(i 1).val % 128, by omega⟩ ⟨(i 2).val % 64, by omega⟩
/-- The codes of k or v. -/
def kOut (X : S8x4096x512.Idx → EReal) : S8x4096x512.Idx → EReal := fun i =>
  have h1 : (i 1).val < 4096 := (i 1).isLt
  have h2 : (i 2).val < 512 := (i 2).isLt
  qcode (kT X (i 0) ⟨(i 1).val / 128, by omega⟩ ⟨(i 2).val / 64, by omega⟩) ⟨(i 1).val % 128, by omega⟩ ⟨(i 2).val % 64, by omega⟩
/-- The scales of q. -/
def qScaleOut (X : S8x4096x2048.Idx → EReal) : S8x32x32.Idx → EReal := fun i => rscale (amax (qT X (i 0) (i 1) (i 2)))
/-- The scales of k or v. -/
def kScaleOut (X : S8x4096x512.Idx → EReal) : S8x32x8.Idx → EReal := fun i => rscale (amax (kT X (i 0) (i 1) (i 2)))

theorem yOut_at (Xq : S8x4096x2048.Idx → EReal) (Xk Xv : S8x4096x512.Idx → EReal) (b : Fin 8) (r h : Fin 32) (c : Fin 128) (d : Fin 64) :
    yOut Xq Xk Xv (ix3 b ⟨128 * r.val + c.val, by omega⟩ ⟨64 * h.val + d.val, by omega⟩) = (att Xq Xk Xv b r h c d : EReal) := by
  have e₁ : (128 * r.val + c.val) / 128 = r.val := by omega
  have e₂ : (128 * r.val + c.val) % 128 = c.val := by omega
  have e₃ : (64 * h.val + d.val) / 64 = h.val := by omega
  have e₄ : (64 * h.val + d.val) % 64 = d.val := by omega
  show ((att Xq Xk Xv b ⟨(128 * r.val + c.val) / 128, _⟩ ⟨(64 * h.val + d.val) / 64, _⟩ ⟨(128 * r.val + c.val) % 128, _⟩ ⟨(64 * h.val + d.val) % 64, _⟩ : ℝ) : EReal) = _
  congr 2 <;> exact Fin.ext (by assumption)
theorem qOut_at (X : S8x4096x2048.Idx → EReal) (b : Fin 8) (r h : Fin 32) (a : Fin 128) (d : Fin 64) :
    qOut X (ix3 b ⟨128 * r.val + a.val, by omega⟩ ⟨64 * h.val + d.val, by omega⟩) = qcode (qT X b r h) a d := by
  have e₁ : (128 * r.val + a.val) / 128 = r.val := by omega
  have e₂ : (128 * r.val + a.val) % 128 = a.val := by omega
  have e₃ : (64 * h.val + d.val) / 64 = h.val := by omega
  have e₄ : (64 * h.val + d.val) % 64 = d.val := by omega
  show qcode (qT X b ⟨(128 * r.val + a.val) / 128, _⟩ ⟨(64 * h.val + d.val) / 64, _⟩) ⟨(128 * r.val + a.val) % 128, _⟩ ⟨(64 * h.val + d.val) % 64, _⟩ = _
  congr 2 <;> exact Fin.ext (by assumption)
theorem kOut_at (X : S8x4096x512.Idx → EReal) (b : Fin 8) (r : Fin 32) (g : Fin 8) (a : Fin 128) (d : Fin 64) :
    kOut X (ix3 b ⟨128 * r.val + a.val, by omega⟩ ⟨64 * g.val + d.val, by omega⟩) = qcode (kT X b r g) a d := by
  have e₁ : (128 * r.val + a.val) / 128 = r.val := by omega
  have e₂ : (128 * r.val + a.val) % 128 = a.val := by omega
  have e₃ : (64 * g.val + d.val) / 64 = g.val := by omega
  have e₄ : (64 * g.val + d.val) % 64 = d.val := by omega
  show qcode (kT X b ⟨(128 * r.val + a.val) / 128, _⟩ ⟨(64 * g.val + d.val) / 64, _⟩) ⟨(128 * r.val + a.val) % 128, _⟩ ⟨(64 * g.val + d.val) % 64, _⟩ = _
  congr 2 <;> exact Fin.ext (by assumption)

/-- Every index of an array of q is a block's, a head's. -/
theorem split_q (i : S8x4096x2048.Idx) : ∃ (b : Fin 8) (r h : Fin 32) (a : Fin 128) (d : Fin 64),
    i = ix3 b ⟨128 * r.val + a.val, by omega⟩ ⟨64 * h.val + d.val, by omega⟩ := by
  have h1 : (i 1).val < 4096 := (i 1).isLt
  have h2 : (i 2).val < 2048 := (i 2).isLt
  refine ⟨i 0, ⟨(i 1).val / 128, by omega⟩, ⟨(i 2).val / 64, by omega⟩, ⟨(i 1).val % 128, by omega⟩, ⟨(i 2).val % 64, by omega⟩, funext fun a => ?_⟩
  match a with
  | 0 => rfl
  | 1 => exact Fin.ext (by show (i 1).val = 128 * ((i 1).val / 128) + (i 1).val % 128; omega)
  | 2 => exact Fin.ext (by show (i 2).val = 64 * ((i 2).val / 64) + (i 2).val % 64; omega)
theorem split_k (i : S8x4096x512.Idx) : ∃ (b : Fin 8) (r : Fin 32) (g : Fin 8) (a : Fin 128) (d : Fin 64),
    i = ix3 b ⟨128 * r.val + a.val, by omega⟩ ⟨64 * g.val + d.val, by omega⟩ := by
  have h1 : (i 1).val < 4096 := (i 1).isLt
  have h2 : (i 2).val < 512 := (i 2).isLt
  refine ⟨i 0, ⟨(i 1).val / 128, by omega⟩, ⟨(i 2).val / 64, by omega⟩, ⟨(i 1).val % 128, by omega⟩, ⟨(i 2).val % 64, by omega⟩, funext fun a => ?_⟩
  match a with
  | 0 => rfl
  | 1 => exact Fin.ext (by show (i 1).val = 128 * ((i 1).val / 128) + (i 1).val % 128; omega)
  | 2 => exact Fin.ext (by show (i 2).val = 64 * ((i 2).val / 64) + (i 2).val % 64; omega)

/-- Every index of a block of q, of k or v, is a head's. -/
theorem split_y (y : (⟨3, ![1, 128, 2048]⟩ : Shape).Idx) : ∃ (h : Fin 32) (a : Fin 128) (d : Fin 64),
    y = ix3 (0 : Fin 1) a ⟨64 * h.val + d.val, by omega⟩ := by
  have h2 : (y 2).val < 2048 := (y 2).isLt
  refine ⟨⟨(y 2).val / 64, by omega⟩, y 1, ⟨(y 2).val % 64, by omega⟩, funext fun a => ?_⟩
  match a with
  | 0 => exact Subsingleton.elim (α := Fin 1) _ _
  | 1 => rfl
  | 2 => exact Fin.ext (by show (y 2).val = 64 * ((y 2).val / 64) + (y 2).val % 64; omega)
theorem split_z (y : (⟨3, ![1, 128, 512]⟩ : Shape).Idx) : ∃ (g : Fin 8) (a : Fin 128) (d : Fin 64),
    y = ix3 (0 : Fin 1) a ⟨64 * g.val + d.val, by omega⟩ := by
  have h2 : (y 2).val < 512 := (y 2).isLt
  refine ⟨⟨(y 2).val / 64, by omega⟩, y 1, ⟨(y 2).val % 64, by omega⟩, funext fun a => ?_⟩
  match a with
  | 0 => exact Subsingleton.elim (α := Fin 1) _ _
  | 1 => rfl
  | 2 => exact Fin.ext (by show (y 2).val = 64 * ((y 2).val / 64) + (y 2).val % 64; omega)

/-- An array of numbers within the range of bf16. -/
def Fine {s : Shape} (X : s.Idx → EReal) : Prop := ∀ i, ∃ y : ℝ, X i = (y : EReal) ∧ |y| ≤ (2 : ℝ) ^ (128 : ℤ)

theorem Fine.q {X : S8x4096x2048.Idx → EReal} (h : Fine X) (b : Fin 8) (r i : Fin 32) : Tame (qT X b r i) := fun _ _ => h _
theorem Fine.k {X : S8x4096x512.Idx → EReal} (h : Fine X) (b : Fin 8) (r : Fin 32) (g : Fin 8) : Tame (kT X b r g) := fun _ _ => h _

end Attn

end
-- ==== Proof.KernelValue.lean ====
/-
  The arrays the kernel's ideal form leaves, over the extended reals: what each point's body
  computes from its blocks, carried along the grid.
-/
module

public import proofs.«01_k».proof.Proof.Spec
public import proofs.«01_k».proof.Proof.RunKernelIdeal
public import proofs.«01_k».proof.Proof.Frames
public import Idealize.ShloMosaic.Lib.Pipeline.ArrRel

@[expose] public section

set_option maxRecDepth 16384

noncomputable section

namespace Cert.KernelIdeal.Gen

open Idealize.ShloMosaic Idealize.ShloMosaic.TcCoe Idealize.SL Idealize.SL.Sem
open Idealize.ShloMosaic.Pipeline (RDat Cfg Window)

theorem consts_real : (consts (F := Ideal)).Real := ⟨rfl, rfl, rfl⟩

/-! ## The grid -/

theorem coord_at : ∀ t : Fin cfg0.N, (grid0.coords t 1).val = t.val % 32 := by decide +kernel
theorem coord_at0 : ∀ t : Fin cfg0.N, (grid0.coords t 0).val = t.val / 32 := by decide +kernel

def tb (t : Fin cfg0.N) : Fin 8 := ⟨t.val / 32, by have : t.val < 256 := t.isLt; omega⟩
def tr (t : Fin cfg0.N) : Fin 32 := ⟨t.val % 32, by omega⟩

theorem coord_tr (t : Fin cfg0.N) : grid0.coords t 1 = tr t := Fin.ext (coord_at t)

theorem index0 : ∀ t : Fin cfg0.N, win0_0.index t = ![t.val / 32, t.val % 32, 0] := (by decide +kernel : ∀ t : Fin grid0.N, _)
theorem index1 : ∀ t : Fin cfg0.N, win0_1.index t = ![t.val / 32, t.val % 32, 0] := (by decide +kernel : ∀ t : Fin grid0.N, _)
theorem index2 : ∀ t : Fin cfg0.N, win0_2.index t = ![t.val / 32, t.val % 32, 0] := (by decide +kernel : ∀ t : Fin grid0.N, _)
theorem index3 : ∀ t : Fin cfg0.N, win0_3.index t = ![t.val / 32, t.val % 32, 0] := (by decide +kernel : ∀ t : Fin grid0.N, _)
theorem index4 : ∀ t : Fin cfg0.N, win0_4.index t = ![t.val / 32, t.val % 32, 0] := (by decide +kernel : ∀ t : Fin grid0.N, _)
theorem index5 : ∀ t : Fin cfg0.N, win0_5.index t = ![t.val / 32, 0, 0] := (by decide +kernel : ∀ t : Fin grid0.N, _)
theorem index6 : ∀ t : Fin cfg0.N, win0_6.index t = ![t.val / 32, t.val % 32, 0] := (by decide +kernel : ∀ t : Fin grid0.N, _)
theorem index7 : ∀ t : Fin cfg0.N, win0_7.index t = ![t.val / 32, 0, 0] := (by decide +kernel : ∀ t : Fin grid0.N, _)
theorem index8 : ∀ t : Fin cfg0.N, win0_8.index t = ![t.val / 32, t.val % 32, 0] := (by decide +kernel : ∀ t : Fin grid0.N, _)
theorem index9 : ∀ t : Fin cfg0.N, win0_9.index t = ![t.val / 32, 0, 0] := (by decide +kernel : ∀ t : Fin grid0.N, _)

variable (m : (ℓ : Loc nD τ sig) → Buf (Elt Ideal) ℓ) (ρ : Dev nD → PrngReg)

/-- The arguments. -/
def argQ (c : Dev nD) : Attn.S8x4096x2048.Idx → EReal := m ((c : Thread nD τ).loc main_arg0)
def argK (c : Dev nD) : Attn.S8x4096x512.Idx → EReal := m ((c : Thread nD τ).loc main_arg1)
def argV (c : Dev nD) : Attn.S8x4096x512.Idx → EReal := m ((c : Thread nD τ).loc main_arg2)

theorem head_q (c : Dev nD) (t : Fin cfg0.N) (h : Fin 32) : Attn.qHead (iblk m c 0 t) h = Attn.qT (argQ m c) (tb t) (tr t) h := by
  funext a d
  unfold Attn.qHead Attn.qT argQ
  blk_simp [iblk]
  refine congrArg (m ((c : Thread nD τ).loc main_arg0)) ?_
  blk_ext [index0 t]
  all_goals simp only [tb, tr]
  all_goals omega
theorem head_k (c : Dev nD) (t : Fin cfg0.N) (g : Fin 8) : Attn.kHead (iblk m c 1 t) g = Attn.kT (argK m c) (tb t) (tr t) g := by
  funext a d
  unfold Attn.kHead Attn.kT argK
  blk_simp [iblk]
  refine congrArg (m ((c : Thread nD τ).loc main_arg1)) ?_
  blk_ext [index1 t]
  all_goals simp only [tb, tr]
  all_goals omega
theorem head_v (c : Dev nD) (t : Fin cfg0.N) (g : Fin 8) : Attn.kHead (iblk m c 2 t) g = Attn.kT (argV m c) (tb t) (tr t) g := by
  funext a d
  unfold Attn.kHead Attn.kT argV
  blk_simp [iblk]
  refine congrArg (m ((c : Thread nD τ).loc main_arg2)) ?_
  blk_ext [index2 t]
  all_goals simp only [tb, tr]
  all_goals omega

/-! ## Along the grid -/

/-- Row `j` of the array of k codes and scales, and of v codes and scales, is batch `b`'s. -/
structure Row (b : Fin 8) (j : Fin 32) (f1 : Vec Ideal Attn.S32x8x128x64 .fp8e4m3) (f2 : Vec Ideal Attn.S32x512x128 .fp8e4m3)
    (f4 f5 : Vec Ideal Attn.S32x8x128 .f32) : Prop where
  kcodes : ∀ g a d, (f1 (ix4 j g a d) : EReal) = Attn.qcode (Attn.kT (argK m 0) b j g) a d
  kscale : ∀ g a, (f4 (ix3 j g a) : EReal) = Attn.rscale (Attn.amax (Attn.kT (argK m 0) b j g))
  vcodes : ∀ g a (d : Fin 64), (f2 (ix3 j ⟨64 * g.val + d.val, by omega⟩ a) : EReal) = Attn.qcode (Attn.kT (argV m 0) b j g) a d
  vscale : ∀ g a, (f5 (ix3 j g a) : EReal) = Attn.rscale (Attn.amax (Attn.kT (argV m 0) b j g)) * Ideal.ofBits .f32 0x3B800000#32

/-- What each output buffer holds after the body at point `t`. -/
def outAt : (k : Fin 19) → Fin cfg0.N → (Y X : Vec Ideal (Attn.sh k) (Attn.el k)) → Prop
  | 3, t, _, X => ∀ (h : Fin 32) (a : Fin 128) (d : Fin 64), (X (ix3 0 a ⟨64 * h.val + d.val, by omega⟩) : EReal) = (Attn.att (argQ m 0) (argK m 0) (argV m 0) (tb t) (tr t) h a d : EReal)
  | 4, t, _, X => ∀ (h : Fin 32) (a : Fin 128) (d : Fin 64), (X (ix3 0 a ⟨64 * h.val + d.val, by omega⟩) : EReal) = Attn.qcode (Attn.qT (argQ m 0) (tb t) (tr t) h) a d
  | 5, t, Y, X => ∀ j h : Fin 32, (X (ix3 0 j h) : EReal) = if j = tr t then Attn.rscale (Attn.amax (Attn.qT (argQ m 0) (tb t) (tr t) h)) else (Y (ix3 0 j h) : EReal)
  | 6, t, _, X => ∀ (g : Fin 8) (a : Fin 128) (d : Fin 64), (X (ix3 0 a ⟨64 * g.val + d.val, by omega⟩) : EReal) = Attn.qcode (Attn.kT (argK m 0) (tb t) (tr t) g) a d
  | 7, t, Y, X => ∀ (j : Fin 32) (g : Fin 8), (X (ix3 0 j g) : EReal) = if j = tr t then Attn.rscale (Attn.amax (Attn.kT (argK m 0) (tb t) (tr t) g)) else (Y (ix3 0 j g) : EReal)
  | 8, t, _, X => ∀ (g : Fin 8) (a : Fin 128) (d : Fin 64), (X (ix3 0 a ⟨64 * g.val + d.val, by omega⟩) : EReal) = Attn.qcode (Attn.kT (argV m 0) (tb t) (tr t) g) a d
  | 9, t, Y, X => ∀ (j : Fin 32) (g : Fin 8), (X (ix3 0 j g) : EReal) = if j = tr t then Attn.rscale (Attn.amax (Attn.kT (argV m 0) (tb t) (tr t) g)) else (Y (ix3 0 j g) : EReal)
  | _, _, _, _ => True

/-- The run: before point `n` the rows of the batch's earlier blocks are in place. -/
def rel : Rel Ideal where
  inv n f1 f2 f4 f5 := ∀ (b : Fin 8) (j : Fin 32), b.val = n / 32 → j.val < n % 32 → Row m b j f1 f2 f4 f5
  out := outAt m

theorem holds (fq : Attn.Fine (argQ m 0)) (fk : Attn.Fine (argK m 0)) (fv : Attn.Fine (argV m 0)) : Holds m (rel m) := by
  intro c t S h0 h1 h2 hI
  obtain rfl : c = 0 := Subsingleton.elim _ _
  have key := Attn.body_post (nD := nD) (τ := τ) (Λ := Λ₀) (bufs_whole t) consts_real (tr t) S
    (Attn.qT (argQ m 0) (tb t) (tr t)) (Attn.kT (argK m 0) (tb t)) (Attn.kT (argV m 0) (tb t))
    (fun h => fq.q _ _ h) (fun j g => fk.k _ j g) (fun j g => fv.k _ j g)
    (fun h => (congrArg (fun X => Attn.qHead X h) h0).trans (head_q m 0 t h))
    (fun g => (congrArg (fun X => Attn.kHead X g) h1).trans (head_k m 0 t g))
    (fun g => (congrArg (fun X => Attn.kHead X g) h2).trans (head_v m 0 t g))
    (fun j g hj => ⟨(hI (tb t) j rfl hj).kcodes g, (hI (tb t) j rfl hj).kscale g⟩)
    (fun j g hj => ⟨(hI (tb t) j rfl hj).vcodes g, (hI (tb t) j rfl hj).vscale g⟩)
  rw [← coord_tr] at key
  change Attn.Finished _ _ _ _ S (run t S) at key
  rw [coord_tr] at key
  refine ⟨run_inputs t S, fun b j hb hj => ?_, fun k h3 h10 => ?_⟩
  · have hj' : j.val < (tr t).val + 1 := by simp only [tr]; omega
    have eb : b = tb t := Fin.ext (by simp only [tb]; omega)
    subst eb
    exact ⟨fun g => (key.ready.k j g hj').codes, fun g => (key.ready.k j g hj').scale,
      fun g => (key.ready.v j g hj').codes, fun g => (key.ready.v j g hj').scale⟩
  · match k, h3, h10 with
    | 3, _, _ => exact key.y
    | 4, _, _ => exact fun h => (key.ready.q h).codes
    | 5, _, _ => exact key.qs
    | 6, _, _ => exact key.kout
    | 7, _, _ => exact key.ks
    | 8, _, _ => exact key.vout
    | 9, _, _ => exact key.vs
    | 0, h, _ | 1, h, _ | 2, h, _ => exact absurd h (by decide)
    | ⟨n + 10, _⟩, _, h => exact absurd h (by simp)

/-- A window of rows, one written at each point: after point `t` the rows of the batch so far. -/
theorem rows {w : Fin cfg0.W} (hf : ∀ t, (cfg0.win w).fetch t = false) (hl : ∀ t, (cfg0.win w).flush t = true ↔ t.val % 32 = 31)
    (P : Fin 8 → Fin 32 → ((cfg0.win w).block.Idx → Elt Ideal (cfg0.win w).elt) → Prop)
    (step : ∀ t Y X, (rdat m (rel m) 0).after w t Y X → P (tb t) (tr t) X ∧ ∀ j, j ≠ tr t → P (tb t) j Y → P (tb t) j X) :
    ∀ (n : ℕ) (hn : n < cfg0.N) X, (rdat m (rel m) 0).Leaves w ⟨n, hn⟩ X → ∀ j : Fin 32, j.val ≤ n % 32 → P (tb ⟨n, hn⟩) j X := by
  intro n
  induction n with
  | zero =>
    rintro hn X ⟨Y, -, hX⟩ j hj
    have : j = tr ⟨0, hn⟩ := Fin.ext (by simp only [tr]; omega)
    exact this ▸ (step _ Y X hX).1
  | succ n ih =>
    rintro hn X ⟨Y, hY, hX⟩ j hj
    by_cases e : j = tr ⟨n + 1, hn⟩
    · exact e ▸ (step _ Y X hX).1
    refine (step _ Y X hX).2 j e ?_
    have e' : j.val ≠ (n + 1) % 32 := fun h => e (Fin.ext h)
    rcases (RDat.finds_of_pos (rd := rdat m (rel m) 0) (hf _) (Nat.succ_ne_zero n) Y).1 hY with h | h
    · have h' : n % 32 = 31 := (hl _).1 h
      omega
    · have := ih (by omega) Y h j (by omega)
      have eb : tb ⟨n, by omega⟩ = tb ⟨n + 1, hn⟩ := Fin.ext (by simp only [tb]; omega)
      exact eb ▸ this

/-! ## The arrays at the end -/

theorem final3 (after : (w : Fin cfg0.W) → Fin cfg0.N → (cfg0.win w).block.Idx → Elt Ideal (cfg0.win w).elt)
    (h : ∀ t, (rdat m (rel m) 0).Leaves 3 t (after 3 t)) :
    ((rdat m (rel m) 0).withAfter after).arrAt 3 cfg0.N = Attn.yOut (argQ m 0) (argK m 0) (argV m 0) := by
  refine Pipeline.Dat.arrAt_eq_of_covers _ 3 _ (by decide +kernel) fun t _ y => ?_
  obtain ⟨Y, -, hX⟩ := h t
  have hX' : outAt m 3 t Y (after 3 t) := hX
  obtain ⟨h, a, d, rfl⟩ := Attn.split_y y
  have e : (win0_3.blk t).view.emb (ix3 (0 : Fin 1) a ⟨64 * h.val + d.val, by omega⟩) = ix3 (tb t) ⟨128 * (tr t).val + a.val, by omega⟩ ⟨64 * h.val + d.val, by omega⟩ := by
    blk_ext [index3 t]
    all_goals simp only [tb, tr]
    all_goals omega
  blk_simp
  exact (hX' h a d).trans ((Attn.yOut_at (argQ m 0) (argK m 0) (argV m 0) (tb t) (tr t) h a d).symm.trans (congrArg (Attn.yOut (argQ m 0) (argK m 0) (argV m 0)) e.symm))

theorem final4 (after : (w : Fin cfg0.W) → Fin cfg0.N → (cfg0.win w).block.Idx → Elt Ideal (cfg0.win w).elt)
    (h : ∀ t, (rdat m (rel m) 0).Leaves 4 t (after 4 t)) :
    ((rdat m (rel m) 0).withAfter after).arrAt 4 cfg0.N = Attn.qOut (argQ m 0) := by
  refine Pipeline.Dat.arrAt_eq_of_covers _ 4 _ (by decide +kernel) fun t _ y => ?_
  obtain ⟨Y, -, hX⟩ := h t
  have hX' : outAt m 4 t Y (after 4 t) := hX
  obtain ⟨h, a, d, rfl⟩ := Attn.split_y y
  have e : (win0_4.blk t).view.emb (ix3 (0 : Fin 1) a ⟨64 * h.val + d.val, by omega⟩) = ix3 (tb t) ⟨128 * (tr t).val + a.val, by omega⟩ ⟨64 * h.val + d.val, by omega⟩ := by
    blk_ext [index4 t]
    all_goals simp only [tb, tr]
    all_goals omega
  blk_simp
  exact (hX' h a d).trans ((Attn.qOut_at (argQ m 0) (tb t) (tr t) h a d).symm.trans (congrArg (Attn.qOut (argQ m 0)) e.symm))

theorem final5 (after : (w : Fin cfg0.W) → Fin cfg0.N → (cfg0.win w).block.Idx → Elt Ideal (cfg0.win w).elt)
    (h : ∀ t, (cfg0.win 5).flush t = true → (rdat m (rel m) 0).Leaves 5 t (after 5 t)) :
    ((rdat m (rel m) 0).withAfter after).arrAt 5 cfg0.N = Attn.qScaleOut (argQ m 0) := by
  refine Pipeline.Dat.arrAt_eq_of_covers _ 5 _ (by decide +kernel) fun t ht y => ?_
  have h31 : t.val % 32 = 31 := (flush0_5 t).1 ht
  obtain ⟨j, g, rfl⟩ : ∃ (j : Fin 32) (g : Fin 32), y = ix3 (0 : Fin 1) j g := ⟨y 1, y 2, by
    funext a; match a with
    | 0 => exact Subsingleton.elim (α := Fin 1) _ _
    | 1 => rfl
    | 2 => rfl⟩
  have hX := rows m (w := 5) (by decide +kernel) flush0_5
    (fun b j X => ∀ g : Fin 32, (X (ix3 0 j g) : EReal) = Attn.qScaleOut (argQ m 0) (ix3 b j g))
    (fun t Y X hX => ⟨fun g => ((show outAt m 5 t Y X from hX) (tr t) g).trans (if_pos rfl),
      fun j hj hY g => (((show outAt m 5 t Y X from hX) j g).trans (if_neg hj)).trans (hY g)⟩) t.val t.isLt _ (h t ht) j (by omega) g
  have e : (win0_5.blk t).view.emb (ix3 (0 : Fin 1) j g) = ix3 (tb t) j g := by
    blk_ext [index5 t]
    all_goals simp only [tb]
    all_goals omega
  blk_simp
  exact hX.trans (congrArg (Attn.qScaleOut (argQ m 0)) e.symm)

theorem final6 (after : (w : Fin cfg0.W) → Fin cfg0.N → (cfg0.win w).block.Idx → Elt Ideal (cfg0.win w).elt)
    (h : ∀ t, (rdat m (rel m) 0).Leaves 6 t (after 6 t)) :
    ((rdat m (rel m) 0).withAfter after).arrAt 6 cfg0.N = Attn.kOut (argK m 0) := by
  refine Pipeline.Dat.arrAt_eq_of_covers _ 6 _ (by decide +kernel) fun t _ y => ?_
  obtain ⟨Y, -, hX⟩ := h t
  have hX' : outAt m 6 t Y (after 6 t) := hX
  obtain ⟨h, a, d, rfl⟩ := Attn.split_z y
  have e : (win0_6.blk t).view.emb (ix3 (0 : Fin 1) a ⟨64 * h.val + d.val, by omega⟩) = ix3 (tb t) ⟨128 * (tr t).val + a.val, by omega⟩ ⟨64 * h.val + d.val, by omega⟩ := by
    blk_ext [index6 t]
    all_goals simp only [tb, tr]
    all_goals omega
  blk_simp
  exact (hX' h a d).trans ((Attn.kOut_at (argK m 0) (tb t) (tr t) h a d).symm.trans (congrArg (Attn.kOut (argK m 0)) e.symm))

theorem final7 (after : (w : Fin cfg0.W) → Fin cfg0.N → (cfg0.win w).block.Idx → Elt Ideal (cfg0.win w).elt)
    (h : ∀ t, (cfg0.win 7).flush t = true → (rdat m (rel m) 0).Leaves 7 t (after 7 t)) :
    ((rdat m (rel m) 0).withAfter after).arrAt 7 cfg0.N = Attn.kScaleOut (argK m 0) := by
  refine Pipeline.Dat.arrAt_eq_of_covers _ 7 _ (by decide +kernel) fun t ht y => ?_
  have h31 : t.val % 32 = 31 := (flush0_7 t).1 ht
  obtain ⟨j, g, rfl⟩ : ∃ (j : Fin 32) (g : Fin 8), y = ix3 (0 : Fin 1) j g := ⟨y 1, y 2, by
    funext a; match a with
    | 0 => exact Subsingleton.elim (α := Fin 1) _ _
    | 1 => rfl
    | 2 => rfl⟩
  have hX := rows m (w := 7) (by decide +kernel) flush0_7
    (fun b j X => ∀ g : Fin 8, (X (ix3 0 j g) : EReal) = Attn.kScaleOut (argK m 0) (ix3 b j g))
    (fun t Y X hX => ⟨fun g => ((show outAt m 7 t Y X from hX) (tr t) g).trans (if_pos rfl),
      fun j hj hY g => (((show outAt m 7 t Y X from hX) j g).trans (if_neg hj)).trans (hY g)⟩) t.val t.isLt _ (h t ht) j (by omega) g
  have e : (win0_7.blk t).view.emb (ix3 (0 : Fin 1) j g) = ix3 (tb t) j g := by
    blk_ext [index7 t]
    all_goals simp only [tb]
    all_goals omega
  blk_simp
  exact hX.trans (congrArg (Attn.kScaleOut (argK m 0)) e.symm)

theorem final8 (after : (w : Fin cfg0.W) → Fin cfg0.N → (cfg0.win w).block.Idx → Elt Ideal (cfg0.win w).elt)
    (h : ∀ t, (rdat m (rel m) 0).Leaves 8 t (after 8 t)) :
    ((rdat m (rel m) 0).withAfter after).arrAt 8 cfg0.N = Attn.kOut (argV m 0) := by
  refine Pipeline.Dat.arrAt_eq_of_covers _ 8 _ (by decide +kernel) fun t _ y => ?_
  obtain ⟨Y, -, hX⟩ := h t
  have hX' : outAt m 8 t Y (after 8 t) := hX
  obtain ⟨h, a, d, rfl⟩ := Attn.split_z y
  have e : (win0_8.blk t).view.emb (ix3 (0 : Fin 1) a ⟨64 * h.val + d.val, by omega⟩) = ix3 (tb t) ⟨128 * (tr t).val + a.val, by omega⟩ ⟨64 * h.val + d.val, by omega⟩ := by
    blk_ext [index8 t]
    all_goals simp only [tb, tr]
    all_goals omega
  blk_simp
  exact (hX' h a d).trans ((Attn.kOut_at (argV m 0) (tb t) (tr t) h a d).symm.trans (congrArg (Attn.kOut (argV m 0)) e.symm))

theorem final9 (after : (w : Fin cfg0.W) → Fin cfg0.N → (cfg0.win w).block.Idx → Elt Ideal (cfg0.win w).elt)
    (h : ∀ t, (cfg0.win 9).flush t = true → (rdat m (rel m) 0).Leaves 9 t (after 9 t)) :
    ((rdat m (rel m) 0).withAfter after).arrAt 9 cfg0.N = Attn.kScaleOut (argV m 0) := by
  refine Pipeline.Dat.arrAt_eq_of_covers _ 9 _ (by decide +kernel) fun t ht y => ?_
  have h31 : t.val % 32 = 31 := (flush0_9 t).1 ht
  obtain ⟨j, g, rfl⟩ : ∃ (j : Fin 32) (g : Fin 8), y = ix3 (0 : Fin 1) j g := ⟨y 1, y 2, by
    funext a; match a with
    | 0 => exact Subsingleton.elim (α := Fin 1) _ _
    | 1 => rfl
    | 2 => rfl⟩
  have hX := rows m (w := 9) (by decide +kernel) flush0_9
    (fun b j X => ∀ g : Fin 8, (X (ix3 0 j g) : EReal) = Attn.kScaleOut (argV m 0) (ix3 b j g))
    (fun t Y X hX => ⟨fun g => ((show outAt m 9 t Y X from hX) (tr t) g).trans (if_pos rfl),
      fun j hj hY g => (((show outAt m 9 t Y X from hX) j g).trans (if_neg hj)).trans (hY g)⟩) t.val t.isLt _ (h t ht) j (by omega) g
  have e : (win0_9.blk t).view.emb (ix3 (0 : Fin 1) j g) = ix3 (tb t) j g := by
    blk_ext [index9 t]
    all_goals simp only [tb]
    all_goals omega
  blk_simp
  exact hX.trans (congrArg (Attn.kScaleOut (argV m 0)) e.symm)

/-- Every run of the kernel's ideal form from finite arguments ends with the seven arrays as specified, the arguments
    unchanged and nothing signalled. -/
theorem finals (fq : Attn.Fine (argQ m 0)) (fk : Attn.Fine (argK m 0)) (fv : Attn.Fine (argV m 0)) :
    θ_run defs (onTc (τ := τ) (main (F := Ideal))) (s₀ m ρ) (fun r =>
      (r.2.mem (((0 : Dev nD) : Thread nD τ).loc main_v0_0) = Attn.yOut (argQ m 0) (argK m 0) (argV m 0)
      ∧ r.2.mem (((0 : Dev nD) : Thread nD τ).loc main_v0_1) = Attn.qOut (argQ m 0)
      ∧ r.2.mem (((0 : Dev nD) : Thread nD τ).loc main_v0_2) = Attn.qScaleOut (argQ m 0)
      ∧ r.2.mem (((0 : Dev nD) : Thread nD τ).loc main_v0_3) = Attn.kOut (argK m 0)
      ∧ r.2.mem (((0 : Dev nD) : Thread nD τ).loc main_v0_4) = Attn.kScaleOut (argK m 0)
      ∧ r.2.mem (((0 : Dev nD) : Thread nD τ).loc main_v0_5) = Attn.kOut (argV m 0)
      ∧ r.2.mem (((0 : Dev nD) : Thread nD τ).loc main_v0_6) = Attn.kScaleOut (argV m 0))
      ∧ (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) := by
  refine (θ_run defs _ _).mono (fun r h => ?_) (run_rel m ρ (rel m) (holds m fq fk fv) (fun _ _ _ _ b j _ hj => absurd hj (by simp)))
  obtain ⟨after, hL, hA⟩ := RDat.FramePost.exists_exact h.1 0
  exact ⟨⟨(hA 3).trans (final3 m after fun t => hL 3 t (flush0_3 t)), (hA 4).trans (final4 m after fun t => hL 4 t (flush0_4 t)),
    (hA 5).trans (final5 m after (hL 5)), (hA 6).trans (final6 m after fun t => hL 6 t (flush0_6 t)),
    (hA 7).trans (final7 m after (hL 7)), (hA 8).trans (final8 m after fun t => hL 8 t (flush0_8 t)),
    (hA 9).trans (final9 m after (hL 9))⟩,
    fun c => ⟨h.1.arr_in c 0 rfl, h.1.arr_in c 1 rfl, h.1.arr_in c 2 rfl⟩, h.2⟩

end Cert.KernelIdeal.Gen

end
-- ==== Proof.Dense.lean ====
/-
  The attention output over all the keys at once, from the sums block by block.
-/
module

public import proofs.«01_k».proof.Proof.Spec

@[expose] public section

noncomputable section

namespace Attn

open Idealize.ShloMosaic Idealize.ShloMosaic.TcCoe

/-- The block of a row, and its place in it. -/
def blk (t : Fin 4096) : Fin 32 := ⟨t.val / 128, by omega⟩
def off (t : Fin 4096) : Fin 128 := ⟨t.val % 128, by omega⟩
/-- The row of a block's place. -/
def at' (j : Fin 32) (κ : Fin 128) : Fin 4096 := ⟨128 * j.val + κ.val, by omega⟩
theorem blk_at (j : Fin 32) (κ : Fin 128) : blk (at' j κ) = j := Fin.ext (by simp only [blk, at']; omega)
theorem off_at (j : Fin 32) (κ : Fin 128) : off (at' j κ) = κ := Fin.ext (by simp only [off, at']; omega)

/-- A sum over all rows, block by block. -/
theorem sum_flat (f : Fin 4096 → ℝ) : ∑ t, f t = ∑ j : Fin 32, ∑ κ : Fin 128, f (at' j κ) := by
  rw [← Fintype.sum_prod_type', ← (finProdFinEquiv : Fin 32 × Fin 128 ≃ Fin 4096).sum_comp]
  refine Finset.sum_congr rfl fun p _ => congrArg f (Fin.ext ?_)
  show p.2.val + 128 * p.1.val = 128 * p.1.val + p.2.val
  omega

variable (r : Fin 32) (qt : Fin 32 → Fin 128 → Fin 64 → EReal) (kt vt : Fin 32 → Fin 8 → Fin 128 → Fin 64 → EReal)

/-- The capped score of row `t`, and the value there with its scale. -/
def τF (h : Fin 32) (c : Fin 128) (t : Fin 4096) : ℝ := logitR (qt h) (kt (blk t) (grp h)) c (off t)
def vF (h : Fin 32) (e : Fin 64) (t : Fin 4096) : ℝ := vR (vt (blk t) (grp h)) (off t) e
def σF (h : Fin 32) (t : Fin 4096) : ℝ := σR (vt (blk t) (grp h))
/-- The rows a query sees. -/
def Before (s t : Fin 4096) : Prop := t.val ≤ s.val
instance (s : Fin 4096) : DecidablePred (Before s) := fun t => inferInstanceAs (Decidable (t.val ≤ s.val))

theorem wgt_at (h : Fin 32) (c : Fin 128) (j : Fin 32) (κ : Fin 128) :
    wgt (τF qt kt h c) (Before (at' r c)) (at' j κ) = kw r qt kt h c j κ := by
  unfold kw wgt τF
  rw [blk_at, off_at]
  exact if_congr Iff.rfl rfl rfl

/-- The output as one quotient of sums over the rows. -/
theorem soft_flat (h : Fin 32) (c : Fin 128) (e : Fin 64) :
    (∑ t, wgt (τF qt kt h c) (Before (at' r c)) t * (vF vt h e t * σF vt h t)) / ∑ t, wgt (τF qt kt h c) (Before (at' r c)) t
      = soft r qt kt vt h c e := by
  unfold soft
  rw [sum_flat, sum_flat]
  simp only [wgt_at, vF, σF, blk_at, off_at]

/-- The output from the masked scores, the codes and the scales. -/
theorem soft_dense (tv : ∀ j g, Tame (vt j g)) (h : Fin 32) (c : Fin 128) (e : Fin 64) (x : Fin 4096 → EReal)
    (hx : x = hide50 (τF qt kt h c) (Before (at' r c))) :
    Ideal.div (∑ t, min (Ideal.ofBits .f32 0x43E00000#32) (max (Ideal.ofBits .f32 0xC3E00000#32)
        (Ideal.exp (x t - Finset.univ.sup x) * Ideal.ofBits .f32 0x43800000#32)) * Ideal.ofBits .f32 0x3B800000#32
        * (qcode (vt (blk t) (grp h)) (off t) e * rscale (amax (vt (blk t) (grp h)))))
      (∑ t, Ideal.exp (x t - Finset.univ.sup x)) = (soft r qt kt vt h c e : EReal) := by
  subst hx
  rw [← soft_flat r qt kt vt h c e, ← dense (τF qt kt h c) (Before (at' r c)) ⟨at' r c, le_refl (at' r c).val⟩ (vF vt h e) (σF vt h)]
  refine congrArg (fun z => Ideal.div z _) (Finset.sum_congr rfl fun t _ => ?_)
  rw [vR_eq (tv _ _), σR_eq]; rfl

/-- Signed comparison of two row numbers. -/
theorem sge_rows (s t : Fin 4096) : IntOp.cmpi .sge (BitVec.ofNat 32 s.val) (BitVec.ofNat 32 t.val) = if Before s t then 1#1 else 0#1 := by
  have key : ∀ n : Nat, n < 4096 → (BitVec.ofNat 32 n).toInt = (n : ℤ) := fun n hn => by
    rw [BitVec.toInt_ofNat']; simp only [Int.bmod]; split <;> omega
  simp only [IntOp.cmpi, BitVec.sle, key _ s.isLt, key _ t.isLt]
  by_cases h : Before s t
  · have h' : (t.val : ℤ) ≤ s.val := Int.ofNat_le.2 h
    simp [h, h']
  · have h' : ¬ (t.val : ℤ) ≤ s.val := fun e => h (Int.ofNat_le.1 e)
    simp [h, h']

/-- A masked score. -/
theorem shown_eq (h : Fin 32) (c : Fin 128) (t : Fin 4096) (x : EReal)
    (hx : x = Ideal.ofBits .f32 0x42480000#32 * logit (qt h) (kt (blk t) (grp h)) c (off t)) :
    Scalar.select (IntOp.cmpi .sge (BitVec.ofNat 32 (at' r c).val) (BitVec.ofNat 32 t.val)) x ⊥ = hide50 (τF qt kt h c) (Before (at' r c)) t := by
  rw [sge_rows, hx, logit_eq, bits_50, ← EReal.coe_mul]
  unfold hide50 Scalar.select
  by_cases h' : Before (at' r c) t
  · rw [if_pos h', if_pos h']; rfl
  · rw [if_neg h', if_neg h']; rfl

/-- The reference's order of the factors. -/
theorem logit_order (qt kt : Fin 128 → Fin 64 → EReal) (c κ : Fin 128) :
    Ideal.tanh ((∑ x : Fin 64, qcode kt κ x * qcode qt c x)
      * (rscale (amax qt) * rscale (amax kt) * Ideal.ofBits .f32 0x3E000000#32) * Ideal.ofBits .f32 0x3CA3D70A#32) = logit qt kt c κ := by
  unfold logit
  rw [mul_assoc _ _ (Ideal.ofBits .f32 0x3CA3D70A#32), mul_right_comm (rscale (amax qt))]

end Attn

end
-- ==== Proof.RefQuant.lean ====
/-
  What the reference computes, read element by element: its host operations are cut into short
  lines, each line's results read at an index over any contents before it.
-/
module

public import proofs.«01_k».proof.Proof.Gen.ReferenceIdeal.Frame
public import proofs.«01_k».proof.Proof.Scale
public import Idealize.ShloMosaic.Lib.StableHlo.ReadAt

@[expose] public section

set_option maxRecDepth 16384

noncomputable section

open Idealize.ShloMosaic Idealize.ShloMosaic.TcCoe Idealize.SL Idealize.SL.Sem

namespace Cert.ReferenceIdeal.Gen

/-- One operation line and then another. -/
theorem after_app {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l₁ ih => exact ih _

/-- A supremum written as a fold. -/
theorem fold_sup {α : Type} (f : α → EReal) (s : Finset α) : Finset.fold max (Ideal.ofBits .f32 0xFF800000#32) f s = s.sup f := by
  rw [Attn.bits_bot]; rfl

variable (W : Valuation τ sig (Elt Ideal))

/-! ## The lines -/

abbrev lineQ₁ : List (HloOp τ sig (Elt Ideal)) := hostOps0.take 5
abbrev lineQ₂ : List (HloOp τ sig (Elt Ideal)) := (hostOps0.drop 5).take 19
abbrev lineQ₃ : List (HloOp τ sig (Elt Ideal)) := hostOps0.drop 24 ++ hostOps0_1
abbrev lineQ₄ : List (HloOp τ sig (Elt Ideal)) := hostOps0_2 ++ hostOps0_3
abbrev lineK₁ : List (HloOp τ sig (Elt Ideal)) := hostOps0_4.take 6
abbrev lineK₂ : List (HloOp τ sig (Elt Ideal)) := (hostOps0_4.drop 6).take 19
abbrev lineK₃ : List (HloOp τ sig (Elt Ideal)) := hostOps0_4.drop 25 ++ hostOps0_5
abbrev lineK₄ : List (HloOp τ sig (Elt Ideal)) := hostOps0_6 ++ hostOps0_7
abbrev lineV₁ : List (HloOp τ sig (Elt Ideal)) := hostOps0_8.take 6
abbrev lineV₂ : List (HloOp τ sig (Elt Ideal)) := (hostOps0_8.drop 6).take 19
abbrev lineV₃ : List (HloOp τ sig (Elt Ideal)) := hostOps0_8.drop 25 ++ hostOps0_9
abbrev lineV₄ : List (HloOp τ sig (Elt Ideal)) := hostOps0_10 ++ hostOps0_11
abbrev lineS : List (HloOp τ sig (Elt Ideal)) := hostOps0_12
abbrev lineP : List (HloOp τ sig (Elt Ideal)) := hostOps0_13 ++ (hostOps0_14 ++ hostOps0_15)
abbrev lineY : List (HloOp τ sig (Elt Ideal)) := hostOps0_16

/-! ## Quantising q -/

/-- A block's values of one head. -/
abbrev qTile (b : Fin 8) (r : Fin 32) (h : Fin 32) : Fin 128 → Fin 64 → EReal := fun a d =>
  W main_arg0 (ix3 b ⟨r.val * 128 + a.val, by omega⟩ ⟨h.val * 64 + d.val, by omega⟩)
/-- The same values, cut into blocks and heads. -/
abbrev qCut (b : Fin 8) (r : Fin 32) (a : Fin 128) (h : Fin 32) (d : Fin 64) : EReal := W main_v1 (ix5 b r a h d)

theorem q_in (b : Fin 8) (r : Fin 32) (a : Fin 128) (h : Fin 32) (d : Fin 64) :
    (StableHlo.after lineQ₁ W main_v1 (ix5 b r a h d) : EReal) = qTile W b r h a d := by
  simp only [lineQ₁, hostOps0, List.take_succ_cons, List.take_zero, List.drop_succ_cons, List.drop_zero]
  after_reads_at

theorem q_max (b : Fin 8) (r : Fin 32) (h : Fin 32) :
    (StableHlo.after lineQ₁ W main_v3 (ix3 b r h) : EReal)
      = Attn.amax fun a d => qTile W b r h a d := by
  simp only [lineQ₁, hostOps0, List.take_succ_cons, List.take_zero, List.drop_succ_cons, List.drop_zero]
  after_reads_at
  rw [fold_sup]
  refine le_antisymm (Finset.sup_le fun i hi => ?_) (Finset.sup_le fun p _ => ?_)
  · obtain ⟨b', r', a, h', d, rfl⟩ : ∃ (b' : Fin 8) (r' : Fin 32) (a : Fin 128) (h' : Fin 32) (d : Fin 64), i = ix5 b' r' a h' d := ⟨i 0, i 1, i 2, i 3, i 4, eq_ix5 i⟩
    have e : reducesTo_S8x32x128x32x64_S8x32x32_d2_4.drop (ix5 b' r' a h' d) = ix3 b r h := (Finset.mem_filter.1 hi).2
    have e0 : b' = b := congrFun e 0
    have e1 : r' = r := congrFun e 1
    have e2 : h' = h := congrFun e 2
    subst e0 e1 e2
    exact Finset.le_sup (f := fun p : Fin 128 × Fin 64 => max (qTile W b' r' h' p.1 p.2) (-(qTile W b' r' h' p.1 p.2))) (Finset.mem_univ (a, d))
  · refine le_trans ?_ (Finset.le_sup (b := ix5 b r p.1 h p.2) (Finset.mem_filter.2 ⟨Finset.mem_univ _, ?_⟩))
    · exact le_rfl
    · funext x; fin_cases x <;> rfl

theorem q_count (b : Fin 8) (r : Fin 32) (h : Fin 32) :
    (StableHlo.after lineQ₂ W main_v18 (ix3 b r h) : BitVec 32) = Attn.count (W main_v3 (ix3 b r h)) := by
  simp only [lineQ₂, hostOps0, List.take_succ_cons, List.take_zero, List.drop_succ_cons, List.drop_zero]
  after_reads_at
  rfl

theorem q_exp (b : Fin 8) (r : Fin 32) (h : Fin 32) :
    (StableHlo.after lineQ₃ W main_v23 (ix3 b r h) : BitVec 32) = Attn.expOf (W main_v18 (ix3 b r h)) := by
  simp only [lineQ₃, hostOps0, List.take_succ_cons, List.take_zero, List.drop_succ_cons, List.drop_zero]
  after_reads_at
  rfl

theorem q_scale (b : Fin 8) (r : Fin 32) (h : Fin 32) :
    (StableHlo.after lineQ₄ W main_v26 (ix3 b r h) : EReal)
      = Ideal.pow (Ideal.ofBits .f32 0x40000000#32) (FloatOps.sitofp (F := Ideal) .f32 (W main_v23 (ix3 b r h) : BitVec 32)) := by
  after_reads_at

theorem q_clip (b : Fin 8) (r : Fin 32) (a : Fin 128) (h : Fin 32) (d : Fin 64) :
    (StableHlo.after lineQ₄ W main_v33 (ix5 b r a h d) : EReal)
      = min (Ideal.ofBits .f32 0x43E00000#32) (max (Ideal.ofBits .f32 0xC3E00000#32) (qCut W b r a h d
        * Ideal.pow (Ideal.ofBits .f32 0x40000000#32) (-(FloatOps.sitofp (F := Ideal) .f32 (W main_v23 (ix3 b r h) : BitVec 32))))) := by
  after_reads_at
  rfl

theorem q_keep : StableHlo.after (lineQ₂ ++ lineQ₃) W main_v1 = W main_v1 := by
  simp only [lineQ₂, lineQ₃, hostOps0, List.take_succ_cons, List.take_zero, List.drop_succ_cons, List.drop_zero]
  after_reads_simp

/-- The four lines together: the scales. -/
theorem q_scales (b : Fin 8) (r : Fin 32) (h : Fin 32) :
    (StableHlo.after lineQ₄ (StableHlo.after lineQ₃ (StableHlo.after lineQ₂ (StableHlo.after lineQ₁ W))) main_v26 (ix3 b r h) : EReal)
      = Attn.rscale (Attn.amax (qTile W b r h)) := by
  rw [q_scale, q_exp, q_count, q_max]; rfl

/-- The four lines together: the codes. -/
theorem q_codes (b : Fin 8) (r : Fin 32) (a : Fin 128) (h : Fin 32) (d : Fin 64) :
    (StableHlo.after lineQ₄ (StableHlo.after lineQ₃ (StableHlo.after lineQ₂ (StableHlo.after lineQ₁ W))) main_v33 (ix5 b r a h d) : EReal)
      = Attn.qcode (qTile W b r h) a d := by
  rw [q_clip, q_exp, q_count, q_max]
  unfold qCut
  rw [← after_app, q_keep, q_in]; rfl

/-! ## Quantising k -/

/-- A block's values of one head. -/
abbrev kTile (b : Fin 8) (r : Fin 32) (h : Fin 8) : Fin 128 → Fin 64 → EReal := fun a d =>
  W main_arg1 (ix3 b ⟨r.val * 128 + a.val, by omega⟩ ⟨h.val * 64 + d.val, by omega⟩)
/-- The same values, cut into blocks and heads. -/
abbrev kCut (b : Fin 8) (r : Fin 32) (a : Fin 128) (h : Fin 8) (d : Fin 64) : EReal := W main_v36 (ix5 b r a h d)

theorem k_in (b : Fin 8) (r : Fin 32) (a : Fin 128) (h : Fin 8) (d : Fin 64) :
    (StableHlo.after lineK₁ W main_v36 (ix5 b r a h d) : EReal) = kTile W b r h a d := by
  simp only [lineK₁, hostOps0_4, List.take_succ_cons, List.take_zero, List.drop_succ_cons, List.drop_zero]
  after_reads_at

theorem k_max (b : Fin 8) (r : Fin 32) (h : Fin 8) :
    (StableHlo.after lineK₁ W main_v38 (ix3 b r h) : EReal)
      = Attn.amax fun a d => kTile W b r h a d := by
  simp only [lineK₁, hostOps0_4, List.take_succ_cons, List.take_zero, List.drop_succ_cons, List.drop_zero]
  after_reads_at
  rw [fold_sup]
  refine le_antisymm (Finset.sup_le fun i hi => ?_) (Finset.sup_le fun p _ => ?_)
  · obtain ⟨b', r', a, h', d, rfl⟩ : ∃ (b' : Fin 8) (r' : Fin 32) (a : Fin 128) (h' : Fin 8) (d : Fin 64), i = ix5 b' r' a h' d := ⟨i 0, i 1, i 2, i 3, i 4, eq_ix5 i⟩
    have e : reducesTo_S8x32x128x8x64_S8x32x8_d2_4.drop (ix5 b' r' a h' d) = ix3 b r h := (Finset.mem_filter.1 hi).2
    have e0 : b' = b := congrFun e 0
    have e1 : r' = r := congrFun e 1
    have e2 : h' = h := congrFun e 2
    subst e0 e1 e2
    exact Finset.le_sup (f := fun p : Fin 128 × Fin 64 => max (kTile W b' r' h' p.1 p.2) (-(kTile W b' r' h' p.1 p.2))) (Finset.mem_univ (a, d))
  · refine le_trans ?_ (Finset.le_sup (b := ix5 b r p.1 h p.2) (Finset.mem_filter.2 ⟨Finset.mem_univ _, ?_⟩))
    · exact le_rfl
    · funext x; fin_cases x <;> rfl

theorem k_count (b : Fin 8) (r : Fin 32) (h : Fin 8) :
    (StableHlo.after lineK₂ W main_v53 (ix3 b r h) : BitVec 32) = Attn.count (W main_v38 (ix3 b r h)) := by
  simp only [lineK₂, hostOps0_4, List.take_succ_cons, List.take_zero, List.drop_succ_cons, List.drop_zero]
  after_reads_at
  rfl

theorem k_exp (b : Fin 8) (r : Fin 32) (h : Fin 8) :
    (StableHlo.after lineK₃ W main_v58 (ix3 b r h) : BitVec 32) = Attn.expOf (W main_v53 (ix3 b r h)) := by
  simp only [lineK₃, hostOps0_4, List.take_succ_cons, List.take_zero, List.drop_succ_cons, List.drop_zero]
  after_reads_at
  rfl

theorem k_scale (b : Fin 8) (r : Fin 32) (h : Fin 8) :
    (StableHlo.after lineK₄ W main_v61 (ix3 b r h) : EReal)
      = Ideal.pow (Ideal.ofBits .f32 0x40000000#32) (FloatOps.sitofp (F := Ideal) .f32 (W main_v58 (ix3 b r h) : BitVec 32)) := by
  after_reads_at

theorem k_clip (b : Fin 8) (r : Fin 32) (a : Fin 128) (h : Fin 8) (d : Fin 64) :
    (StableHlo.after lineK₄ W main_v68 (ix5 b r a h d) : EReal)
      = min (Ideal.ofBits .f32 0x43E00000#32) (max (Ideal.ofBits .f32 0xC3E00000#32) (kCut W b r a h d
        * Ideal.pow (Ideal.ofBits .f32 0x40000000#32) (-(FloatOps.sitofp (F := Ideal) .f32 (W main_v58 (ix3 b r h) : BitVec 32))))) := by
  after_reads_at
  rfl

theorem k_keep : StableHlo.after (lineK₂ ++ lineK₃) W main_v36 = W main_v36 := by
  simp only [lineK₂, lineK₃, hostOps0_4, List.take_succ_cons, List.take_zero, List.drop_succ_cons, List.drop_zero]
  after_reads_simp

/-- The four lines together: the scales. -/
theorem k_scales (b : Fin 8) (r : Fin 32) (h : Fin 8) :
    (StableHlo.after lineK₄ (StableHlo.after lineK₃ (StableHlo.after lineK₂ (StableHlo.after lineK₁ W))) main_v61 (ix3 b r h) : EReal)
      = Attn.rscale (Attn.amax (kTile W b r h)) := by
  rw [k_scale, k_exp, k_count, k_max]; rfl

/-- The four lines together: the codes. -/
theorem k_codes (b : Fin 8) (r : Fin 32) (a : Fin 128) (h : Fin 8) (d : Fin 64) :
    (StableHlo.after lineK₄ (StableHlo.after lineK₃ (StableHlo.after lineK₂ (StableHlo.after lineK₁ W))) main_v68 (ix5 b r a h d) : EReal)
      = Attn.qcode (kTile W b r h) a d := by
  rw [k_clip, k_exp, k_count, k_max]
  unfold kCut
  rw [← after_app, k_keep, k_in]; rfl

/-! ## Quantising v -/

/-- A block's values of one head. -/
abbrev vTile (b : Fin 8) (r : Fin 32) (h : Fin 8) : Fin 128 → Fin 64 → EReal := fun a d =>
  W main_arg2 (ix3 b ⟨r.val * 128 + a.val, by omega⟩ ⟨h.val * 64 + d.val, by omega⟩)
/-- The same values, cut into blocks and heads. -/
abbrev vCut (b : Fin 8) (r : Fin 32) (a : Fin 128) (h : Fin 8) (d : Fin 64) : EReal := W main_v71 (ix5 b r a h d)

theorem v_in (b : Fin 8) (r : Fin 32) (a : Fin 128) (h : Fin 8) (d : Fin 64) :
    (StableHlo.after lineV₁ W main_v71 (ix5 b r a h d) : EReal) = vTile W b r h a d := by
  simp only [lineV₁, hostOps0_8, List.take_succ_cons, List.take_zero, List.drop_succ_cons, List.drop_zero]
  after_reads_at

theorem v_max (b : Fin 8) (r : Fin 32) (h : Fin 8) :
    (StableHlo.after lineV₁ W main_v73 (ix3 b r h) : EReal)
      = Attn.amax fun a d => vTile W b r h a d := by
  simp only [lineV₁, hostOps0_8, List.take_succ_cons, List.take_zero, List.drop_succ_cons, List.drop_zero]
  after_reads_at
  rw [fold_sup]
  refine le_antisymm (Finset.sup_le fun i hi => ?_) (Finset.sup_le fun p _ => ?_)
  · obtain ⟨b', r', a, h', d, rfl⟩ : ∃ (b' : Fin 8) (r' : Fin 32) (a : Fin 128) (h' : Fin 8) (d : Fin 64), i = ix5 b' r' a h' d := ⟨i 0, i 1, i 2, i 3, i 4, eq_ix5 i⟩
    have e : reducesTo_S8x32x128x8x64_S8x32x8_d2_4.drop (ix5 b' r' a h' d) = ix3 b r h := (Finset.mem_filter.1 hi).2
    have e0 : b' = b := congrFun e 0
    have e1 : r' = r := congrFun e 1
    have e2 : h' = h := congrFun e 2
    subst e0 e1 e2
    exact Finset.le_sup (f := fun p : Fin 128 × Fin 64 => max (vTile W b' r' h' p.1 p.2) (-(vTile W b' r' h' p.1 p.2))) (Finset.mem_univ (a, d))
  · refine le_trans ?_ (Finset.le_sup (b := ix5 b r p.1 h p.2) (Finset.mem_filter.2 ⟨Finset.mem_univ _, ?_⟩))
    · exact le_rfl
    · funext x; fin_cases x <;> rfl

theorem v_count (b : Fin 8) (r : Fin 32) (h : Fin 8) :
    (StableHlo.after lineV₂ W main_v88 (ix3 b r h) : BitVec 32) = Attn.count (W main_v73 (ix3 b r h)) := by
  simp only [lineV₂, hostOps0_8, List.take_succ_cons, List.take_zero, List.drop_succ_cons, List.drop_zero]
  after_reads_at
  rfl

theorem v_exp (b : Fin 8) (r : Fin 32) (h : Fin 8) :
    (StableHlo.after lineV₃ W main_v93 (ix3 b r h) : BitVec 32) = Attn.expOf (W main_v88 (ix3 b r h)) := by
  simp only [lineV₃, hostOps0_8, List.take_succ_cons, List.take_zero, List.drop_succ_cons, List.drop_zero]
  after_reads_at
  rfl

theorem v_scale (b : Fin 8) (r : Fin 32) (h : Fin 8) :
    (StableHlo.after lineV₄ W main_v96 (ix3 b r h) : EReal)
      = Ideal.pow (Ideal.ofBits .f32 0x40000000#32) (FloatOps.sitofp (F := Ideal) .f32 (W main_v93 (ix3 b r h) : BitVec 32)) := by
  after_reads_at

theorem v_clip (b : Fin 8) (r : Fin 32) (a : Fin 128) (h : Fin 8) (d : Fin 64) :
    (StableHlo.after lineV₄ W main_v103 (ix5 b r a h d) : EReal)
      = min (Ideal.ofBits .f32 0x43E00000#32) (max (Ideal.ofBits .f32 0xC3E00000#32) (vCut W b r a h d
        * Ideal.pow (Ideal.ofBits .f32 0x40000000#32) (-(FloatOps.sitofp (F := Ideal) .f32 (W main_v93 (ix3 b r h) : BitVec 32))))) := by
  after_reads_at
  rfl

theorem v_keep : StableHlo.after (lineV₂ ++ lineV₃) W main_v71 = W main_v71 := by
  simp only [lineV₂, lineV₃, hostOps0_8, List.take_succ_cons, List.take_zero, List.drop_succ_cons, List.drop_zero]
  after_reads_simp

/-- The four lines together: the scales. -/
theorem v_scales (b : Fin 8) (r : Fin 32) (h : Fin 8) :
    (StableHlo.after lineV₄ (StableHlo.after lineV₃ (StableHlo.after lineV₂ (StableHlo.after lineV₁ W))) main_v96 (ix3 b r h) : EReal)
      = Attn.rscale (Attn.amax (vTile W b r h)) := by
  rw [v_scale, v_exp, v_count, v_max]; rfl

/-- The four lines together: the codes. -/
theorem v_codes (b : Fin 8) (r : Fin 32) (a : Fin 128) (h : Fin 8) (d : Fin 64) :
    (StableHlo.after lineV₄ (StableHlo.after lineV₃ (StableHlo.after lineV₂ (StableHlo.after lineV₁ W))) main_v103 (ix5 b r a h d) : EReal)
      = Attn.qcode (vTile W b r h) a d := by
  rw [v_clip, v_exp, v_count, v_max]
  unfold vCut
  rw [← after_app, v_keep, v_in]; rfl

end Cert.ReferenceIdeal.Gen

end
-- ==== Proof.RefLines.lean ====
/-
  The reference's lines after quantisation, read at an index: the capped scores, the weights and
  their sums, and the results.
-/
module

public import proofs.«01_k».proof.Proof.RefQuant

@[expose] public section

set_option maxRecDepth 16384

noncomputable section

open Idealize.ShloMosaic Idealize.ShloMosaic.TcCoe Idealize.SL Idealize.SL.Sem

namespace Cert.ReferenceIdeal.Gen

variable (W : Valuation τ sig (Elt Ideal))

abbrev lineQ : List (HloOp τ sig (Elt Ideal)) := lineQ₁ ++ (lineQ₂ ++ (lineQ₃ ++ lineQ₄))
abbrev lineK : List (HloOp τ sig (Elt Ideal)) := lineK₁ ++ (lineK₂ ++ (lineK₃ ++ lineK₄))
abbrev lineV : List (HloOp τ sig (Elt Ideal)) := lineV₁ ++ (lineV₂ ++ (lineV₃ ++ lineV₄))

/-! ## What the lines read, as extended reals -/

abbrev qFlat (b : Fin 8) (s : Fin 4096) (h : Fin 32) (d : Fin 64) : EReal := W main_v34 (ix4 b s h d)
abbrev kFlat (b : Fin 8) (s : Fin 4096) (h : Fin 8) (d : Fin 64) : EReal := W main_v69 (ix4 b s h d)
abbrev vFlat (b : Fin 8) (s : Fin 4096) (h : Fin 8) (d : Fin 64) : EReal := W main_v104 (ix4 b s h d)
abbrev qScale (b : Fin 8) (r : Fin 32) (h : Fin 32) : EReal := W main_v26 (ix3 b r h)
abbrev kScale (b : Fin 8) (r : Fin 32) (h : Fin 8) : EReal := W main_v61 (ix3 b r h)
abbrev vScale (b : Fin 8) (r : Fin 32) (h : Fin 8) : EReal := W main_v96 (ix3 b r h)
abbrev score (b : Fin 8) (k : Fin 8) (g : Fin 4) (s t : Fin 4096) : EReal := W main_v127 (ix5 b k g s t)
abbrev below (s t : Fin 4096) : BitVec 1 := W main_v133 (ix2 s t)
abbrev outside : EReal := W main_cst_37 ix0
abbrev clipped (b : Fin 8) (k : Fin 8) (g : Fin 4) (s t : Fin 4096) : EReal := W main_v143 (ix5 b k g s t)
abbrev total (b : Fin 8) (k : Fin 8) (g : Fin 4) (s : Fin 4096) : EReal := W main_v140 (ix4 b k g s)

/-! ## The scores -/

theorem score_at (b : Fin 8) (k : Fin 8) (g : Fin 4) (s t : Fin 4096) :
    score (StableHlo.after lineS W) b k g s t = Ideal.ofBits .f32 0x42480000#32 * Ideal.tanh
      ((∑ x : Fin 64, kFlat W b t k x * qFlat W b s ⟨k.val * 4 + g.val, by omega⟩ x)
        * (qScale W b ⟨s.val / 128, by omega⟩ ⟨k.val * 4 + g.val, by omega⟩ * kScale W b ⟨t.val / 128, by omega⟩ k * Ideal.ofBits .f32 0x3E000000#32)
        * Ideal.ofBits .f32 0x3CA3D70A#32) := by
  unfold score
  after_reads_at

theorem below_at (s t : Fin 4096) :
    below (StableHlo.after lineS W) s t = IntOp.cmpi .sge (BitVec.ofNat 32 s.val) (BitVec.ofNat 32 t.val) := by
  unfold below
  after_reads_at

theorem outside_at : outside (StableHlo.after lineS W) = ⊥ := by
  unfold outside
  after_reads_at
  exact Attn.bits_bot

theorem vFlat_at (b : Fin 8) (s : Fin 4096) (h : Fin 8) (d : Fin 64) :
    vFlat (StableHlo.after lineS W) b s h d = W main_v103 (ix5 b ⟨s.val / 128, by omega⟩ ⟨s.val % 128, by omega⟩ h d) := by
  unfold vFlat
  after_reads_at

/-! ## The weights -/

/-- A score under the mask. -/
abbrev shown (b : Fin 8) (k : Fin 8) (g : Fin 4) (s t : Fin 4096) : EReal := Scalar.select (below W s t) (score W b k g s t) (outside W)

theorem total_at (b : Fin 8) (k : Fin 8) (g : Fin 4) (s : Fin 4096) :
    total (StableHlo.after lineP W) b k g s = ∑ t : Fin 4096, Ideal.exp (shown W b k g s t - Finset.univ.sup (shown W b k g s)) := by
  unfold total
  after_reads_at
  simp only [fold_sup]
  rfl

theorem clipped_at (b : Fin 8) (k : Fin 8) (g : Fin 4) (s t : Fin 4096) :
    clipped (StableHlo.after lineP W) b k g s t = min (Ideal.ofBits .f32 0x43E00000#32) (max (Ideal.ofBits .f32 0xC3E00000#32)
      (Ideal.exp (shown W b k g s t - Finset.univ.sup (shown W b k g s)) * Ideal.ofBits .f32 0x43800000#32)) := by
  unfold clipped
  after_reads_at
  simp only [fold_sup]
  rfl

/-! ## The results -/

theorem y_at (b : Fin 8) (s : Fin 4096) (h : Fin 2048) :
    (StableHlo.after lineY W main_v157 (ix3 b s h) : EReal) = Ideal.div
      (∑ t : Fin 4096, clipped W b ⟨h.val / 256, by omega⟩ ⟨h.val / 64 % 4, by omega⟩ s t * Ideal.ofBits .f32 0x3B800000#32
        * (vFlat W b t ⟨h.val / 256, by omega⟩ ⟨h.val % 64, by omega⟩ * vScale W b ⟨t.val / 128, by omega⟩ ⟨h.val / 256, by omega⟩))
      (total W b ⟨h.val / 256, by omega⟩ ⟨h.val / 64 % 4, by omega⟩ s) := by
  after_reads_at

theorem qOut_at (b : Fin 8) (s : Fin 4096) (h : Fin 2048) :
    (StableHlo.after lineY W main_v158 (ix3 b s h) : EReal) = qFlat W b s ⟨h.val / 64, by omega⟩ ⟨h.val % 64, by omega⟩ := by
  after_reads_at
theorem kOut_at (b : Fin 8) (s : Fin 4096) (h : Fin 512) :
    (StableHlo.after lineY W main_v159 (ix3 b s h) : EReal) = kFlat W b s ⟨h.val / 64, by omega⟩ ⟨h.val % 64, by omega⟩ := by
  after_reads_at
theorem vOut_at (b : Fin 8) (s : Fin 4096) (h : Fin 512) :
    (StableHlo.after lineY W main_v160 (ix3 b s h) : EReal) = vFlat W b s ⟨h.val / 64, by omega⟩ ⟨h.val % 64, by omega⟩ := by
  after_reads_at

/-! ## What later lines keep -/

theorem keepQ_arg1 : StableHlo.after lineQ W main_arg1 = W main_arg1 := by
  simp only [lineQ, lineQ₁, lineQ₂, lineQ₃, lineQ₄, hostOps0, List.take_succ_cons, List.take_zero, List.drop_succ_cons, List.drop_zero]
  after_reads_simp
theorem keepQ_arg2 : StableHlo.after lineQ W main_arg2 = W main_arg2 := by
  simp only [lineQ, lineQ₁, lineQ₂, lineQ₃, lineQ₄, hostOps0, List.take_succ_cons, List.take_zero, List.drop_succ_cons, List.drop_zero]
  after_reads_simp
theorem keepK_arg2 : StableHlo.after lineK W main_arg2 = W main_arg2 := by
  simp only [lineK, lineK₁, lineK₂, lineK₃, lineK₄, hostOps0_4, List.take_succ_cons, List.take_zero, List.drop_succ_cons, List.drop_zero]
  after_reads_simp
theorem keepK_scale : StableHlo.after lineK W main_v26 = W main_v26 := by
  simp only [lineK, lineK₁, lineK₂, lineK₃, lineK₄, hostOps0_4, List.take_succ_cons, List.take_zero, List.drop_succ_cons, List.drop_zero]
  after_reads_simp
theorem keepV_qscale : StableHlo.after lineV W main_v26 = W main_v26 := by
  simp only [lineV, lineV₁, lineV₂, lineV₃, lineV₄, hostOps0_8, List.take_succ_cons, List.take_zero, List.drop_succ_cons, List.drop_zero]
  after_reads_simp
theorem keepV_kscale : StableHlo.after lineV W main_v61 = W main_v61 := by
  simp only [lineV, lineV₁, lineV₂, lineV₃, lineV₄, hostOps0_8, List.take_succ_cons, List.take_zero, List.drop_succ_cons, List.drop_zero]
  after_reads_simp
theorem keepV_qcode : StableHlo.after lineV W main_v34 = W main_v34 := by
  simp only [lineV, lineV₁, lineV₂, lineV₃, lineV₄, hostOps0_8, List.take_succ_cons, List.take_zero, List.drop_succ_cons, List.drop_zero]
  after_reads_simp
theorem keepSP_qscale : StableHlo.after (lineS ++ lineP) W main_v26 = W main_v26 := by after_reads_simp
theorem keepSP_kscale : StableHlo.after (lineS ++ lineP) W main_v61 = W main_v61 := by after_reads_simp
theorem keepSP_vscale : StableHlo.after (lineS ++ lineP) W main_v96 = W main_v96 := by after_reads_simp
theorem keepSP_qcode : StableHlo.after (lineS ++ lineP) W main_v34 = W main_v34 := by after_reads_simp
theorem keepSP_kcode : StableHlo.after (lineS ++ lineP) W main_v69 = W main_v69 := by after_reads_simp
theorem keepP_vcode : StableHlo.after lineP W main_v104 = W main_v104 := by after_reads_simp
theorem keepY_qscale : StableHlo.after lineY W main_v26 = W main_v26 := by after_reads_simp
theorem keepY_kscale : StableHlo.after lineY W main_v61 = W main_v61 := by after_reads_simp
theorem keepY_vscale : StableHlo.after lineY W main_v96 = W main_v96 := by after_reads_simp

/-! ## The codes, flat -/

theorem kLine_qcode (b : Fin 8) (s : Fin 4096) (h : Fin 32) (d : Fin 64) :
    qFlat (StableHlo.after lineK W) b s h d = W main_v33 (ix5 b ⟨s.val / 128, by omega⟩ ⟨s.val % 128, by omega⟩ h d) := by
  simp only [qFlat, lineK, lineK₁, lineK₂, lineK₃, lineK₄, hostOps0_4, List.take_succ_cons, List.take_zero, List.drop_succ_cons, List.drop_zero]
  after_reads_at
theorem vLine_kcode (b : Fin 8) (s : Fin 4096) (h : Fin 8) (d : Fin 64) :
    kFlat (StableHlo.after lineV W) b s h d = W main_v68 (ix5 b ⟨s.val / 128, by omega⟩ ⟨s.val % 128, by omega⟩ h d) := by
  simp only [kFlat, lineV, lineV₁, lineV₂, lineV₃, lineV₄, hostOps0_8, List.take_succ_cons, List.take_zero, List.drop_succ_cons, List.drop_zero]
  after_reads_at

/-! ## The whole program -/

variable (m : (ℓ : Loc nD τ sig) → Buf (Elt Ideal) ℓ) (c : Dev nD)

/-- The contents before the region are those after the lines. -/
theorem V_lines : (fun r => V m c r) = fun r : Ref sig .tc => StableHlo.after lineY (StableHlo.after (lineS ++ lineP) (StableHlo.after lineV (StableHlo.after lineK
    (StableHlo.after lineQ (fun b => m (c, b)))))) r := by
  funext r
  simp only [← after_app]
  rfl

end Cert.ReferenceIdeal.Gen

end
-- ==== Proof.RefValue.lean ====
/-
  The arrays the reference leaves, over the extended reals.
-/
module

public import proofs.«01_k».proof.Proof.Dense
public import proofs.«01_k».proof.Proof.RefLines

@[expose] public section

set_option maxRecDepth 16384

noncomputable section

open Idealize.ShloMosaic Idealize.ShloMosaic.TcCoe Idealize.SL Idealize.SL.Sem

namespace Cert.ReferenceIdeal.Gen

variable (W : Valuation τ sig (Elt Ideal))

/-! ## The tiles -/

/-- The arguments. -/
def aQ : Attn.S8x4096x2048.Idx → EReal := fun i => W main_arg0 i
def aK : Attn.S8x4096x512.Idx → EReal := fun i => W main_arg1 i
def aV : Attn.S8x4096x512.Idx → EReal := fun i => W main_arg2 i

theorem qTile_eq (b : Fin 8) (r h : Fin 32) : qTile W b r h = Attn.qT (aQ W) b r h := by
  funext a d
  unfold Attn.qT
  refine congrArg (W main_arg0) (funext fun x => ?_)
  match x with
  | 0 => rfl
  | 1 => exact Fin.ext (by show r.val * 128 + a.val = 128 * r.val + a.val; omega)
  | 2 => exact Fin.ext (by show h.val * 64 + d.val = 64 * h.val + d.val; omega)
theorem kTile_eq (b : Fin 8) (r : Fin 32) (h : Fin 8) : kTile W b r h = Attn.kT (aK W) b r h := by
  funext a d
  unfold Attn.kT
  refine congrArg (W main_arg1) (funext fun x => ?_)
  match x with
  | 0 => rfl
  | 1 => exact Fin.ext (by show r.val * 128 + a.val = 128 * r.val + a.val; omega)
  | 2 => exact Fin.ext (by show h.val * 64 + d.val = 64 * h.val + d.val; omega)
theorem vTile_eq (b : Fin 8) (r : Fin 32) (h : Fin 8) : vTile W b r h = Attn.kT (aV W) b r h := by
  funext a d
  unfold Attn.kT
  refine congrArg (W main_arg2) (funext fun x => ?_)
  match x with
  | 0 => rfl
  | 1 => exact Fin.ext (by show r.val * 128 + a.val = 128 * r.val + a.val; omega)
  | 2 => exact Fin.ext (by show h.val * 64 + d.val = 64 * h.val + d.val; omega)

/-! ## The lines from the arguments -/

/-- The contents after the lines of q, k, v, the scores and the weights. -/
def W₁ : Valuation τ sig (Elt Ideal) := StableHlo.after lineQ W
def W₂ : Valuation τ sig (Elt Ideal) := StableHlo.after lineK (W₁ W)
def W₃ : Valuation τ sig (Elt Ideal) := StableHlo.after lineV (W₂ W)
def W₄ : Valuation τ sig (Elt Ideal) := StableHlo.after lineS (W₃ W)
def W₅ : Valuation τ sig (Elt Ideal) := StableHlo.after (lineS ++ lineP) (W₃ W)

theorem W₁_eq : W₁ W = StableHlo.after lineQ₄ (StableHlo.after lineQ₃ (StableHlo.after lineQ₂ (StableHlo.after lineQ₁ W))) := by
  unfold W₁ lineQ; simp only [after_app]
theorem W₂_eq : W₂ W = StableHlo.after lineK₄ (StableHlo.after lineK₃ (StableHlo.after lineK₂ (StableHlo.after lineK₁ (W₁ W)))) := by
  unfold W₂ lineK; simp only [after_app]
theorem W₃_eq : W₃ W = StableHlo.after lineV₄ (StableHlo.after lineV₃ (StableHlo.after lineV₂ (StableHlo.after lineV₁ (W₂ W)))) := by
  unfold W₃ lineV; simp only [after_app]
theorem W₅_eq : W₅ W = StableHlo.after lineP (W₄ W) := after_app _ _ _

theorem arg1_W₁ : aK (W₁ W) = aK W := keepQ_arg1 W
theorem arg2_W₂ : aV (W₂ W) = aV W := (keepK_arg2 (W₁ W)).trans (keepQ_arg2 W)

theorem qs₃ (b : Fin 8) (r h : Fin 32) : qScale (W₃ W) b r h = Attn.rscale (Attn.amax (Attn.qT (aQ W) b r h)) := by
  have e : W₃ W main_v26 = W₁ W main_v26 := (keepV_qscale (W₂ W)).trans (keepK_scale (W₁ W))
  refine (congrFun e (ix3 b r h)).trans ?_
  rw [W₁_eq]
  exact (q_scales W b r h).trans (congrArg (fun t => Attn.rscale (Attn.amax t)) (qTile_eq W b r h))
theorem ks₃ (b : Fin 8) (r : Fin 32) (h : Fin 8) : kScale (W₃ W) b r h = Attn.rscale (Attn.amax (Attn.kT (aK W) b r h)) := by
  refine (congrFun (keepV_kscale (W₂ W)) (ix3 b r h)).trans ?_
  rw [W₂_eq]
  refine (k_scales (W₁ W) b r h).trans (congrArg (fun t => Attn.rscale (Attn.amax t)) ((kTile_eq (W₁ W) b r h).trans ?_))
  rw [arg1_W₁]
theorem vs₃ (b : Fin 8) (r : Fin 32) (h : Fin 8) : vScale (W₃ W) b r h = Attn.rscale (Attn.amax (Attn.kT (aV W) b r h)) := by
  unfold vScale
  rw [W₃_eq]
  refine (v_scales (W₂ W) b r h).trans (congrArg (fun t => Attn.rscale (Attn.amax t)) ((vTile_eq (W₂ W) b r h).trans ?_))
  rw [arg2_W₂]

theorem qf₃ (b : Fin 8) (s : Fin 4096) (h : Fin 32) (d : Fin 64) :
    qFlat (W₃ W) b s h d = Attn.qcode (Attn.qT (aQ W) b (Attn.blk s) h) (Attn.off s) d := by
  refine (congrFun (keepV_qcode (W₂ W)) (ix4 b s h d)).trans ((kLine_qcode (W₁ W) b s h d).trans ?_)
  rw [W₁_eq]
  exact (q_codes W b _ _ h d).trans (congrArg (fun t => Attn.qcode t _ d) (qTile_eq W b _ h))
theorem kf₃ (b : Fin 8) (s : Fin 4096) (h : Fin 8) (d : Fin 64) :
    kFlat (W₃ W) b s h d = Attn.qcode (Attn.kT (aK W) b (Attn.blk s) h) (Attn.off s) d := by
  refine (vLine_kcode (W₂ W) b s h d).trans ?_
  rw [W₂_eq]
  refine (k_codes (W₁ W) b _ _ h d).trans (congrArg (fun t => Attn.qcode t _ d) ((kTile_eq (W₁ W) b _ h).trans ?_))
  rw [arg1_W₁]; rfl
theorem vf₄ (b : Fin 8) (s : Fin 4096) (h : Fin 8) (d : Fin 64) :
    vFlat (W₄ W) b s h d = Attn.qcode (Attn.kT (aV W) b (Attn.blk s) h) (Attn.off s) d := by
  refine (vFlat_at (W₃ W) b s h d).trans ?_
  rw [W₃_eq]
  refine (v_codes (W₂ W) b _ _ h d).trans (congrArg (fun t => Attn.qcode t _ d) ((vTile_eq (W₂ W) b _ h).trans ?_))
  rw [arg2_W₂]; rfl

theorem vf₅ (b : Fin 8) (s : Fin 4096) (h : Fin 8) (d : Fin 64) :
    vFlat (W₅ W) b s h d = Attn.qcode (Attn.kT (aV W) b (Attn.blk s) h) (Attn.off s) d := by
  rw [W₅_eq]
  exact (congrFun (keepP_vcode (W₄ W)) (ix4 b s h d)).trans (vf₄ W b s h d)

/-! ## The scores and the output -/

theorem score₄ (b : Fin 8) (r : Fin 32) (c : Fin 128) (h : Fin 32) (t : Fin 4096) :
    score (W₄ W) b (Attn.grp h) ⟨h.val % 4, by omega⟩ (Attn.at' r c) t = Ideal.ofBits .f32 0x42480000#32
      * Attn.logit (Attn.qT (aQ W) b r h) (Attn.kT (aK W) b (Attn.blk t) (Attn.grp h)) c (Attn.off t) := by
  have eh : (⟨(Attn.grp h).val * 4 + h.val % 4, by omega⟩ : Fin 32) = h := Fin.ext (by simp only [Attn.grp]; omega)
  have er : (⟨(Attn.at' r c).val / 128, by omega⟩ : Fin 32) = r := Attn.blk_at r c
  refine (score_at (W₃ W) b (Attn.grp h) ⟨h.val % 4, by omega⟩ (Attn.at' r c) t).trans ?_
  rw [← Attn.logit_order, eh, er, qs₃, ks₃]
  refine congrArg (fun z => Ideal.ofBits .f32 0x42480000#32 * Ideal.tanh (z * _ * _)) (Finset.sum_congr rfl fun x _ => ?_)
  rw [kf₃, qf₃, Attn.blk_at, Attn.off_at]

theorem shown₄ (b : Fin 8) (r : Fin 32) (c : Fin 128) (h : Fin 32) :
    shown (W₄ W) b (Attn.grp h) ⟨h.val % 4, by omega⟩ (Attn.at' r c)
      = Attn.hide50 (Attn.τF (Attn.qT (aQ W) b r) (Attn.kT (aK W) b) h c) (Attn.Before (Attn.at' r c)) := by
  funext t
  unfold shown
  rw [show below (W₄ W) (Attn.at' r c) t = _ from below_at (W₃ W) _ _, show outside (W₄ W) = ⊥ from outside_at (W₃ W)]
  exact Attn.shown_eq r _ _ h c t _ (score₄ W b r c h t)

theorem vs₅ (b : Fin 8) (r : Fin 32) (h : Fin 8) : vScale (W₅ W) b r h = Attn.rscale (Attn.amax (Attn.kT (aV W) b r h)) :=
  (congrFun (keepSP_vscale (W₃ W)) (ix3 b r h)).trans (vs₃ W b r h)

theorem y_out (fv : Attn.Fine (aV W)) (b : Fin 8) (r : Fin 32) (c : Fin 128) (h : Fin 32) (d : Fin 64) :
    (StableHlo.after lineY (W₅ W) main_v157 (ix3 b (Attn.at' r c) ⟨64 * h.val + d.val, by omega⟩) : EReal)
      = (Attn.att (aQ W) (aK W) (aV W) b r h c d : EReal) := by
  have e₁ : (⟨(64 * h.val + d.val) / 256, by omega⟩ : Fin 8) = Attn.grp h := Fin.ext (by simp only [Attn.grp]; omega)
  have e₂ : (⟨(64 * h.val + d.val) / 64 % 4, by omega⟩ : Fin 4) = ⟨h.val % 4, by omega⟩ := Fin.ext (by show (64 * h.val + d.val) / 64 % 4 = h.val % 4; omega)
  have e₃ : (⟨(64 * h.val + d.val) % 64, by omega⟩ : Fin 64) = d := Fin.ext (by show (64 * h.val + d.val) % 64 = d.val; omega)
  have eT : total (W₅ W) b (Attn.grp h) ⟨h.val % 4, by omega⟩ (Attn.at' r c) = _ :=
    (congrArg (fun V => total V b (Attn.grp h) ⟨h.val % 4, by omega⟩ (Attn.at' r c)) (W₅_eq W)).trans (total_at (W₄ W) _ _ _ _)
  have eC : ∀ t, clipped (W₅ W) b (Attn.grp h) ⟨h.val % 4, by omega⟩ (Attn.at' r c) t = _ := fun t =>
    (congrArg (fun V => clipped V b (Attn.grp h) ⟨h.val % 4, by omega⟩ (Attn.at' r c) t) (W₅_eq W)).trans (clipped_at (W₄ W) _ _ _ _ _)
  refine (y_at (W₅ W) b (Attn.at' r c) ⟨64 * h.val + d.val, by omega⟩).trans ?_
  simp only [e₁, e₂, e₃]
  rw [eT]
  refine Eq.trans (congrArg (fun z => Ideal.div z _) (Finset.sum_congr rfl fun t _ => ?_)) (Attn.soft_dense r _ _ _ (fun j g => fv.k b j g) h c d _ (shown₄ W b r c h))
  exact congrArg₂ _ (congrArg₂ _ (eC t) rfl) (congrArg₂ _ (vf₅ W b t _ d) (vs₅ W b _ _))

/-! ## The results -/

theorem y_arr (fv : Attn.Fine (aV W)) : (fun i => (StableHlo.after lineY (W₅ W) main_v157 i : EReal)) = Attn.yOut (aQ W) (aK W) (aV W) := by
  funext i
  obtain ⟨b, r, h, c, d, rfl⟩ := Attn.split_q i
  exact (y_out W fv b r c h d).trans (Attn.yOut_at _ _ _ b r h c d).symm

theorem q_arr : (fun i => (StableHlo.after lineY (W₅ W) main_v158 i : EReal)) = Attn.qOut (aQ W) := by
  funext i
  obtain ⟨b, r, h, c, d, rfl⟩ := Attn.split_q i
  have e₁ : (⟨(64 * h.val + d.val) / 64, by omega⟩ : Fin 32) = h := Fin.ext (by show (64 * h.val + d.val) / 64 = h.val; omega)
  have e₃ : (⟨(64 * h.val + d.val) % 64, by omega⟩ : Fin 64) = d := Fin.ext (by show (64 * h.val + d.val) % 64 = d.val; omega)
  refine (qOut_at (W₅ W) b (Attn.at' r c) ⟨64 * h.val + d.val, by omega⟩).trans (.trans ?_ (Attn.qOut_at _ b r h c d).symm)
  simp only [e₁, e₃]
  refine (congrFun (keepSP_qcode (W₃ W)) (ix4 b (Attn.at' r c) h d)).trans ((qf₃ W b (Attn.at' r c) h d).trans ?_)
  rw [Attn.blk_at, Attn.off_at]
theorem k_arr : (fun i => (StableHlo.after lineY (W₅ W) main_v159 i : EReal)) = Attn.kOut (aK W) := by
  funext i
  obtain ⟨b, r, h, c, d, rfl⟩ := Attn.split_k i
  have e₁ : (⟨(64 * h.val + d.val) / 64, by omega⟩ : Fin 8) = h := Fin.ext (by show (64 * h.val + d.val) / 64 = h.val; omega)
  have e₃ : (⟨(64 * h.val + d.val) % 64, by omega⟩ : Fin 64) = d := Fin.ext (by show (64 * h.val + d.val) % 64 = d.val; omega)
  refine (kOut_at (W₅ W) b (Attn.at' r c) ⟨64 * h.val + d.val, by omega⟩).trans (.trans ?_ (Attn.kOut_at _ b r h c d).symm)
  simp only [e₁, e₃]
  refine (congrFun (keepSP_kcode (W₃ W)) (ix4 b (Attn.at' r c) h d)).trans ((kf₃ W b (Attn.at' r c) h d).trans ?_)
  rw [Attn.blk_at, Attn.off_at]
theorem v_arr : (fun i => (StableHlo.after lineY (W₅ W) main_v160 i : EReal)) = Attn.kOut (aV W) := by
  funext i
  obtain ⟨b, r, h, c, d, rfl⟩ := Attn.split_k i
  have e₁ : (⟨(64 * h.val + d.val) / 64, by omega⟩ : Fin 8) = h := Fin.ext (by show (64 * h.val + d.val) / 64 = h.val; omega)
  have e₃ : (⟨(64 * h.val + d.val) % 64, by omega⟩ : Fin 64) = d := Fin.ext (by show (64 * h.val + d.val) % 64 = d.val; omega)
  refine (vOut_at (W₅ W) b (Attn.at' r c) ⟨64 * h.val + d.val, by omega⟩).trans (.trans ?_ (Attn.kOut_at _ b r h c d).symm)
  simp only [e₁, e₃]
  refine (vf₅ W b (Attn.at' r c) h d).trans ?_
  rw [Attn.blk_at, Attn.off_at]

theorem qs_arr : (fun i => (StableHlo.after lineY (W₅ W) main_v26 i : EReal)) = Attn.qScaleOut (aQ W) := by
  funext i
  obtain ⟨b, r, h, rfl⟩ : ∃ (b : Fin 8) (r h : Fin 32), i = ix3 b r h := ⟨i 0, i 1, i 2, funext fun a => by match a with | 0 => rfl | 1 => rfl | 2 => rfl⟩
  exact (congrFun ((keepY_qscale (W₅ W)).trans (keepSP_qscale (W₃ W))) (ix3 b r h)).trans (qs₃ W b r h)
theorem ks_arr : (fun i => (StableHlo.after lineY (W₅ W) main_v61 i : EReal)) = Attn.kScaleOut (aK W) := by
  funext i
  obtain ⟨b, r, h, rfl⟩ : ∃ (b : Fin 8) (r : Fin 32) (h : Fin 8), i = ix3 b r h := ⟨i 0, i 1, i 2, funext fun a => by match a with | 0 => rfl | 1 => rfl | 2 => rfl⟩
  exact (congrFun ((keepY_kscale (W₅ W)).trans (keepSP_kscale (W₃ W))) (ix3 b r h)).trans (ks₃ W b r h)
theorem vs_arr : (fun i => (StableHlo.after lineY (W₅ W) main_v96 i : EReal)) = Attn.kScaleOut (aV W) := by
  funext i
  obtain ⟨b, r, h, rfl⟩ : ∃ (b : Fin 8) (r : Fin 32) (h : Fin 8), i = ix3 b r h := ⟨i 0, i 1, i 2, funext fun a => by match a with | 0 => rfl | 1 => rfl | 2 => rfl⟩
  exact (congrFun (keepY_vscale (W₅ W)) (ix3 b r h)).trans (vs₅ W b r h)

end Cert.ReferenceIdeal.Gen

end
-- ==== Proof.RefFinal.lean ====
/-
  Every run of the reference ends with the seven arrays as specified.
-/
module

public import proofs.«01_k».proof.Proof.RefValue
public import proofs.«01_k».proof.Proof.Gen.ReferenceIdeal.Frame
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

open Idealize.ShloMosaic Idealize.ShloMosaic.TcCoe Idealize.SL Idealize.SL.Sem

namespace Cert.ReferenceIdeal.Gen

variable (m : (ℓ : Loc nD τ sig) → Buf (Elt Ideal) ℓ) (ρ : Dev nD → PrngReg)

/-- The launch contents of device 0. -/
def W₀ : Valuation τ sig (Elt Ideal) := fun b => m (0, b)

/-- What the region starts from, buffer by buffer. -/
theorem V_at (r : Ref sig .tc) : V m 0 r = StableHlo.after lineY (W₅ (W₀ m)) r := congrFun (V_lines m 0) r

/-- The region's three casts keep the values. -/
theorem pay1_at (X : Vec Ideal S8x4096x2048 .f32) (y : S8x4096x2048.Idx) : (k0_pay1 X y : EReal) = X y := by pointwise [k0_pay1]
theorem pay2_at (X : Vec Ideal S8x4096x512 .f32) (y : S8x4096x512.Idx) : (k0_pay2 X y : EReal) = X y := by pointwise [k0_pay2]
theorem pay3_at (X : Vec Ideal S8x4096x512 .f32) (y : S8x4096x512.Idx) : (k0_pay3 X y : EReal) = X y := by pointwise [k0_pay3]

/-- Each window's one block is its array. -/
theorem emb0 (t : Fin cfg0.N) (y : S8x4096x2048.Idx) : ((View.whole main_v158).slice (win0_0.rect t)).emb y = y := by
  show (win0_0.rect t).emb y = y
  funext a
  exact Fin.ext (Pipeline.Window.rect_emb_val_of_index_zero _ _ _ ((by decide +kernel : ∀ (t : Fin grid0.N) (a : Fin 3), win0_0.index t a = 0) t a) y)
theorem emb1 (t : Fin cfg0.N) (y : S8x4096x512.Idx) : ((View.whole main_v159).slice (win0_1.rect t)).emb y = y := by
  show (win0_1.rect t).emb y = y
  funext a
  exact Fin.ext (Pipeline.Window.rect_emb_val_of_index_zero _ _ _ ((by decide +kernel : ∀ (t : Fin grid0.N) (a : Fin 3), win0_1.index t a = 0) t a) y)
theorem emb2 (t : Fin cfg0.N) (y : S8x4096x512.Idx) : ((View.whole main_v160).slice (win0_2.rect t)).emb y = y := by
  show (win0_2.rect t).emb y = y
  funext a
  exact Fin.ext (Pipeline.Window.rect_emb_val_of_index_zero _ _ _ ((by decide +kernel : ∀ (t : Fin grid0.N) (a : Fin 3), win0_2.index t a = 0) t a) y)
theorem emb3 (t : Fin cfg0.N) (y : S8x4096x2048.Idx) : ((View.whole main_v161_0).slice (win0_3.rect t)).emb y = y := by
  show (win0_3.rect t).emb y = y
  funext a
  exact Fin.ext (Pipeline.Window.rect_emb_val_of_index_zero _ _ _ ((by decide +kernel : ∀ (t : Fin grid0.N) (a : Fin 3), win0_3.index t a = 0) t a) y)
theorem emb4 (t : Fin cfg0.N) (y : S8x4096x512.Idx) : ((View.whole main_v161_1).slice (win0_4.rect t)).emb y = y := by
  show (win0_4.rect t).emb y = y
  funext a
  exact Fin.ext (Pipeline.Window.rect_emb_val_of_index_zero _ _ _ ((by decide +kernel : ∀ (t : Fin grid0.N) (a : Fin 3), win0_4.index t a = 0) t a) y)
theorem emb5 (t : Fin cfg0.N) (y : S8x4096x512.Idx) : ((View.whole main_v161_2).slice (win0_5.rect t)).emb y = y := by
  show (win0_5.rect t).emb y = y
  funext a
  exact Fin.ext (Pipeline.Window.rect_emb_val_of_index_zero _ _ _ ((by decide +kernel : ∀ (t : Fin grid0.N) (a : Fin 3), win0_5.index t a = 0) t a) y)

/-- Window 0's read of an array is the array. -/
theorem read0 (t : Fin cfg0.N) (A : S8x4096x2048.Idx → EReal) (y : S8x4096x2048.Idx) :
    (((cfg0.win 0).blk t).view.read (Elt Ideal) A y : EReal) = A y := congrArg A (emb0 t y)

/-- The region's input 0 is the array of codes. -/
theorem in0 : (fun i => (V m 0 main_v158 i : EReal)) = Attn.qOut (aQ (W₀ m)) := by
  rw [V_at]
  exact q_arr (W₀ m)

/-- Window 0's block is the array the host lines leave. -/
theorem iblk0 (t : Fin cfg0.N) : iblk m 0 0 t = fun y : S8x4096x2048.Idx => (V m 0 main_v158 y : EReal) := by
  unfold iblk
  funext y
  exact read0 t (V m 0 main_v158) y

/-- Window 0's block is the array of codes. -/
theorem iblk0_eq (t : Fin cfg0.N) : iblk m 0 0 t = Attn.qOut (aQ (W₀ m)) := (iblk0 m t).trans (in0 m)

/-- Result 0 of the region is the array of codes. -/
theorem final3 : (dats m 0 0).arrAt 3 cfg0.N = Attn.qOut (aQ (W₀ m)) := by
  refine Pipeline.Dat.arrAt_eq_of_covers _ 3 _ (by decide +kernel) fun t _ y => ?_
  blk_simp
  rw [after0_3, emb3, iblk0_eq]
  frame_out
  exact pay1_at _ y

/-- Window 1's read of an array is the array. -/
theorem read1 (t : Fin cfg0.N) (A : S8x4096x512.Idx → EReal) (y : S8x4096x512.Idx) :
    (((cfg0.win 1).blk t).view.read (Elt Ideal) A y : EReal) = A y := congrArg A (emb1 t y)

/-- The region's input 1 is the array of codes. -/
theorem in1 : (fun i => (V m 0 main_v159 i : EReal)) = Attn.kOut (aK (W₀ m)) := by
  rw [V_at]
  exact k_arr (W₀ m)

/-- Window 1's block is the array the host lines leave. -/
theorem iblk1 (t : Fin cfg0.N) : iblk m 0 1 t = fun y : S8x4096x512.Idx => (V m 0 main_v159 y : EReal) := by
  unfold iblk
  funext y
  exact read1 t (V m 0 main_v159) y

/-- Window 1's block is the array of codes. -/
theorem iblk1_eq (t : Fin cfg0.N) : iblk m 0 1 t = Attn.kOut (aK (W₀ m)) := (iblk1 m t).trans (in1 m)

/-- Result 1 of the region is the array of codes. -/
theorem final4 : (dats m 0 0).arrAt 4 cfg0.N = Attn.kOut (aK (W₀ m)) := by
  refine Pipeline.Dat.arrAt_eq_of_covers _ 4 _ (by decide +kernel) fun t _ y => ?_
  blk_simp
  rw [after0_4, emb4, iblk1_eq]
  frame_out
  exact pay2_at _ y

/-- Window 2's read of an array is the array. -/
theorem read2 (t : Fin cfg0.N) (A : S8x4096x512.Idx → EReal) (y : S8x4096x512.Idx) :
    (((cfg0.win 2).blk t).view.read (Elt Ideal) A y : EReal) = A y := congrArg A (emb2 t y)

/-- The region's input 2 is the array of codes. -/
theorem in2 : (fun i => (V m 0 main_v160 i : EReal)) = Attn.kOut (aV (W₀ m)) := by
  rw [V_at]
  exact v_arr (W₀ m)

/-- Window 2's block is the array the host lines leave. -/
theorem iblk2 (t : Fin cfg0.N) : iblk m 0 2 t = fun y : S8x4096x512.Idx => (V m 0 main_v160 y : EReal) := by
  unfold iblk
  funext y
  exact read2 t (V m 0 main_v160) y

/-- Window 2's block is the array of codes. -/
theorem iblk2_eq (t : Fin cfg0.N) : iblk m 0 2 t = Attn.kOut (aV (W₀ m)) := (iblk2 m t).trans (in2 m)

/-- Result 2 of the region is the array of codes. -/
theorem final5 : (dats m 0 0).arrAt 5 cfg0.N = Attn.kOut (aV (W₀ m)) := by
  refine Pipeline.Dat.arrAt_eq_of_covers _ 5 _ (by decide +kernel) fun t _ y => ?_
  blk_simp
  rw [after0_5, emb5, iblk2_eq]
  frame_out
  exact pay3_at _ y

/-- The results the host lines leave. -/
theorem y_V (fv : Attn.Fine (aV (W₀ m))) : (fun i => (V m 0 main_v157 i : EReal)) = Attn.yOut (aQ (W₀ m)) (aK (W₀ m)) (aV (W₀ m)) := by
  rw [V_at]
  exact y_arr (W₀ m) fv

theorem qs_V : (fun i => (V m 0 main_v26 i : EReal)) = Attn.qScaleOut (aQ (W₀ m)) := by
  rw [V_at]
  exact qs_arr (W₀ m)

theorem ks_V : (fun i => (V m 0 main_v61 i : EReal)) = Attn.kScaleOut (aK (W₀ m)) := by
  rw [V_at]
  exact ks_arr (W₀ m)

theorem vs_V : (fun i => (V m 0 main_v96 i : EReal)) = Attn.kScaleOut (aV (W₀ m)) := by
  rw [V_at]
  exact vs_arr (W₀ m)

/-- A buffer that keeps what the host lines leave holds the attention output, element by element. -/
theorem y_of (fv : Attn.Fine (aV (W₀ m))) (X : Buf (Elt Ideal) (((0 : Dev nD) : Thread nD τ).loc main_v157)) (h : X = V m 0 main_v157) : (fun i => (X i : EReal)) = Attn.yOut (aQ (W₀ m)) (aK (W₀ m)) (aV (W₀ m)) := by
  have e : (fun i => (X i : EReal)) = fun i => (V m 0 main_v157 i : EReal) := by rw [h]
  exact e.trans (y_V m fv)

/-- The same as one array: the attention output. -/
theorem y_end (fv : Attn.Fine (aV (W₀ m))) (X : Buf (Elt Ideal) (((0 : Dev nD) : Thread nD τ).loc main_v157)) (h : X = V m 0 main_v157) : X = Attn.yOut (aQ (W₀ m)) (aK (W₀ m)) (aV (W₀ m)) := by
  have e := y_of m fv X h
  clear h
  exact e

/-- A buffer that keeps what the host lines leave holds q's scales, element by element. -/
theorem qs_of (X : Buf (Elt Ideal) (((0 : Dev nD) : Thread nD τ).loc main_v26)) (h : X = V m 0 main_v26) : (fun i => (X i : EReal)) = Attn.qScaleOut (aQ (W₀ m)) := by
  have e : (fun i => (X i : EReal)) = fun i => (V m 0 main_v26 i : EReal) := by rw [h]
  exact e.trans (qs_V m)

/-- The same as one array: q's scales. -/
theorem qs_end (X : Buf (Elt Ideal) (((0 : Dev nD) : Thread nD τ).loc main_v26)) (h : X = V m 0 main_v26) : X = Attn.qScaleOut (aQ (W₀ m)) := by
  have e := qs_of m X h
  clear h
  exact e

/-- A buffer that keeps what the host lines leave holds k's scales, element by element. -/
theorem ks_of (X : Buf (Elt Ideal) (((0 : Dev nD) : Thread nD τ).loc main_v61)) (h : X = V m 0 main_v61) : (fun i => (X i : EReal)) = Attn.kScaleOut (aK (W₀ m)) := by
  have e : (fun i => (X i : EReal)) = fun i => (V m 0 main_v61 i : EReal) := by rw [h]
  exact e.trans (ks_V m)

/-- The same as one array: k's scales. -/
theorem ks_end (X : Buf (Elt Ideal) (((0 : Dev nD) : Thread nD τ).loc main_v61)) (h : X = V m 0 main_v61) : X = Attn.kScaleOut (aK (W₀ m)) := by
  have e := ks_of m X h
  clear h
  exact e

/-- A buffer that keeps what the host lines leave holds v's scales, element by element. -/
theorem vs_of (X : Buf (Elt Ideal) (((0 : Dev nD) : Thread nD τ).loc main_v96)) (h : X = V m 0 main_v96) : (fun i => (X i : EReal)) = Attn.kScaleOut (aV (W₀ m)) := by
  have e : (fun i => (X i : EReal)) = fun i => (V m 0 main_v96 i : EReal) := by rw [h]
  exact e.trans (vs_V m)

/-- The same as one array: v's scales. -/
theorem vs_end (X : Buf (Elt Ideal) (((0 : Dev nD) : Thread nD τ).loc main_v96)) (h : X = V m 0 main_v96) : X = Attn.kScaleOut (aV (W₀ m)) := by
  have e := vs_of m X h
  clear h
  exact e

/-- Every run of the reference from finite v ends with the seven arrays as specified. -/
theorem finals (fv : Attn.Fine (aV (W₀ m))) :
    θ_run defs (onTc (τ := τ) (main (F := Ideal))) (s₀ m ρ) (fun r =>
      (r.2.mem (((0 : Dev nD) : Thread nD τ).loc main_v157) = Attn.yOut (aQ (W₀ m)) (aK (W₀ m)) (aV (W₀ m))
      ∧ r.2.mem (((0 : Dev nD) : Thread nD τ).loc main_v161_0) = Attn.qOut (aQ (W₀ m))
      ∧ r.2.mem (((0 : Dev nD) : Thread nD τ).loc main_v26) = Attn.qScaleOut (aQ (W₀ m))
      ∧ r.2.mem (((0 : Dev nD) : Thread nD τ).loc main_v161_1) = Attn.kOut (aK (W₀ m))
      ∧ r.2.mem (((0 : Dev nD) : Thread nD τ).loc main_v61) = Attn.kScaleOut (aK (W₀ m))
      ∧ r.2.mem (((0 : Dev nD) : Thread nD τ).loc main_v161_2) = Attn.kOut (aV (W₀ m))
      ∧ r.2.mem (((0 : Dev nD) : Thread nD τ).loc main_v96) = Attn.kScaleOut (aV (W₀ m)))) := by
  refine (θ_run defs _ _).mono (fun r h => ?_) (run_main_quiescent m ρ)
  have h := h.1
  exact ⟨y_end m fv _ (h.rest_eq 0 main_v157 (Pipeline.mem_restRefs_of main_v157 (by decide) (by decide))),
    (h.out_eq 0 3).trans (final3 m),
    qs_end m _ (h.rest_eq 0 main_v26 (Pipeline.mem_restRefs_of main_v26 (by decide) (by decide))),
    (h.out_eq 0 4).trans (final4 m),
    ks_end m _ (h.rest_eq 0 main_v61 (Pipeline.mem_restRefs_of main_v61 (by decide) (by decide))),
    (h.out_eq 0 5).trans (final5 m),
    vs_end m _ (h.rest_eq 0 main_v96 (Pipeline.mem_restRefs_of main_v96 (by decide) (by decide)))⟩

end Cert.ReferenceIdeal.Gen

end
-- ==== Proof.Pre.lean ====
/-
  What the precondition says of the arguments.
-/
module

public import proofs.«01_k».proof.Proof.Spec
public import proofs.«01_k».proof.Proof.Gen.KernelIdeal
public import proofs.«01_k».proof.Pre_finite
public import Idealize.ShloMosaic.Lib.ReduceAll

@[expose] public section

set_option maxRecDepth 16384

noncomputable section

/-- The shape relations the precondition's operations take. -/
theorem Cert.Pre_finite.facts : Cert.Pre_finite.Facts where
  bitsLt_bf16_f32 := by decide
  bcast_S_S8x4096x2048 := by decide
  reducesTo_S8x4096x2048_S_d0_1_2 := by decide
  h_S_ := by decide
  bcast_S_S8x4096x512 := by decide
  reducesTo_S8x4096x512_S_d0_1_2 := by decide

namespace Cert.Pre_finite

open Idealize.ShloMosaic Idealize.ShloMosaic.TcCoe

/-- The precondition's bound is a real of at most 2^128. -/
theorem top_real : ∃ y : ℝ, Ideal.ofBits .f32 0x7F7F0000#32 = (y : EReal) ∧ y ≤ (2 : ℝ) ^ (128 : ℤ) := by
  refine ⟨_, by simp [Ideal.ofBits, Ideal.ieee, -EReal.coe_mul]; rfl, ?_⟩
  norm_num

/-- A number whose absolute value is at most the largest bf16 number. -/
theorem fine_of_le {x : EReal} (h : max x (-x) ≤ Ideal.ofBits .f32 0x7F7F0000#32) : ∃ y : ℝ, x = (y : EReal) ∧ |y| ≤ (2 : ℝ) ^ (128 : ℤ) := by
  obtain ⟨z, hz, hb⟩ := top_real
  rw [hz] at h
  have h₁ : x ≤ (z : EReal) := (le_max_left _ _).trans h
  have h₂ : -x ≤ (z : EReal) := (le_max_right _ _).trans h
  induction x with
  | bot => exact absurd h₂ (by simp)
  | top => exact absurd h₁ (by simp)
  | coe r =>
    refine ⟨r, rfl, (abs_le'.2 ⟨EReal.coe_le_coe_iff.1 h₁, ?_⟩).trans hb⟩
    rw [← EReal.coe_neg] at h₂
    exact EReal.coe_le_coe_iff.1 h₂

variable [Facts]

/-- Where the precondition holds, every element of the arguments is a real of at most 2^128. -/
theorem fine (X : Vec Ideal S8x4096x2048 .bf16) (Y Z : Vec Ideal S8x4096x512 .bf16) (h : fn (F := Ideal) X Y Z = fun _ => 1#1) :
    Attn.Fine (s := S8x4096x2048) X ∧ Attn.Fine (s := S8x4096x512) Y ∧ Attn.Fine (s := S8x4096x512) Z := by
  have e := congrFun h ix0
  obtain ⟨e, eZ⟩ := IntOp.andi_eq_one.1 e
  obtain ⟨eX, eY⟩ := IntOp.andi_eq_one.1 e
  have key : ∀ b : Bool, BitVec.ofBool b = 1#1 → b = true := by decide
  refine ⟨fun i => fine_of_le ?_, fun i => fine_of_le ?_, fun i => fine_of_le ?_⟩
  · exact of_decide_eq_true (key _ (Host.reduce_andi_all _ _ _ _ _ eX i))
  · exact of_decide_eq_true (key _ (Host.reduce_andi_all _ _ _ _ _ eY i))
  · exact of_decide_eq_true (key _ (Host.reduce_andi_all _ _ _ _ _ eZ i))

end Cert.Pre_finite

end
-- ==== Proof.lean ====
/-
  The claim: the kernel, its ideal form and the reference run and keep their arguments, the
  ideal form differs from the kernel in the named constants alone, and over the extended reals the
  ideal form and the reference leave the same seven results.
-/
module

public import proofs.«01_k».proof.Defs
public import proofs.«01_k».proof.Proof.Frames
public import proofs.«01_k».proof.Proof.Gen.ReferenceIdeal.Frame
public import proofs.«01_k».proof.Proof.KernelValue
public import proofs.«01_k».proof.Proof.RefFinal
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Each named constant stands for the value its table gives. -/
theorem preserves : Cert.preserves_Kernel_KernelIdeal :=
  ⟨IdealRules.named_const.statement _ "gain" .f32 _ _ rfl, IdealRules.named_const.statement _ "shift" .f32 _ _ rfl,
    IdealRules.named_const.statement _ "mask" .f32 _ _ rfl⟩

/-- From finite arguments the kernel's ideal form and the reference leave the same seven arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  obtain ⟨fq, fk, fv⟩ := @Cert.Pre_finite.fine Cert.Pre_finite.facts _ _ _ (hpre 0)
  have hq : Cert.ReferenceIdeal.Gen.aQ (Cert.ReferenceIdeal.Gen.W₀ m') = Cert.KernelIdeal.Gen.argQ m 0 := funext fun i => congrFun (hagree 0).1 i
  have hk : Cert.ReferenceIdeal.Gen.aK (Cert.ReferenceIdeal.Gen.W₀ m') = Cert.KernelIdeal.Gen.argK m 0 := funext fun i => congrFun (hagree 0).2.1 i
  have hv : Cert.ReferenceIdeal.Gen.aV (Cert.ReferenceIdeal.Gen.W₀ m') = Cert.KernelIdeal.Gen.argV m 0 := funext fun i => congrFun (hagree 0).2.2 i
  have hK := Cert.KernelIdeal.Gen.finals m g fq fk fv
  have hR := Cert.ReferenceIdeal.Gen.finals m' g' (by rw [hv]; exact fv)
  rw [hq, hk, hv] at hR
  refine ⟨fun _ => Attn.yOut (Cert.KernelIdeal.Gen.argQ m 0) (Cert.KernelIdeal.Gen.argK m 0) (Cert.KernelIdeal.Gen.argV m 0),
    fun _ => Attn.qOut (Cert.KernelIdeal.Gen.argQ m 0), fun _ => Attn.qScaleOut (Cert.KernelIdeal.Gen.argQ m 0),
    fun _ => Attn.kOut (Cert.KernelIdeal.Gen.argK m 0), fun _ => Attn.kScaleOut (Cert.KernelIdeal.Gen.argK m 0),
    fun _ => Attn.kOut (Cert.KernelIdeal.Gen.argV m 0), fun _ => Attn.kScaleOut (Cert.KernelIdeal.Gen.argV m 0), ?_, ?_⟩
  · refine θ_run_mono hK fun r h c => ?_
    obtain rfl : c = 0 := Subsingleton.elim _ _
    exact ⟨h.1.1, h.1.2.1, h.1.2.2.1, h.1.2.2.2.1, h.1.2.2.2.2.1, h.1.2.2.2.2.2.1, h.1.2.2.2.2.2.2, (h.2.1 0).1, (h.2.1 0).2.1, (h.2.1 0).2.2⟩
  · refine θ_run_mono (θ_run_and hR (Cert.ReferenceIdeal.Gen.unchanged m' g')) fun r h c => ?_
    obtain rfl : c = 0 := Subsingleton.elim _ _
    exact ⟨h.1.1, h.1.2.1, h.1.2.2.1, h.1.2.2.2.1, h.1.2.2.2.2.1, h.1.2.2.2.2.2.1, h.1.2.2.2.2.2.2, (h.2 0).1, (h.2 0).2.1, (h.2 0).2.2⟩

/-- Everything claimed: the three programs run, the constants are as named, the seven results agree. -/
theorem claim : Cert.Claim := ⟨Cert.Kernel.Gen.facts, Cert.KernelIdeal.Gen.facts, Cert.ReferenceIdeal.Gen.facts, Cert.Pre_finite.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, preserves, algebraic⟩

end Cert.Proof

end
